-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_slack_first [hPre_slack_first : Cert.Pre_slack_first.Facts] (m : (ℓ : Loc Cert.KernelIdeal.nD Cert.KernelIdeal.τ Cert.KernelIdeal.sig) → Buf (Elt Ideal) ℓ) : Prop :=
  ∀ c : Dev Cert.KernelIdeal.nD,
    (Cert.Pre_slack_first.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slack_first [hPre_slack_first : Cert.Pre_slack_first.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slack_first.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_slack_first [hKernelIdeal : Cert.KernelIdeal.Facts] [hPre_slack_first : Cert.Pre_slack_first.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slack_first m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_slack_first [hReferenceIdeal : Cert.ReferenceIdeal.Facts] [hPre_slack_first : Cert.Pre_slack_first.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slack_first m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_slack_first [hKernelIdeal : Cert.KernelIdeal.Facts] [hReferenceIdeal : Cert.ReferenceIdeal.Facts] [hPre_slack_first : Cert.Pre_slack_first.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slack_first m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_slack_first : Cert.Pre_slack_first.Facts),
    quiescent_Kernel (hKernel := hKernel)
    ∧ quiescent_KernelIdeal (hKernelIdeal := hKernelIdeal)
    ∧ quiescent_KernelIdeal_pre_slack_first (hKernelIdeal := hKernelIdeal) (hPre_slack_first := hPre_slack_first)
    ∧ quiescent_ReferenceIdeal (hReferenceIdeal := hReferenceIdeal)
    ∧ quiescent_ReferenceIdeal_pre_slack_first (hReferenceIdeal := hReferenceIdeal) (hPre_slack_first := hPre_slack_first)
    ∧ preserves_Kernel_KernelIdeal
    ∧ algebraic_KernelIdeal_ReferenceIdeal_pre_slack_first (hKernelIdeal := hKernelIdeal) (hReferenceIdeal := hReferenceIdeal) (hPre_slack_first := hPre_slack_first)
-- ==== Pre_slack_first.lean ====
abbrev S8192x3 : Shape := ⟨2, ![8192, 3]⟩
abbrev S8192x4 : Shape := ⟨2, ![8192, 4]⟩
abbrev S8372232 : Shape := ⟨1, ![8372232]⟩
abbrev S9 : Shape := ⟨1, ![9]⟩
abbrev S8 : Shape := ⟨1, ![8]⟩
abbrev S3 : Shape := ⟨1, ![3]⟩
abbrev S4 : Shape := ⟨1, ![4]⟩
abbrev S_ : Shape := ⟨0, ![]⟩
abbrev S8x1 : Shape := ⟨2, ![8, 1]⟩
abbrev S1x3 : Shape := ⟨2, ![1, 3]⟩
abbrev S8x3 : Shape := ⟨2, ![8, 3]⟩

class Facts : Prop where
  bcast_S_S3 : S_.BroadcastsInDim S3 (![] : Fin 0 → Fin S3.rank)
  bcast_S_S8 : S_.BroadcastsInDim S8 (![] : Fin 0 → Fin S8.rank)
  bcast_S8_S8x1_0 : S8.BroadcastsInDim S8x1 (![0] : Fin 1 → Fin S8x1.rank)
  bcast_S3_S1x3_1 : S3.BroadcastsInDim S1x3 (![1] : Fin 1 → Fin S1x3.rank)
  bcast_S8x1_S8x3_0_1 : S8x1.BroadcastsInDim S8x3 (![0, 1] : Fin 2 → Fin S8x3.rank)
  bcast_S1x3_S8x3_0_1 : S1x3.BroadcastsInDim S8x3 (![0, 1] : Fin 2 → Fin S8x3.rank)

variable [Facts]

def fn_part1 {F : FTy → Type} [FloatOps F] (main_arg5 : IVec S8 32) (main_v15 : IVec S3 1) (main_v16 : IVec S8 32) : IVec S8x3 1 :=
  let main_v17 : IVec S8 1 := cmpi .eq main_arg5 main_v16
  let main_v18 : IVec S8x1 1 := broadcastInDim S8x1 ![0] bcast_S8_S8x1_0 main_v17
  let main_v19 : IVec S1x3 1 := broadcastInDim S1x3 ![1] bcast_S3_S1x3_1 main_v15
  let main_v20 : IVec S8x3 1 := broadcastInDim S8x3 ![0, 1] bcast_S8x1_S8x3_0_1 main_v18
  let main_v21 : IVec S8x3 1 := broadcastInDim S8x3 ![0, 1] bcast_S1x3_S8x3_0_1 main_v19
  let main_v22 : IVec S8x3 1 := andi main_v20 main_v21
  main_v22

def fn {F : FTy → Type} [FloatOps F] (main_arg0 : FVec F S8192x3 .f32) (main_arg1 : FVec F S8192x4 .f32) (main_arg2 : FVec F S8372232 .f32) (main_arg3 : FVec F S8372232 .f32) (main_arg4 : IVec S9 32) (main_arg5 : IVec S8 32) (main_arg6 : FVec F S8 .f32) (main_arg7 : FVec F S3 .f32) (main_arg8 : FVec F S3 .f32) (main_arg9 : FVec F S4 .f32) (main_arg10 : FVec F S4 .f32) : IVec S8x3 1 :=
  let main_cst : FVec F S_ .f32 := constant S_ .f32 0x358637BD#32
  let main_v0 : FVec F S3 .f32 := broadcastInDim S3 ![] bcast_S_S3 main_cst
  let main_v1 : FVec F S3 .f32 := addf main_arg7 main_v0
  let main_cst_0 : FVec F S_ .f32 := constant S_ .f32 0x00000000#32
  let main_v2 : FVec F S3 .f32 := broadcastInDim S3 ![] bcast_S_S3 main_cst_0
  let main_v3 : IVec S3 1 := cmpf .une main_v1 main_v2
  let main_cst_1 : FVec F S_ .f32 := constant S_ .f32 0xFF800000#32
  let main_v4 : FVec F S3 .f32 := broadcastInDim S3 ![] bcast_S_S3 main_cst_1
  let main_v5 : IVec S3 1 := cmpf .ogt main_arg7 main_v4
  let main_v6 : IVec S3 1 := andi main_v3 main_v5
  let main_cst_2 : FVec F S_ .f32 := constant S_ .f32 0x7F800000#32
  let main_v7 : FVec F S3 .f32 := broadcastInDim S3 ![] bcast_S_S3 main_cst_2
  let main_v8 : IVec S3 1 := cmpf .olt main_arg7 main_v7
  let main_v9 : IVec S3 1 := andi main_v6 main_v8
  let main_cst_3 : FVec F S_ .f32 := constant S_ .f32 0xFF800000#32
  let main_v10 : FVec F S3 .f32 := broadcastInDim S3 ![] bcast_S_S3 main_cst_3
  let main_v11 : IVec S3 1 := cmpf .ogt main_arg8 main_v10
  let main_v12 : IVec S3 1 := andi main_v9 main_v11
  let main_cst_4 : FVec F S_ .f32 := constant S_ .f32 0x7F800000#32
  let main_v13 : FVec F S3 .f32 := broadcastInDim S3 ![] bcast_S_S3 main_cst_4
  let main_v14 : IVec S3 1 := cmpf .olt main_arg8 main_v13
  let main_v15 : IVec S3 1 := andi main_v12 main_v14
  let main_c : IVec S_ 32 := constantI S_ 32 0#32
  let main_v16 : IVec S8 32 := broadcastInDim S8 ![] bcast_S_S8 main_c
  fn_part1 (F := F) main_arg5 main_v15 main_v16
-- ==== Kernel.lean ====
abbrev S8192x3 : Shape := ⟨2, ![8192, 3]⟩
abbrev S8192x4 : Shape := ⟨2, ![8192, 4]⟩
abbrev S8372232 : Shape := ⟨1, ![8372232]⟩
abbrev S9 : Shape := ⟨1, ![9]⟩
abbrev S8 : Shape := ⟨1, ![8]⟩
abbrev S3 : Shape := ⟨1, ![3]⟩
abbrev S4 : Shape := ⟨1, ![4]⟩
abbrev S8x1024x4 : Shape := ⟨3, ![8, 1024, 4]⟩
abbrev S8x1024x3 : Shape := ⟨3, ![8, 1024, 3]⟩
abbrev S_ : Shape := ⟨0, ![]⟩
abbrev S8388608 : Shape := ⟨1, ![8388608]⟩
abbrev S8192x1024 : Shape := ⟨2, ![8192, 1024]⟩
abbrev S8x1023x1 : Shape := ⟨3, ![8, 1023, 1]⟩
abbrev S8x1023 : Shape := ⟨2, ![8, 1023]⟩
abbrev S8x1x1023 : Shape := ⟨3, ![8, 1, 1023]⟩
abbrev S8x2x1023 : Shape := ⟨3, ![8, 2, 1023]⟩
abbrev S8x2x1024 : Shape := ⟨3, ![8, 2, 1024]⟩
abbrev S1x2x1024 : Shape := ⟨3, ![1, 2, 1024]⟩
abbrev S2x1024 : Shape := ⟨2, ![2, 1024]⟩
abbrev S2x0 : Shape := ⟨2, ![2, 0]⟩
abbrev S2x1 : Shape := ⟨2, ![2, 1]⟩
abbrev S2x1023 : Shape := ⟨2, ![2, 1023]⟩
abbrev S2x2 : Shape := ⟨2, ![2, 2]⟩
abbrev S2x1022 : Shape := ⟨2, ![2, 1022]⟩
abbrev S2x3 : Shape := ⟨2, ![2, 3]⟩
abbrev S2x1021 : Shape := ⟨2, ![2, 1021]⟩
abbrev S2x4 : Shape := ⟨2, ![2, 4]⟩
abbrev S2x1020 : Shape := ⟨2, ![2, 1020]⟩
abbrev S2x5 : Shape := ⟨2, ![2, 5]⟩
abbrev S2x1019 : Shape := ⟨2, ![2, 1019]⟩
abbrev S2x6 : Shape := ⟨2, ![2, 6]⟩
abbrev S2x1018 : Shape := ⟨2, ![2, 1018]⟩
abbrev S2x7 : Shape := ⟨2, ![2, 7]⟩
abbrev S2x1017 : Shape := ⟨2, ![2, 1017]⟩
abbrev S8x1024 : Shape := ⟨2, ![8, 1024]⟩
abbrev S8x8x128 : Shape := ⟨3, ![8, 8, 128]⟩
abbrev S1 : Shape := ⟨1, ![1]⟩
abbrev S6 : Shape := ⟨1, ![6]⟩
abbrev S8x1x1 : Shape := ⟨3, ![8, 1, 1]⟩
abbrev S8x1 : Shape := ⟨2, ![8, 1]⟩
abbrev S8192x1 : Shape := ⟨2, ![8192, 1]⟩
abbrev S8192x2 : Shape := ⟨2, ![8192, 2]⟩
abbrev S1x8x128 : Shape := ⟨3, ![1, 8, 128]⟩
abbrev S2x1040x1024 : Shape := ⟨3, ![2, 1040, 1024]⟩
abbrev S1x1 : Shape := ⟨2, ![1, 1]⟩
abbrev S1x1040x1024 : Shape := ⟨3, ![1, 1040, 1024]⟩
abbrev S1040x1024 : Shape := ⟨2, ![1040, 1024]⟩
abbrev S1x1024 : Shape := ⟨2, ![1, 1024]⟩
abbrev S1x1x1024 : Shape := ⟨3, ![1, 1, 1024]⟩
abbrev S1x1023 : Shape := ⟨2, ![1, 1023]⟩
abbrev S1x1022 : Shape := ⟨2, ![1, 1022]⟩
abbrev S1x2 : Shape := ⟨2, ![1, 2]⟩
abbrev S1x1021 : Shape := ⟨2, ![1, 1021]⟩
abbrev S1x3 : Shape := ⟨2, ![1, 3]⟩
abbrev S1x1020 : Shape := ⟨2, ![1, 1020]⟩
abbrev S1x4 : Shape := ⟨2, ![1, 4]⟩
abbrev S1x1019 : Shape := ⟨2, ![1, 1019]⟩
abbrev S1x5 : Shape := ⟨2, ![1, 5]⟩
abbrev S1x1018 : Shape := ⟨2, ![1, 1018]⟩
abbrev S1x6 : Shape := ⟨2, ![1, 6]⟩
abbrev S1x1017 : Shape := ⟨2, ![1, 1017]⟩
abbrev S1x7 : Shape := ⟨2, ![1, 7]⟩
abbrev S8x1016 : Shape := ⟨2, ![8, 1016]⟩
abbrev S8x8 : Shape := ⟨2, ![8, 8]⟩
abbrev S16x1024 : Shape := ⟨2, ![16, 1024]⟩
abbrev S16x1008 : Shape := ⟨2, ![16, 1008]⟩
abbrev S16x16 : Shape := ⟨2, ![16, 16]⟩
abbrev S32x1024 : Shape := ⟨2, ![32, 1024]⟩
abbrev S32x992 : Shape := ⟨2, ![32, 992]⟩
abbrev S32x32 : Shape := ⟨2, ![32, 32]⟩
abbrev S64x1024 : Shape := ⟨2, ![64, 1024]⟩
abbrev S64x960 : Shape := ⟨2, ![64, 960]⟩
abbrev S64x64 : Shape := ⟨2, ![64, 64]⟩
abbrev S128x1024 : Shape := ⟨2, ![128, 1024]⟩
abbrev S1x144x1024 : Shape := ⟨3, ![1, 144, 1024]⟩
abbrev S144x1024 : Shape := ⟨2, ![144, 1024]⟩
abbrev S128 : Shape := ⟨1, ![128]⟩
abbrev S1x1x128 : Shape := ⟨3, ![1, 1, 128]⟩
abbrev S128x896 : Shape := ⟨2, ![128, 896]⟩
abbrev S128x128 : Shape := ⟨2, ![128, 128]⟩
abbrev S128x768 : Shape := ⟨2, ![128, 768]⟩
abbrev S128x256 : Shape := ⟨2, ![128, 256]⟩
abbrev S128x640 : Shape := ⟨2, ![128, 640]⟩
abbrev S128x384 : Shape := ⟨2, ![128, 384]⟩
abbrev S128x512 : Shape := ⟨2, ![128, 512]⟩

abbrev nBuf : Space → Nat
  | .hbm => 114
  | .vmem => 8
  | .smem => 2
  | _ => 0

abbrev bufTy : (tb : Table) → Fin (tcTables nBuf tb) → BufTy
  | .hbm, ⟨0, _⟩ => ⟨S8192x3, .f32⟩
  | .hbm, ⟨1, _⟩ => ⟨S8192x4, .f32⟩
  | .hbm, ⟨2, _⟩ => ⟨S8372232, .f32⟩
  | .hbm, ⟨3, _⟩ => ⟨S8372232, .f32⟩
  | .hbm, ⟨4, _⟩ => ⟨S9, .i32⟩
  | .hbm, ⟨5, _⟩ => ⟨S8, .i32⟩
  | .hbm, ⟨6, _⟩ => ⟨S8, .f32⟩
  | .hbm, ⟨7, _⟩ => ⟨S3, .f32⟩
  | .hbm, ⟨8, _⟩ => ⟨S3, .f32⟩
  | .hbm, ⟨9, _⟩ => ⟨S4, .f32⟩
  | .hbm, ⟨10, _⟩ => ⟨S4, .f32⟩
  | .hbm, ⟨11, _⟩ => ⟨S8x1024x4, .f32⟩
  | .hbm, ⟨12, _⟩ => ⟨S8x1024x3, .f32⟩
  | .hbm, ⟨13, _⟩ => ⟨S_, .i32⟩
  | .hbm, ⟨14, _⟩ => ⟨S_, .f32⟩
  | .hbm, ⟨15, _⟩ => ⟨S8388608, .f32⟩
  | .hbm, ⟨16, _⟩ => ⟨S8192x1024, .f32⟩
  | .hbm, ⟨17, _⟩ => ⟨S_, .i32⟩
  | .hbm, ⟨18, _⟩ => ⟨S_, .f32⟩
  | .hbm, ⟨19, _⟩ => ⟨S8388608, .f32⟩
  | .hbm, ⟨20, _⟩ => ⟨S8192x1024, .f32⟩
  | .hbm, ⟨21, _⟩ => ⟨S8x1023x1, .f32⟩
  | .hbm, ⟨22, _⟩ => ⟨S8x1023, .f32⟩
  | .hbm, ⟨23, _⟩ => ⟨S8x1023x1, .f32⟩
  | .hbm, ⟨24, _⟩ => ⟨S8x1023, .f32⟩
  | .hbm, ⟨25, _⟩ => ⟨S8x1x1023, .f32⟩
  | .hbm, ⟨26, _⟩ => ⟨S8x1x1023, .f32⟩
  | .hbm, ⟨27, _⟩ => ⟨S8x2x1023, .f32⟩
  | .hbm, ⟨28, _⟩ => ⟨S_, .i32⟩
  | .hbm, ⟨29, _⟩ => ⟨S_, .f32⟩
  | .hbm, ⟨30, _⟩ => ⟨S8x2x1024, .f32⟩
  | .hbm, ⟨31, _⟩ => ⟨S1x2x1024, .f32⟩
  | .hbm, ⟨32, _⟩ => ⟨S2x1024, .f32⟩
  | .hbm, ⟨33, _⟩ => ⟨S2x1024, .f32⟩
  | .hbm, ⟨34, _⟩ => ⟨S2x0, .f32⟩
  | .hbm, ⟨35, _⟩ => ⟨S2x1024, .f32⟩
  | .hbm, ⟨36, _⟩ => ⟨S1x2x1024, .f32⟩
  | .hbm, ⟨37, _⟩ => ⟨S2x1024, .f32⟩
  | .hbm, ⟨38, _⟩ => ⟨S2x1, .f32⟩
  | .hbm, ⟨39, _⟩ => ⟨S2x1023, .f32⟩
  | .hbm, ⟨40, _⟩ => ⟨S2x1024, .f32⟩
  | .hbm, ⟨41, _⟩ => ⟨S1x2x1024, .f32⟩
  | .hbm, ⟨42, _⟩ => ⟨S2x1024, .f32⟩
  | .hbm, ⟨43, _⟩ => ⟨S2x2, .f32⟩
  | .hbm, ⟨44, _⟩ => ⟨S2x1022, .f32⟩
  | .hbm, ⟨45, _⟩ => ⟨S2x1024, .f32⟩
  | .hbm, ⟨46, _⟩ => ⟨S1x2x1024, .f32⟩
  | .hbm, ⟨47, _⟩ => ⟨S2x1024, .f32⟩
  | .hbm, ⟨48, _⟩ => ⟨S2x3, .f32⟩
  | .hbm, ⟨49, _⟩ => ⟨S2x1021, .f32⟩
  | .hbm, ⟨50, _⟩ => ⟨S2x1024, .f32⟩
  | .hbm, ⟨51, _⟩ => ⟨S1x2x1024, .f32⟩
  | .hbm, ⟨52, _⟩ => ⟨S2x1024, .f32⟩
  | .hbm, ⟨53, _⟩ => ⟨S2x4, .f32⟩
  | .hbm, ⟨54, _⟩ => ⟨S2x1020, .f32⟩
  | .hbm, ⟨55, _⟩ => ⟨S2x1024, .f32⟩
  | .hbm, ⟨56, _⟩ => ⟨S1x2x1024, .f32⟩
  | .hbm, ⟨57, _⟩ => ⟨S2x1024, .f32⟩
  | .hbm, ⟨58, _⟩ => ⟨S2x5, .f32⟩
  | .hbm, ⟨59, _⟩ => ⟨S2x1019, .f32⟩
  | .hbm, ⟨60, _⟩ => ⟨S2x1024, .f32⟩
  | .hbm, ⟨61, _⟩ => ⟨S1x2x1024, .f32⟩
  | .hbm, ⟨62, _⟩ => ⟨S2x1024, .f32⟩
  | .hbm, ⟨63, _⟩ => ⟨S2x6, .f32⟩
  | .hbm, ⟨64, _⟩ => ⟨S2x1018, .f32⟩
  | .hbm, ⟨65, _⟩ => ⟨S2x1024, .f32⟩
  | .hbm, ⟨66, _⟩ => ⟨S1x2x1024, .f32⟩
  | .hbm, ⟨67, _⟩ => ⟨S2x1024, .f32⟩
  | .hbm, ⟨68, _⟩ => ⟨S2x7, .f32⟩
  | .hbm, ⟨69, _⟩ => ⟨S2x1017, .f32⟩
  | .hbm, ⟨70, _⟩ => ⟨S2x1024, .f32⟩
  | .hbm, ⟨71, _⟩ => ⟨S1x2x1024, .f32⟩
  | .hbm, ⟨72, _⟩ => ⟨S1x2x1024, .f32⟩
  | .hbm, ⟨73, _⟩ => ⟨S1x2x1024, .f32⟩
  | .hbm, ⟨74, _⟩ => ⟨S1x2x1024, .f32⟩
  | .hbm, ⟨75, _⟩ => ⟨S1x2x1024, .f32⟩
  | .hbm, ⟨76, _⟩ => ⟨S1x2x1024, .f32⟩
  | .hbm, ⟨77, _⟩ => ⟨S1x2x1024, .f32⟩
  | .hbm, ⟨78, _⟩ => ⟨S1x2x1024, .f32⟩
  | .hbm, ⟨79, _⟩ => ⟨S8x2x1024, .f32⟩
  | .hbm, ⟨80, _⟩ => ⟨S8x1023x1, .f32⟩
  | .hbm, ⟨81, _⟩ => ⟨S8x1023, .f32⟩
  | .hbm, ⟨82, _⟩ => ⟨S_, .i32⟩
  | .hbm, ⟨83, _⟩ => ⟨S_, .f32⟩
  | .hbm, ⟨84, _⟩ => ⟨S8x1024, .f32⟩
  | .hbm, ⟨85, _⟩ => ⟨S8x8x128, .f32⟩
  | .hbm, ⟨86, _⟩ => ⟨S1, .f32⟩
  | .hbm, ⟨87, _⟩ => ⟨S_, .f32⟩
  | .hbm, ⟨88, _⟩ => ⟨S1, .f32⟩
  | .hbm, ⟨89, _⟩ => ⟨S_, .f32⟩
  | .hbm, ⟨90, _⟩ => ⟨S1, .f32⟩
  | .hbm, ⟨91, _⟩ => ⟨S_, .f32⟩
  | .hbm, ⟨92, _⟩ => ⟨S1, .f32⟩
  | .hbm, ⟨93, _⟩ => ⟨S_, .f32⟩
  | .hbm, ⟨94, _⟩ => ⟨S1, .f32⟩
  | .hbm, ⟨95, _⟩ => ⟨S_, .f32⟩
  | .hbm, ⟨96, _⟩ => ⟨S1, .f32⟩
  | .hbm, ⟨97, _⟩ => ⟨S_, .f32⟩
  | .hbm, ⟨98, _⟩ => ⟨S1, .f32⟩
  | .hbm, ⟨99, _⟩ => ⟨S1, .f32⟩
  | .hbm, ⟨100, _⟩ => ⟨S1, .f32⟩
  | .hbm, ⟨101, _⟩ => ⟨S1, .f32⟩
  | .hbm, ⟨102, _⟩ => ⟨S1, .f32⟩
  | .hbm, ⟨103, _⟩ => ⟨S1, .f32⟩
  | .hbm, ⟨104, _⟩ => ⟨S6, .f32⟩
  | .hbm, ⟨105, _⟩ => ⟨S8x8x128, .f32⟩
  | .hbm, ⟨106, _⟩ => ⟨S8x1x1, .f32⟩
  | .hbm, ⟨107, _⟩ => ⟨S8x1, .f32⟩
  | .hbm, ⟨108, _⟩ => ⟨S8x1024, .f32⟩
  | .hbm, ⟨109, _⟩ => ⟨S8x1023, .f32⟩
  | .hbm, ⟨110, _⟩ => ⟨S8x1024, .f32⟩
  | .hbm, ⟨111, _⟩ => ⟨S8192x1, .f32⟩
  | .hbm, ⟨112, _⟩ => ⟨S8192x2, .f32⟩
  | .hbm, ⟨113, _⟩ => ⟨S8192x3, .f32⟩
  | .local _ .vmem, ⟨0, _⟩ => ⟨S1x2x1024, .f32⟩
  | .local _ .vmem, ⟨1, _⟩ => ⟨S1x2x1024, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S2x1040x1024, .f32⟩
  | .local _ .vmem, ⟨7, _⟩ => ⟨S2x1040x1024, .f32⟩
  | .local _ .smem, ⟨0, _⟩ => ⟨S6, .f32⟩
  | .local _ .smem, ⟨1, _⟩ => ⟨S8, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_c : Ref sig .tc := ⟨.hbm, 13, rfl⟩
abbrev main_call0_call0_v0 : Ref sig .tc := ⟨.hbm, 14, rfl⟩
abbrev main_call0_v2 : Ref sig .tc := ⟨.hbm, 15, rfl⟩
abbrev main_call0_v3 : Ref sig .tc := ⟨.hbm, 16, rfl⟩
abbrev main_call0_c_0 : Ref sig .tc := ⟨.hbm, 17, rfl⟩
abbrev main_call0_call1_v0 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_c_1 : Ref sig .tc := ⟨.hbm, 28, rfl⟩
abbrev main_call0_call2_v0 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_call3_v0 : Ref sig .tc := ⟨.hbm, 33, rfl⟩
abbrev main_call0_call3_v1 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_call4_v0 : Ref sig .tc := ⟨.hbm, 38, rfl⟩
abbrev main_call0_call4_v1 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_call0_call5_v0 : Ref sig .tc := ⟨.hbm, 43, rfl⟩
abbrev main_call0_call5_v1 : Ref sig .tc := ⟨.hbm, 44, rfl⟩
abbrev main_call0_v22 : Ref sig .tc := ⟨.hbm, 45, rfl⟩
abbrev main_call0_v23 : Ref sig .tc := ⟨.hbm, 46, rfl⟩
abbrev main_call0_v24 : Ref sig .tc := ⟨.hbm, 47, rfl⟩
abbrev main_call0_call6_v0 : Ref sig .tc := ⟨.hbm, 48, rfl⟩
abbrev main_call0_call6_v1 : Ref sig .tc := ⟨.hbm, 49, rfl⟩
abbrev main_call0_v25 : Ref sig .tc := ⟨.hbm, 50, rfl⟩
abbrev main_call0_v26 : Ref sig .tc := ⟨.hbm, 51, rfl⟩
abbrev main_call0_v27 : Ref sig .tc := ⟨.hbm, 52, rfl⟩
abbrev main_call0_call7_v0 : Ref sig .tc := ⟨.hbm, 53, rfl⟩
abbrev main_call0_call7_v1 : Ref sig .tc := ⟨.hbm, 54, rfl⟩
abbrev main_call0_v28 : Ref sig .tc := ⟨.hbm, 55, rfl⟩
abbrev main_call0_v29 : Ref sig .tc := ⟨.hbm, 56, rfl⟩
abbrev main_call0_v30 : Ref sig .tc := ⟨.hbm, 57, rfl⟩
abbrev main_call0_call8_v0 : Ref sig .tc := ⟨.hbm, 58, rfl⟩
abbrev main_call0_call8_v1 : Ref sig .tc := ⟨.hbm, 59, rfl⟩
abbrev main_call0_v31 : Ref sig .tc := ⟨.hbm, 60, rfl⟩
abbrev main_call0_v32 : Ref sig .tc := ⟨.hbm, 61, rfl⟩
abbrev main_call0_v33 : Ref sig .tc := ⟨.hbm, 62, rfl⟩
abbrev main_call0_call9_v0 : Ref sig .tc := ⟨.hbm, 63, rfl⟩
abbrev main_call0_call9_v1 : Ref sig .tc := ⟨.hbm, 64, rfl⟩
abbrev main_call0_v34 : Ref sig .tc := ⟨.hbm, 65, rfl⟩
abbrev main_call0_v35 : Ref sig .tc := ⟨.hbm, 66, rfl⟩
abbrev main_call0_v36 : Ref sig .tc := ⟨.hbm, 67, rfl⟩
abbrev main_call0_call10_v0 : Ref sig .tc := ⟨.hbm, 68, rfl⟩
abbrev main_call0_call10_v1 : Ref sig .tc := ⟨.hbm, 69, rfl⟩
abbrev main_call0_v37 : Ref sig .tc := ⟨.hbm, 70, rfl⟩
abbrev main_call0_v38 : Ref sig .tc := ⟨.hbm, 71, rfl⟩
abbrev main_call0_v39 : Ref sig .tc := ⟨.hbm, 72, rfl⟩
abbrev main_call0_v40 : Ref sig .tc := ⟨.hbm, 73, rfl⟩
abbrev main_call0_v41 : Ref sig .tc := ⟨.hbm, 74, rfl⟩
abbrev main_call0_v42 : Ref sig .tc := ⟨.hbm, 75, rfl⟩
abbrev main_call0_v43 : Ref sig .tc := ⟨.hbm, 76, rfl⟩
abbrev main_call0_v44 : Ref sig .tc := ⟨.hbm, 77, rfl⟩
abbrev main_call0_v45 : Ref sig .tc := ⟨.hbm, 78, rfl⟩
abbrev main_call0_v46 : Ref sig .tc := ⟨.hbm, 79, rfl⟩
abbrev main_call0_v47 : Ref sig .tc := ⟨.hbm, 80, rfl⟩
abbrev main_call0_v48 : Ref sig .tc := ⟨.hbm, 81, rfl⟩
abbrev main_call0_c_2 : Ref sig .tc := ⟨.hbm, 82, rfl⟩
abbrev main_call0_call11_v0 : Ref sig .tc := ⟨.hbm, 83, rfl⟩
abbrev main_call0_v49 : Ref sig .tc := ⟨.hbm, 84, rfl⟩
abbrev main_call0_v50 : Ref sig .tc := ⟨.hbm, 85, rfl⟩
abbrev main_call0_v51 : Ref sig .tc := ⟨.hbm, 86, rfl⟩
abbrev main_call0_v52 : Ref sig .tc := ⟨.hbm, 87, rfl⟩
abbrev main_call0_v53 : Ref sig .tc := ⟨.hbm, 88, rfl⟩
abbrev main_call0_v54 : Ref sig .tc := ⟨.hbm, 89, rfl⟩
abbrev main_call0_v55 : Ref sig .tc := ⟨.hbm, 90, rfl⟩
abbrev main_call0_v56 : Ref sig .tc := ⟨.hbm, 91, rfl⟩
abbrev main_call0_v57 : Ref sig .tc := ⟨.hbm, 92, rfl⟩
abbrev main_call0_v58 : Ref sig .tc := ⟨.hbm, 93, rfl⟩
abbrev main_call0_v59 : Ref sig .tc := ⟨.hbm, 94, rfl⟩
abbrev main_call0_v60 : Ref sig .tc := ⟨.hbm, 95, rfl⟩
abbrev main_call0_v61 : Ref sig .tc := ⟨.hbm, 96, rfl⟩
abbrev main_call0_v62 : Ref sig .tc := ⟨.hbm, 97, rfl⟩
abbrev main_call0_v63 : Ref sig .tc := ⟨.hbm, 98, rfl⟩
abbrev main_call0_v64 : Ref sig .tc := ⟨.hbm, 99, rfl⟩
abbrev main_call0_v65 : Ref sig .tc := ⟨.hbm, 100, rfl⟩
abbrev main_call0_v66 : Ref sig .tc := ⟨.hbm, 101, rfl⟩
abbrev main_call0_v67 : Ref sig .tc := ⟨.hbm, 102, rfl⟩
abbrev main_call0_v68 : Ref sig .tc := ⟨.hbm, 103, rfl⟩
abbrev main_call0_v69 : Ref sig .tc := ⟨.hbm, 104, rfl⟩
abbrev main_call0_v70 : Ref sig .tc := ⟨.hbm, 105, rfl⟩
abbrev main_call0_v71 : Ref sig .tc := ⟨.hbm, 106, rfl⟩
abbrev main_call0_v72 : Ref sig .tc := ⟨.hbm, 107, rfl⟩
abbrev main_call0_v73 : Ref sig .tc := ⟨.hbm, 108, rfl⟩
abbrev main_call0_v74 : Ref sig .tc := ⟨.hbm, 109, rfl⟩
abbrev main_call0_v75 : Ref sig .tc := ⟨.hbm, 110, rfl⟩
abbrev main_call0_v76 : Ref sig .tc := ⟨.hbm, 111, rfl⟩
abbrev main_call0_v77 : Ref sig .tc := ⟨.hbm, 112, rfl⟩
abbrev main_v0 : Ref sig .tc := ⟨.hbm, 113, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 : BitVec 32 :=
  let c0_i32_233 : BitVec 32 := 0#32
  c0_i32_233
def k0_mult2 : BitVec 32 :=
  let c0_i32_240 : BitVec 32 := 0#32
  c0_i32_240
def k0_cond2 (i : grid0.Coords) : BitVec 1 :=
  let arg0 : BitVec 32 := BitVec.ofNat 32 (i 0).val
  let c1_i32 : BitVec 32 := 1#32
  let v4 : BitVec 32 := Scalar.addi arg0 c1_i32
  let c8_i32 : BitVec 32 := 8#32
  let v5 : BitVec 1 := Scalar.cmpi .slt v4 c8_i32
  let v6 : BitVec 32 := Scalar.extui v5
  let c0_i32_1 : BitVec 32 := 0#32
  let v7 : BitVec 1 := Scalar.cmpi .ne v6 c0_i32_1
  v7

def k0_mult3 (i : grid0.Coords) : BitVec 32 :=
  let arg0 : BitVec 32 := BitVec.ofNat 32 (i 0).val
  let c1_i32_234 : BitVec 32 := 1#32
  let v794 : BitVec 32 := Scalar.addi arg0 c1_i32_234
  let c1022_i32_235 : BitVec 32 := 1022#32
  let v795 : BitVec 32 := Scalar.muli v794 c1022_i32_235
  let c0_i32_237 : BitVec 32 := 0#32
  let v797 : BitVec 1 := Scalar.cmpi .sgt v795 c0_i32_237
  let v798 : BitVec 32 := Scalar.extui v797
  let c0_i32_238 : BitVec 32 := 0#32
  let v799 : BitVec 1 := Scalar.cmpi .slt v795 c0_i32_238
  let v800 : BitVec 32 := Scalar.extui v799
  let v801 : BitVec 32 := Scalar.subi v798 v800
  let c8_i32_236 : BitVec 32 := 8#32
  let c0_i32_239 : BitVec 32 := 0#32
  let v802 : BitVec 1 := Scalar.cmpi .sgt c8_i32_236 c0_i32_239
  let v803 : BitVec 32 := Scalar.extui v802
  let c0_i32_240 : BitVec 32 := 0#32
  let v804 : BitVec 1 := Scalar.cmpi .slt c8_i32_236 c0_i32_240
  let v805 : BitVec 32 := Scalar.extui v804
  let v806 : BitVec 32 := Scalar.subi v803 v805
  let v807 : BitVec 1 := Scalar.cmpi .ne v801 v806
  let v808 : BitVec 32 := Scalar.remsi v795 c8_i32_236
  let c0_i32_241 : BitVec 32 := 0#32
  let v809 : BitVec 1 := Scalar.cmpi .ne v808 c0_i32_241
  let v810 : BitVec 1 := Scalar.andi v807 v809
  let v796 : BitVec 32 := Scalar.divsi v795 c8_i32_236
  let c1_i32_242 : BitVec 32 := 1#32
  let v811 : BitVec 32 := Scalar.subi v796 c1_i32_242
  let v812 : BitVec 32 := Scalar.select v810 v811 v796
  let c8_i32_243 : BitVec 32 := 8#32
  let v813 : BitVec 32 := Scalar.muli v812 c8_i32_243
  v813
def k0_off1 (i : grid0.Coords) : Fin 2 → Nat :=
  let c1_i32_233 : BitVec 32 := 1#32
  let arg0 : BitVec 32 := BitVec.ofNat 32 (i 0).val
  let c2_i32 : BitVec 32 := 2#32
  let v0 : BitVec 32 := Scalar.remsi arg0 c2_i32
  let v793 : BitVec 32 := Scalar.subi c1_i32_233 v0
  let c0_i32_244 : BitVec 32 := 0#32
  ![v793.toNat, 0]
def k0_off2 (i : grid0.Coords) : Fin 3 → Nat :=
  let c1_i32_233 : BitVec 32 := 1#32
  let arg0 : BitVec 32 := BitVec.ofNat 32 (i 0).val
  let c2_i32 : BitVec 32 := 2#32
  let v0 : BitVec 32 := Scalar.remsi arg0 c2_i32
  let v793 : BitVec 32 := Scalar.subi c1_i32_233 v0
  let c0_i32_245 : BitVec 32 := 0#32
  let c0_i32_246 : BitVec 32 := 0#32
  ![v793.toNat, 0, 0]
def k0_off3 (i : grid0.Coords) : Fin 2 → Nat :=
  let arg0 : BitVec 32 := BitVec.ofNat 32 (i 0).val
  let c1_i32_234 : BitVec 32 := 1#32
  let v794 : BitVec 32 := Scalar.addi arg0 c1_i32_234
  let c1022_i32_235 : BitVec 32 := 1022#32
  let v795 : BitVec 32 := Scalar.muli v794 c1022_i32_235
  let c0_i32_237 : BitVec 32 := 0#32
  let v797 : BitVec 1 := Scalar.cmpi .sgt v795 c0_i32_237
  let v798 : BitVec 32 := Scalar.extui v797
  let c0_i32_238 : BitVec 32 := 0#32
  let v799 : BitVec 1 := Scalar.cmpi .slt v795 c0_i32_238
  let v800 : BitVec 32 := Scalar.extui v799
  let v801 : BitVec 32 := Scalar.subi v798 v800
  let c8_i32_236 : BitVec 32 := 8#32
  let c0_i32_239 : BitVec 32 := 0#32
  let v802 : BitVec 1 := Scalar.cmpi .sgt c8_i32_236 c0_i32_239
  let v803 : BitVec 32 := Scalar.extui v802
  let c0_i32_240 : BitVec 32 := 0#32
  let v804 : BitVec 1 := Scalar.cmpi .slt c8_i32_236 c0_i32_240
  let v805 : BitVec 32 := Scalar.extui v804
  let v806 : BitVec 32 := Scalar.subi v803 v805
  let v807 : BitVec 1 := Scalar.cmpi .ne v801 v806
  let v808 : BitVec 32 := Scalar.remsi v795 c8_i32_236
  let c0_i32_241 : BitVec 32 := 0#32
  let v809 : BitVec 1 := Scalar.cmpi .ne v808 c0_i32_241
  let v810 : BitVec 1 := Scalar.andi v807 v809
  let v796 : BitVec 32 := Scalar.divsi v795 c8_i32_236
  let c1_i32_242 : BitVec 32 := 1#32
  let v811 : BitVec 32 := Scalar.subi v796 c1_i32_242
  let v812 : BitVec 32 := Scalar.select v810 v811 v796
  let c8_i32_243 : BitVec 32 := 8#32
  let v813 : BitVec 32 := Scalar.muli v812 c8_i32_243
  let v814 : BitVec 32 := v813
  let c0_i32_247 : BitVec 32 := 0#32
  ![v814.toNat, 0]
def k0_mult4 (i : grid0.Coords) : BitVec 32 :=
  let arg0 : BitVec 32 := BitVec.ofNat 32 (i 0).val
  let c1_i32_248 : BitVec 32 := 1#32
  let v820 : BitVec 32 := Scalar.addi arg0 c1_i32_248
  let c1022_i32_249 : BitVec 32 := 1022#32
  let v821 : BitVec 32 := Scalar.muli v820 c1022_i32_249
  let c0_i32_251 : BitVec 32 := 0#32
  let v823 : BitVec 1 := Scalar.cmpi .sgt v821 c0_i32_251
  let v824 : BitVec 32 := Scalar.extui v823
  let c0_i32_252 : BitVec 32 := 0#32
  let v825 : BitVec 1 := Scalar.cmpi .slt v821 c0_i32_252
  let v826 : BitVec 32 := Scalar.extui v825
  let v827 : BitVec 32 := Scalar.subi v824 v826
  let c8_i32_250 : BitVec 32 := 8#32
  let c0_i32_253 : BitVec 32 := 0#32
  let v828 : BitVec 1 := Scalar.cmpi .sgt c8_i32_250 c0_i32_253
  let v829 : BitVec 32 := Scalar.extui v828
  let c0_i32_254 : BitVec 32 := 0#32
  let v830 : BitVec 1 := Scalar.cmpi .slt c8_i32_250 c0_i32_254
  let v831 : BitVec 32 := Scalar.extui v830
  let v832 : BitVec 32 := Scalar.subi v829 v831
  let v833 : BitVec 1 := Scalar.cmpi .ne v827 v832
  let v834 : BitVec 32 := Scalar.remsi v821 c8_i32_250
  let c0_i32_255 : BitVec 32 := 0#32
  let v835 : BitVec 1 := Scalar.cmpi .ne v834 c0_i32_255
  let v836 : BitVec 1 := Scalar.andi v833 v835
  let v822 : BitVec 32 := Scalar.divsi v821 c8_i32_250
  let c1_i32_256 : BitVec 32 := 1#32
  let v837 : BitVec 32 := Scalar.subi v822 c1_i32_256
  let v838 : BitVec 32 := Scalar.select v836 v837 v822
  let c8_i32_257 : BitVec 32 := 8#32
  let v839 : BitVec 32 := Scalar.muli v838 c8_i32_257
  v839
def k0_off4 (i : grid0.Coords) : Fin 2 → Nat :=
  let c1_i32_233 : BitVec 32 := 1#32
  let arg0 : BitVec 32 := BitVec.ofNat 32 (i 0).val
  let c2_i32 : BitVec 32 := 2#32
  let v0 : BitVec 32 := Scalar.remsi arg0 c2_i32
  let v793 : BitVec 32 := Scalar.subi c1_i32_233 v0
  let c1_i32_258 : BitVec 32 := 1#32
  ![v793.toNat, 1]
def k0_mult5 (i : grid0.Coords) : BitVec 32 :=
  let arg0 : BitVec 32 := BitVec.ofNat 32 (i 0).val
  let c1022_i32 : BitVec 32 := 1022#32
  let v8 : BitVec 32 := Scalar.muli arg0 c1022_i32
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32_2 : BitVec 32 := 8#32
  let c0_i32_5 : BitVec 32 := 0#32
  let v15 : BitVec 1 := Scalar.cmpi .sgt c8_i32_2 c0_i32_5
  let v16 : BitVec 32 := Scalar.extui v15
  let c0_i32_6 : BitVec 32 := 0#32
  let v17 : BitVec 1 := Scalar.cmpi .slt c8_i32_2 c0_i32_6
  let v18 : BitVec 32 := Scalar.extui v17
  let v19 : BitVec 32 := Scalar.subi v16 v18
  let v20 : BitVec 1 := Scalar.cmpi .ne v14 v19
  let v21 : BitVec 32 := Scalar.remsi v8 c8_i32_2
  let c0_i32_7 : BitVec 32 := 0#32
  let v22 : BitVec 1 := Scalar.cmpi .ne v21 c0_i32_7
  let v23 : BitVec 1 := Scalar.andi v20 v22
  let v9 : BitVec 32 := Scalar.divsi v8 c8_i32_2
  let c1_i32_8 : BitVec 32 := 1#32
  let v24 : BitVec 32 := Scalar.subi v9 c1_i32_8
  let v25 : BitVec 32 := Scalar.select v23 v24 v9
  let c8_i32_9 : BitVec 32 := 8#32
  let v26 : BitVec 32 := Scalar.muli v25 c8_i32_9
  v26
def k0_off5 (i : grid0.Coords) : Fin 2 → Nat :=
  let arg0 : BitVec 32 := BitVec.ofNat 32 (i 0).val
  let c2_i32 : BitVec 32 := 2#32
  let v0 : BitVec 32 := Scalar.remsi arg0 c2_i32
  let c0_i32_10 : BitVec 32 := 0#32
  ![v0.toNat, 0]
def k0_off6 (i : grid0.Coords) : Fin 3 → Nat :=
  let arg0 : BitVec 32 := BitVec.ofNat 32 (i 0).val
  let c2_i32 : BitVec 32 := 2#32
  let v0 : BitVec 32 := Scalar.remsi arg0 c2_i32
  let c0_i32_11 : BitVec 32 := 0#32
  let c0_i32_12 : BitVec 32 := 0#32
  ![v0.toNat, 0, 0]
def k0_off7 (i : grid0.Coords) : Fin 2 → Nat :=
  let arg0 : BitVec 32 := BitVec.ofNat 32 (i 0).val
  let c1022_i32 : BitVec 32 := 1022#32
  let v8 : BitVec 32 := Scalar.muli arg0 c1022_i32
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32_2 : BitVec 32 := 8#32
  let c0_i32_5 : BitVec 32 := 0#32
  let v15 : BitVec 1 := Scalar.cmpi .sgt c8_i32_2 c0_i32_5
  let v16 : BitVec 32 := Scalar.extui v15
  let c0_i32_6 : BitVec 32 := 0#32
  let v17 : BitVec 1 := Scalar.cmpi .slt c8_i32_2 c0_i32_6
  let v18 : BitVec 32 := Scalar.extui v17
  let v19 : BitVec 32 := Scalar.subi v16 v18
  let v20 : BitVec 1 := Scalar.cmpi .ne v14 v19
  let v21 : BitVec 32 := Scalar.remsi v8 c8_i32_2
  let c0_i32_7 : BitVec 32 := 0#32
  let v22 : BitVec 1 := Scalar.cmpi .ne v21 c0_i32_7
  let v23 : BitVec 1 := Scalar.andi v20 v22
  let v9 : BitVec 32 := Scalar.divsi v8 c8_i32_2
  let c1_i32_8 : BitVec 32 := 1#32
  let v24 : BitVec 32 := Scalar.subi v9 c1_i32_8
  let v25 : BitVec 32 := Scalar.select v23 v24 v9
  let c8_i32_9 : BitVec 32 := 8#32
  let v26 : BitVec 32 := Scalar.muli v25 c8_i32_9
  let v27 : BitVec 32 := v26
  let c0_i32_13 : BitVec 32 := 0#32
  ![v27.toNat, 0]
def k0_mult6 (i : grid0.Coords) : BitVec 32 :=
  let arg0 : BitVec 32 := BitVec.ofNat 32 (i 0).val
  let c1022_i32_14 : BitVec 32 := 1022#32
  let v33 : BitVec 32 := Scalar.muli arg0 c1022_i32_14
  let c0_i32_16 : BitVec 32 := 0#32
  let v35 : BitVec 1 := Scalar.cmpi .sgt v33 c0_i32_16
  let v36 : BitVec 32 := Scalar.extui v35
  let c0_i32_17 : BitVec 32 := 0#32
  let v37 : BitVec 1 := Scalar.cmpi .slt v33 c0_i32_17
  let v38 : BitVec 32 := Scalar.extui v37
  let v39 : BitVec 32 := Scalar.subi v36 v38
  let c8_i32_15 : BitVec 32 := 8#32
  let c0_i32_18 : BitVec 32 := 0#32
  let v40 : BitVec 1 := Scalar.cmpi .sgt c8_i32_15 c0_i32_18
  let v41 : BitVec 32 := Scalar.extui v40
  let c0_i32_19 : BitVec 32 := 0#32
  let v42 : BitVec 1 := Scalar.cmpi .slt c8_i32_15 c0_i32_19
  let v43 : BitVec 32 := Scalar.extui v42
  let v44 : BitVec 32 := Scalar.subi v41 v43
  let v45 : BitVec 1 := Scalar.cmpi .ne v39 v44
  let v46 : BitVec 32 := Scalar.remsi v33 c8_i32_15
  let c0_i32_20 : BitVec 32 := 0#32
  let v47 : BitVec 1 := Scalar.cmpi .ne v46 c0_i32_20
  let v48 : BitVec 1 := Scalar.andi v45 v47
  let v34 : BitVec 32 := Scalar.divsi v33 c8_i32_15
  let c1_i32_21 : BitVec 32 := 1#32
  let v49 : BitVec 32 := Scalar.subi v34 c1_i32_21
  let v50 : BitVec 32 := Scalar.select v48 v49 v34
  let c8_i32_22 : BitVec 32 := 8#32
  let v51 : BitVec 32 := Scalar.muli v50 c8_i32_22
  v51
def k0_off8 (i : grid0.Coords) : Fin 2 → Nat :=
  let arg0 : BitVec 32 := BitVec.ofNat 32 (i 0).val
  let c2_i32 : BitVec 32 := 2#32
  let v0 : BitVec 32 := Scalar.remsi arg0 c2_i32
  let c1_i32_23 : BitVec 32 := 1#32
  ![v0.toNat, 1]
def k0_mult7 (i : grid0.Coords) : BitVec 32 :=
  let arg0 : BitVec 32 := BitVec.ofNat 32 (i 0).val
  let c1022_i32_29 : BitVec 32 := 1022#32
  let v60 : BitVec 32 := Scalar.muli arg0 c1022_i32_29
  let c0_i32_31 : BitVec 32 := 0#32
  let v62 : BitVec 1 := Scalar.cmpi .sgt v60 c0_i32_31
  let v63 : BitVec 32 := Scalar.extui v62
  let c0_i32_32 : BitVec 32 := 0#32
  let v64 : BitVec 1 := Scalar.cmpi .slt v60 c0_i32_32
  let v65 : BitVec 32 := Scalar.extui v64
  let v66 : BitVec 32 := Scalar.subi v63 v65
  let c8_i32_30 : BitVec 32 := 8#32
  let c0_i32_33 : BitVec 32 := 0#32
  let v67 : BitVec 1 := Scalar.cmpi .sgt c8_i32_30 c0_i32_33
  let v68 : BitVec 32 := Scalar.extui v67
  let c0_i32_34 : BitVec 32 := 0#32
  let v69 : BitVec 1 := Scalar.cmpi .slt c8_i32_30 c0_i32_34
  let v70 : BitVec 32 := Scalar.extui v69
  let v71 : BitVec 32 := Scalar.subi v68 v70
  let v72 : BitVec 1 := Scalar.cmpi .ne v66 v71
  let v73 : BitVec 32 := Scalar.remsi v60 c8_i32_30
  let c0_i32_35 : BitVec 32 := 0#32
  let v74 : BitVec 1 := Scalar.cmpi .ne v73 c0_i32_35
  let v75 : BitVec 1 := Scalar.andi v72 v74
  let v61 : BitVec 32 := Scalar.divsi v60 c8_i32_30
  let c1_i32_36 : BitVec 32 := 1#32
  let v76 : BitVec 32 := Scalar.subi v61 c1_i32_36
  let v77 : BitVec 32 := Scalar.select v75 v76 v61
  let c8_i32_37 : BitVec 32 := 8#32
  let v78 : BitVec 32 := Scalar.muli v77 c8_i32_37
  v78
def k0_off9 (i : grid0.Coords) : Fin 1 → Nat :=
  let arg0 : BitVec 32 := BitVec.ofNat 32 (i 0).val
  let v87 : Index := Scalar.indexCast arg0
  ![v87.toNat]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v271 : Index := Scalar.indexCast v0
  let c0_58 : Index := 0#32
  let c0_59 : Index := 0#32
  ![v271.toNat, 0, 0]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v338 : Index := Scalar.indexCast v0
  let c128 : Index := 128#32
  let c0_81 : Index := 0#32
  ![v338.toNat, 128, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v403 : Index := Scalar.indexCast v0
  let c256 : Index := 256#32
  let c0_103 : Index := 0#32
  ![v403.toNat, 256, 0]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v468 : Index := Scalar.indexCast v0
  let c384 : Index := 384#32
  let c0_125 : Index := 0#32
  ![v468.toNat, 384, 0]
def k0_off14 (i : grid0.Coords) : Fin 3 → Nat :=
  let arg0 : BitVec 32 := BitVec.ofNat 32 (i 0).val
  let c2_i32 : BitVec 32 := 2#32
  let v0 : BitVec 32 := Scalar.remsi arg0 c2_i32
  let v533 : Index := Scalar.indexCast v0
  let c512 : Index := 512#32
  let c0_147 : Index := 0#32
  ![v533.toNat, 512, 0]
def k0_off15 (i : grid0.Coords) : Fin 3 → Nat :=
  let arg0 : BitVec 32 := BitVec.ofNat 32 (i 0).val
  let c2_i32 : BitVec 32 := 2#32
  let v0 : BitVec 32 := Scalar.remsi arg0 c2_i32
  let v598 : Index := Scalar.indexCast v0
  let c640 : Index := 640#32
  let c0_169 : Index := 0#32
  ![v598.toNat, 640, 0]
def k0_off16 (i : grid0.Coords) : Fin 3 → Nat :=
  let arg0 : BitVec 32 := BitVec.ofNat 32 (i 0).val
  let c2_i32 : BitVec 32 := 2#32
  let v0 : BitVec 32 := Scalar.remsi arg0 c2_i32
  let v663 : Index := Scalar.indexCast v0
  let c768 : Index := 768#32
  let c0_191 : Index := 0#32
  ![v663.toNat, 768, 0]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v728 : Index := Scalar.indexCast v0
  let c896 : Index := 896#32
  let c0_212 : Index := 0#32
  ![v728.toNat, 896, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x3 : Shape := ⟨2, ![8192, 3]⟩
abbrev S8192x4 : Shape := ⟨2, ![8192, 4]⟩
abbrev S8372232 : Shape := ⟨1, ![8372232]⟩
abbrev S9 : Shape := ⟨1, ![9]⟩
abbrev S8 : Shape := ⟨1, ![8]⟩
abbrev S3 : Shape := ⟨1, ![3]⟩
abbrev S4 : Shape := ⟨1, ![4]⟩
abbrev S8x1024x3 : Shape := ⟨3, ![8, 1024, 3]⟩
abbrev S_ : Shape := ⟨0, ![]⟩
abbrev S1x1x3 : Shape := ⟨3, ![1, 1, 3]⟩
abbrev S8x1024x1 : Shape := ⟨3, ![8, 1024, 1]⟩
abbrev S8x1024 : Shape := ⟨2, ![8, 1024]⟩
abbrev S8x1024x4 : Shape := ⟨3, ![8, 1024, 4]⟩
abbrev S1 : Shape := ⟨1, ![1]⟩
abbrev S1023 : Shape := ⟨1, ![1023]⟩
abbrev S1x1023 : Shape := ⟨2, ![1, 1023]⟩
abbrev S8x1 : Shape := ⟨2, ![8, 1]⟩
abbrev S8x1023 : Shape := ⟨2, ![8, 1023]⟩
abbrev S8x1023x1 : Shape := ⟨3, ![8, 1023, 1]⟩
abbrev S1x1x1 : Shape := ⟨3, ![1, 1, 1]⟩
abbrev S8x1023x1023 : Shape := ⟨3, ![8, 1023, 1023]⟩
abbrev S8184 : Shape := ⟨1, ![8184]⟩
abbrev S8192 : Shape := ⟨1, ![8192]⟩
abbrev S8184x1 : Shape := ⟨2, ![8184, 1]⟩

abbrev nBuf : Space → Nat
  | .hbm => 200
  | .vmem => 0
  | .smem => 0
  | _ => 0

abbrev hbmTy0_0 (i : Nat) : BufTy := match i % 128 with
  | 0 => ⟨S8192x3, .f32⟩
  | 1 => ⟨S8192x4, .f32⟩
  | 2 => ⟨S8372232, .f32⟩
  | 3 => ⟨S8372232, .f32⟩
  | 4 => ⟨S9, .i32⟩
  | 5 => ⟨S8, .i32⟩
  | 6 => ⟨S8, .f32⟩
  | 7 => ⟨S3, .f32⟩
  | 8 => ⟨S3, .f32⟩
  | 9 => ⟨S4, .f32⟩
  | 10 => ⟨S4, .f32⟩
  | 11 => ⟨S8x1024x3, .f32⟩
  | 12 => ⟨S_, .f32⟩
  | 13 => ⟨S3, .f32⟩
  | 14 => ⟨S3, .f32⟩
  | 15 => ⟨S1x1x3, .f32⟩
  | 16 => ⟨S8x1024x3, .f32⟩
  | 17 => ⟨S8x1024x3, .f32⟩
  | 18 => ⟨S1x1x3, .f32⟩
  | 19 => ⟨S8x1024x3, .f32⟩
  | 20 => ⟨S8x1024x3, .f32⟩
  | 21 => ⟨S8x1024x1, .f32⟩
  | 22 => ⟨S8x1024, .f32⟩
  | 23 => ⟨S8x1024x1, .f32⟩
  | 24 => ⟨S8x1024, .f32⟩
  | 25 => ⟨S8x1024x1, .f32⟩
  | 26 => ⟨S8x1024, .f32⟩
  | 27 => ⟨S8x1024, .f32⟩
  | 28 => ⟨S8x1024x4, .f32⟩
  | 29 => ⟨S8x1024x1, .f32⟩
  | 30 => ⟨S8x1024, .f32⟩
  | 31 => ⟨S1, .f32⟩
  | 32 => ⟨S_, .f32⟩
  | 33 => ⟨S_, .f32⟩
  | 34 => ⟨S_, .f32⟩
  | 35 => ⟨S8x1024, .f32⟩
  | 36 => ⟨S8x1024, .f32⟩
  | 37 => ⟨S1, .f32⟩
  | 38 => ⟨S_, .f32⟩
  | 39 => ⟨S8x1024, .f32⟩
  | 40 => ⟨S8x1024, .f32⟩
  | 41 => ⟨S8x1024x1, .f32⟩
  | 42 => ⟨S8x1024, .f32⟩
  | 43 => ⟨S1, .f32⟩
  | 44 => ⟨S_, .f32⟩
  | 45 => ⟨S_, .f32⟩
  | 46 => ⟨S_, .f32⟩
  | 47 => ⟨S8x1024, .f32⟩
  | 48 => ⟨S8x1024, .f32⟩
  | 49 => ⟨S1, .f32⟩
  | 50 => ⟨S_, .f32⟩
  | 51 => ⟨S8x1024, .f32⟩
  | 52 => ⟨S8x1024, .f32⟩
  | 53 => ⟨S8x1024, .f32⟩
  | 54 => ⟨S8x1024, .f32⟩
  | 55 => ⟨S1023, .i32⟩
  | 56 => ⟨S1x1023, .i32⟩
  | 57 => ⟨S8x1, .i32⟩
  | 58 => ⟨S8x1023, .i32⟩
  | 59 => ⟨S8x1023, .i32⟩
  | 60 => ⟨S8x1023, .i1⟩
  | 61 => ⟨S1x1023, .i32⟩
  | 62 => ⟨S1x1023, .i32⟩
  | 63 => ⟨S_, .i32⟩
  | 64 => ⟨S1x1023, .i32⟩
  | 65 => ⟨S1x1023, .i32⟩
  | 66 => ⟨S8x1023, .i32⟩
  | 67 => ⟨S8x1023, .i32⟩
  | 68 => ⟨S8x1023, .i32⟩
  | 69 => ⟨S_, .i32⟩
  | 70 => ⟨S8x1023, .i32⟩
  | 71 => ⟨S8x1023, .i1⟩
  | 72 => ⟨S_, .i32⟩
  | 73 => ⟨S8x1023, .i32⟩
  | 74 => ⟨S8x1023, .i32⟩
  | 75 => ⟨S8x1023, .i32⟩
  | 76 => ⟨S8x1023x1, .i32⟩
  | 77 => ⟨S1, .i32⟩
  | 78 => ⟨S_, .i32⟩
  | 79 => ⟨S8x1023x1, .i32⟩
  | 80 => ⟨S8x1023x1, .i1⟩
  | 81 => ⟨S1x1x1, .i32⟩
  | 82 => ⟨S8x1023x1, .i32⟩
  | 83 => ⟨S8x1023x1, .i1⟩
  | 84 => ⟨S8x1023x1, .i1⟩
  | 85 => ⟨S_, .i1⟩
  | 86 => ⟨S8x1023, .i1⟩
  | 87 => ⟨S8x1023, .f32⟩
  | 88 => ⟨S_, .f32⟩
  | 89 => ⟨S8x1023, .f32⟩
  | 90 => ⟨S8x1023, .f32⟩
  | 91 => ⟨S_, .i32⟩
  | 92 => ⟨S8x1023, .i32⟩
  | 93 => ⟨S8x1023, .i1⟩
  | 94 => ⟨S_, .i32⟩
  | 95 => ⟨S8x1023, .i32⟩
  | 96 => ⟨S8x1023, .i32⟩
  | 97 => ⟨S8x1023, .i32⟩
  | 98 => ⟨S8x1023x1, .i32⟩
  | 99 => ⟨S1, .i32⟩
  | 100 => ⟨S_, .i32⟩
  | 101 => ⟨S8x1023x1, .i32⟩
  | 102 => ⟨S8x1023x1, .i1⟩
  | 103 => ⟨S1x1x1, .i32⟩
  | 104 => ⟨S8x1023x1, .i32⟩
  | 105 => ⟨S8x1023x1, .i1⟩
  | 106 => ⟨S8x1023x1, .i1⟩
  | 107 => ⟨S_, .i1⟩
  | 108 => ⟨S8x1023, .i1⟩
  | 109 => ⟨S8x1023, .f32⟩
  | 110 => ⟨S_, .f32⟩
  | 111 => ⟨S8x1023, .f32⟩
  | 112 => ⟨S8x1023, .f32⟩
  | 113 => ⟨S8x1023x1023, .f32⟩
  | 114 => ⟨S8x1023x1023, .f32⟩
  | 115 => ⟨S8x1, .f32⟩
  | 116 => ⟨S8x1023, .f32⟩
  | 117 => ⟨S_, .f32⟩
  | 118 => ⟨S8x1023, .f32⟩
  | 119 => ⟨S8x1023, .f32⟩
  | 120 => ⟨S8x1023, .f32⟩
  | 121 => ⟨S8x1023, .f32⟩
  | 122 => ⟨S8x1023, .f32⟩
  | 123 => ⟨S_, .f32⟩
  | 124 => ⟨S8x1023, .f32⟩
  | 125 => ⟨S8x1023, .f32⟩
  | 126 => ⟨S8x1023, .f32⟩
  | 127 => ⟨S_, .f32⟩
  | _ => ⟨S8192x3, .f32⟩

abbrev hbmTy0_1 (i : Nat) : BufTy := match i % 128 with
  | 0 => ⟨S_, .f32⟩
  | 1 => ⟨S_, .f32⟩
  | 2 => ⟨S8x1023, .f32⟩
  | 3 => ⟨S8x1023, .f32⟩
  | 4 => ⟨S_, .f32⟩
  | 5 => ⟨S8x1023, .f32⟩
  | 6 => ⟨S8x1023, .f32⟩
  | 7 => ⟨S_, .i32⟩
  | 8 => ⟨S8x1023, .i32⟩
  | 9 => ⟨S8x1023, .i1⟩
  | 10 => ⟨S_, .i32⟩
  | 11 => ⟨S8x1023, .i32⟩
  | 12 => ⟨S8x1023, .i32⟩
  | 13 => ⟨S8x1023, .i32⟩
  | 14 => ⟨S8x1023x1, .i32⟩
  | 15 => ⟨S1, .i32⟩
  | 16 => ⟨S_, .i32⟩
  | 17 => ⟨S8x1023x1, .i32⟩
  | 18 => ⟨S8x1023x1, .i1⟩
  | 19 => ⟨S1x1x1, .i32⟩
  | 20 => ⟨S8x1023x1, .i32⟩
  | 21 => ⟨S8x1023x1, .i1⟩
  | 22 => ⟨S8x1023x1, .i1⟩
  | 23 => ⟨S_, .i1⟩
  | 24 => ⟨S8x1023, .i1⟩
  | 25 => ⟨S8x1023, .f32⟩
  | 26 => ⟨S_, .f32⟩
  | 27 => ⟨S8x1023, .f32⟩
  | 28 => ⟨S8x1023, .f32⟩
  | 29 => ⟨S8x1023, .f32⟩
  | 30 => ⟨S_, .f32⟩
  | 31 => ⟨S8x1023, .f32⟩
  | 32 => ⟨S8x1023, .f32⟩
  | 33 => ⟨S8x1023, .f32⟩
  | 34 => ⟨S_, .f32⟩
  | 35 => ⟨S8x1023, .f32⟩
  | 36 => ⟨S8x1023, .f32⟩
  | 37 => ⟨S8, .i32⟩
  | 38 => ⟨S8x1, .i32⟩
  | 39 => ⟨S_, .i32⟩
  | 40 => ⟨S8x1, .i32⟩
  | 41 => ⟨S8x1, .i32⟩
  | 42 => ⟨S8x1023, .i32⟩
  | 43 => ⟨S8x1023, .i32⟩
  | 44 => ⟨S8184, .i32⟩
  | 45 => ⟨S8192, .f32⟩
  | 46 => ⟨S8x1023, .f32⟩
  | 47 => ⟨S8184, .f32⟩
  | 48 => ⟨S_, .i32⟩
  | 49 => ⟨S8184, .i32⟩
  | 50 => ⟨S8184, .i1⟩
  | 51 => ⟨S_, .i32⟩
  | 52 => ⟨S8184, .i32⟩
  | 53 => ⟨S8184, .i32⟩
  | 54 => ⟨S8184, .i32⟩
  | 55 => ⟨S8184x1, .i32⟩
  | 56 => ⟨S8192, .f32⟩
  | 57 => ⟨S8x1024, .f32⟩
  | 58 => ⟨S8x1024x1, .f32⟩
  | 59 => ⟨S8x1024x1, .f32⟩
  | 60 => ⟨S8x1024x1, .f32⟩
  | 61 => ⟨S8x1024x3, .f32⟩
  | 62 => ⟨S1x1x3, .f32⟩
  | 63 => ⟨S8x1024x3, .f32⟩
  | 64 => ⟨S8x1024x3, .f32⟩
  | 65 => ⟨S_, .f32⟩
  | 66 => ⟨S3, .f32⟩
  | 67 => ⟨S3, .f32⟩
  | 68 => ⟨S1x1x3, .f32⟩
  | 69 => ⟨S8x1024x3, .f32⟩
  | 70 => ⟨S8x1024x3, .f32⟩
  | 71 => ⟨S8192x3, .f32⟩
  | _ => ⟨S8192x3, .f32⟩

abbrev hbmTy (i : Nat) : BufTy := match i / 128 with
  | 0 => hbmTy0_0 i
  | 1 => hbmTy0_1 i
  | _ => ⟨S8192x3, .f32⟩

abbrev bufTy : (tb : Table) → Fin (tcTables nBuf tb) → BufTy
  | .hbm, ⟨i, _⟩ => hbmTy i
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c : Ref sig .tc := ⟨.hbm, 63, rfl⟩
abbrev main_v49 : Ref sig .tc := ⟨.hbm, 64, rfl⟩
abbrev main_v50 : Ref sig .tc := ⟨.hbm, 65, rfl⟩
abbrev main_call0_v0 : Ref sig .tc := ⟨.hbm, 66, rfl⟩
abbrev main_call0_v1 : Ref sig .tc := ⟨.hbm, 67, rfl⟩
abbrev main_v51 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_cst : Ref sig .tc := ⟨.hbm, 88, rfl⟩
abbrev main_call1_v14 : Ref sig .tc := ⟨.hbm, 89, rfl⟩
abbrev main_v52 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_c_1 : Ref sig .tc := ⟨.hbm, 99, rfl⟩
abbrev main_call2_c_2 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_c_3 : Ref sig .tc := ⟨.hbm, 107, rfl⟩
abbrev main_call2_v12 : Ref sig .tc := ⟨.hbm, 108, rfl⟩
abbrev main_call2_v13 : Ref sig .tc := ⟨.hbm, 109, rfl⟩
abbrev main_call2_cst : Ref sig .tc := ⟨.hbm, 110, rfl⟩
abbrev main_call2_v14 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_cst_2 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_cst_3 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_cst_4 : Ref sig .tc := ⟨.hbm, 127, rfl⟩
abbrev main_cst_5 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_v66 : Ref sig .tc := ⟨.hbm, 134, rfl⟩
abbrev main_call4_c : Ref sig .tc := ⟨.hbm, 135, rfl⟩
abbrev main_call4_v0 : Ref sig .tc := ⟨.hbm, 136, rfl⟩
abbrev main_call4_v1 : Ref sig .tc := ⟨.hbm, 137, rfl⟩
abbrev main_call4_c_0 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_call4_v5 : Ref sig .tc := ⟨.hbm, 142, rfl⟩
abbrev main_call4_c_1 : Ref sig .tc := ⟨.hbm, 143, rfl⟩
abbrev main_call4_c_2 : Ref sig .tc := ⟨.hbm, 144, rfl⟩
abbrev main_call4_v6 : Ref sig .tc := ⟨.hbm, 145, rfl⟩
abbrev main_call4_v7 : Ref sig .tc := ⟨.hbm, 146, rfl⟩
abbrev main_call4_v8 : Ref sig .tc := ⟨.hbm, 147, rfl⟩
abbrev main_call4_v9 : Ref sig .tc := ⟨.hbm, 148, rfl⟩
abbrev main_call4_v10 : Ref sig .tc := ⟨.hbm, 149, rfl⟩
abbrev main_call4_v11 : Ref sig .tc := ⟨.hbm, 150, rfl⟩
abbrev main_call4_c_3 : Ref sig .tc := ⟨.hbm, 151, rfl⟩
abbrev main_call4_v12 : Ref sig .tc := ⟨.hbm, 152, rfl⟩
abbrev main_call4_v13 : Ref sig .tc := ⟨.hbm, 153, rfl⟩
abbrev main_call4_cst : Ref sig .tc := ⟨.hbm, 154, rfl⟩
abbrev main_call4_v14 : Ref sig .tc := ⟨.hbm, 155, rfl⟩
abbrev main_v67 : Ref sig .tc := ⟨.hbm, 156, rfl⟩
abbrev main_v68 : Ref sig .tc := ⟨.hbm, 157, rfl⟩
abbrev main_cst_6 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_cst_7 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_c_8 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_c_9 : Ref sig .tc := ⟨.hbm, 176, rfl⟩
abbrev main_v84 : Ref sig .tc := ⟨.hbm, 177, rfl⟩
abbrev main_v85 : Ref sig .tc := ⟨.hbm, 178, rfl⟩
abbrev main_c_10 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_cst_11 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩

abbrev nD : Nat := 1
abbrev τ : Topo := Topo.v7x

variable {F : FTy → Type} [FloatOps F]
-- ==== Proof.IdealFrame.Kit.lean ====
/- What the whole frame proof of the ideal kernel is stated over: @main around the region, the windows' blocks, the
   body's two branch conditions, the staging and scratch buffers, and what the launch hands the body. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

set_option maxHeartbeats 800000 in
/-- @main is the host lines before the region, the region, and the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the run leaves in each buffer that is no array of the region: the host lines after the region, run from the
    region's arrays at their final contents. -/
abbrev tail (dats : (p : Fin 1) → (c : Dev nD) → Dat τ (Elt F) Unit ℕ (Pipeline.UD sig nD τ) ℕ (cfgs p) c) (c : Dev nD) (b : Ref sig .tc) :
    Buf (Elt F) ((c : Thread nD τ).loc b) := Pipeline.afterTail₀ cfgs dats 0 (V0 m) [hostOps1] c b

/-- The buffers that the host lines after the region write. -/
def tailWrites : List (Ref sig .tc) :=
  [main_call0_v71, main_call0_v72, main_call0_v73, main_call0_v74, main_call0_v75, main_call0_v76, main_call0_v77, main_v0]

/-- A buffer that no host line after the region writes and that is no array of the region ends as the region found it. -/
theorem tail_kept (dats : (p : Fin 1) → (c : Dev nD) → Dat τ (Elt F) Unit ℕ (Pipeline.UD sig nD τ) ℕ (cfgs p) c) (c : Dev nD) (b : Ref sig .tc)
    (hb : ∀ r ∈ tailWrites, b ≠ r) (ha : ∀ w, Pipeline.arrRef spec0 w ≠ b) : tail m dats c b = V m c b := by
  unfold tail Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (hb _ (by decide)))),
    Pipeline.withArrays_of_ne _ c (V0 m c) _ b ha]

/-! ## The windows' blocks: each input window's staging buffer holds the window's block at every point, for proof data
whose arrays are the region-entry contents and whose body leaves the block in place -/

theorem before_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- After the run, an argument that no host line writes and no window stages is as launched. -/
theorem arg_kept (dats : (p : Fin 1) → (c : Dev nD) → Dat τ (Elt F) Unit ℕ (Pipeline.UD sig nD τ) ℕ (cfgs p) c) (r : PUnit × MemSt nD τ sig (Elt F))
    (h : Pipeline.FramePost cfgs dats 0 (tail m dats) r) (c : Dev nD) (b : Ref sig .tc) (hr : b ∈ Pipeline.restRefs sig spec0)
    (hb : ∀ r ∈ tailWrites, b ≠ r) (ha : ∀ w, Pipeline.arrRef spec0 w ≠ b) (hV : V m c b = m ((c : Thread nD τ).loc b)) :
    r.2.mem ((c : Thread nD τ).loc b) = m ((c : Thread nD τ).loc b) :=
  ((h c).2 b hr).trans ((tail_kept m dats c b hb ha).trans hV)

/-- After the run every argument is as launched. -/
theorem args_kept (dats : (p : Fin 1) → (c : Dev nD) → Dat τ (Elt F) Unit ℕ (Pipeline.UD sig nD τ) ℕ (cfgs p) c)
    (hA : ∀ c w, (dats 0 c).A w = V m c (Pipeline.arrRef spec0 w)) (r : PUnit × MemSt nD τ sig (Elt F))
    (h : Pipeline.FramePost cfgs dats 0 (tail m dats) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨arg_kept m dats r h c main_arg0 (Pipeline.mem_restRefs_of main_arg0 (by decide) (by decide)) (by decide) (by decide) (V_main_arg0 m c),
    arg_kept m dats r h c main_arg1 (Pipeline.mem_restRefs_of main_arg1 (by decide) (by decide)) (by decide) (by decide) (V_main_arg1 m c),
    arg_kept m dats r h c main_arg2 (Pipeline.mem_restRefs_of main_arg2 (by decide) (by decide)) (by decide) (by decide) (V_main_arg2 m c),
    arg_kept m dats r h c main_arg3 (Pipeline.mem_restRefs_of main_arg3 (by decide) (by decide)) (by decide) (by decide) (V_main_arg3 m c),
    arg_kept m dats r h c main_arg4 (Pipeline.mem_restRefs_of main_arg4 (by decide) (by decide)) (by decide) (by decide) (V_main_arg4 m c),
    arg_kept m dats r h c main_arg5 (Pipeline.mem_restRefs_of main_arg5 (by decide) (by decide)) (by decide) (by decide) (V_main_arg5 m c),
    ((h c).1 1).trans (((dats 0 c).arrAt_in 1 rfl _).trans ((hA c 1).trans (V_main_arg6 m c))),
    arg_kept m dats r h c main_arg7 (Pipeline.mem_restRefs_of main_arg7 (by decide) (by decide)) (by decide) (by decide) (V_main_arg7 m c),
    arg_kept m dats r h c main_arg8 (Pipeline.mem_restRefs_of main_arg8 (by decide) (by decide)) (by decide) (by decide) (V_main_arg8 m c),
    arg_kept m dats r h c main_arg9 (Pipeline.mem_restRefs_of main_arg9 (by decide) (by decide)) (by decide) (by decide) (V_main_arg9 m c),
    arg_kept m dats r h c main_arg10 (Pipeline.mem_restRefs_of main_arg10 (by decide) (by decide)) (by decide) (by decide) (V_main_arg10 m c)⟩

/-! ## The body's branch conditions -/

/-- The condition of the body's first branch (start block 0), from the point's number. -/
abbrev cond0_0 (i : grid0.Coords) : Prop := k0_cond1 i = 1#1
/-- It holds at the first point only. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-- The condition of the body's second branch (start the next block), from the point's number. -/
abbrev cond0_1 (i : grid0.Coords) : Prop := k0_cond2 i = 1#1
/-- It holds at the points before point 7. -/
theorem hcond0_1 : ∀ t : Fin cfg0.N, cond0_1 (grid0.coords t) ↔ t.val < 7 :=
  (by decide +kernel : ∀ t : Fin grid0.N, cond0_1 (grid0.coords t) ↔ t.val < 7)

/-! ## The body's buffers -/

/-- One staging buffer of the output's window, through which its contents are stated; which one does not matter. -/
abbrev VO0_4 : View sig .tc .vmem S1x8x128 .f32 := (Memref.whole cc0_stg4_0 : Memref sig .tc .vmem S1x8x128 .f32).view
/-- Each window's staging buffer at point `t`; it is a whole buffer. -/
abbrev ms0_0 (t : Fin cfg0.N) : Memref sig .tc .smem S6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)
/-- The two scratch buffers of the kernel, passed beside the windows. -/
abbrev scM0_0 : Memref sig .tc .vmem S2x1040x1024 .f32 := Memref.whole cc0_scratch0
abbrev scM0_1 : Memref sig .tc .vmem S2x1040x1024 .f32 := Memref.whole cc0_scratch1
/-- The two matrices left in HBM, whose blocks the body copies into scratch itself. -/
abbrev hbM0_0 : Memref sig .tc .hbm S8192x1024 .f32 := Memref.whole main_call0_v3
abbrev hbM0_1 : Memref sig .tc .hbm S8192x1024 .f32 := Memref.whole main_call0_v5
/-- The contents of buffer `M` on core `c`, and the buffer held whole at contents `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The kernel's own copy semaphores, one by one; none is a window's. -/
abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide
/-- The kernel's own semaphores at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3] (by decide) (by decide)]; rfl
/-- The two matrices left in HBM; neither is a window's array. -/
def H0 : Finset (Ref sig .tc) := {main_call0_v3, main_call0_v5}
theorem H0_sub : H0 ⊆ Pipeline.restRefs sig spec0 := by decide
/-- The host lines after the region touch neither matrix. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl | rfl | rfl | rfl | rfl
    all_goals intro b hb; simp only [H0, Finset.mem_insert, Finset.mem_singleton] at hb
    all_goals rcases hb with rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- The two matrices held at what the region finds in them, listed. -/
theorem hbmPts0_eq (c : Dev nD) :
    (bigSep H0 (fun b => ((c : Thread nD τ).loc b) ↦{fullShare} V m c b) : sProp 𝕄) = iprop(hbPt0 c hbM0_0 (V m c main_call0_v3) ∗ hbPt0 c hbM0_1 (V m c main_call0_v5)) := by
  rw [BI.bigSep_eq_bigSepL_of_eq [main_call0_v3, main_call0_v5] (by decide) (by decide)]; rfl

/-- What the launch hands the region, listed: the scratch buffers at some contents, the generator register at some state, the
    kernel's own semaphores at zero, the two matrices at what the region finds in them. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_call0_v3) ∗ hbPt0 c hbM0_1 (V m c main_call0_v5))) := by
  rw [Pipeline.ΦD_eq, scopedRest0_eq, ownSems00_eq, hbmPts0_eq]; simp only [scM0_0, scM0_1, owns_whole]; try rfl

end Cert.KernelIdeal.Own

end
-- ==== Proof.IdealFrame.RingR.lean ====
/- The two slots of the buffer for the R matrices: the blocks that stream through them, the flights, and the names the
   body's transfers and loads have at each grid point. -/
module

public import proofs.«01_k».proof.Proof.IdealFrame.Kit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Ring 0 of kernel 0: `main_call0_v3` streamed through the 2 slots of `cc0_scratch0` on the cells of `cc0_scratch2`, 1 block ahead, in 8 steps -/

instance : NeZero grid0.N := ⟨by rw [N_0]; decide⟩
theorem inb_slot0_0 (s : Fin 2) : ∀ a, (![s.val, 0, 0] : Fin 3 → Nat) a + S1x1040x1024.size a ≤ S2x1040x1024.size a := by
  have := s.isLt; intro a; fin_cases a <;> simp <;> omega
theorem inb_src0_0 (b : Fin 8) : ∀ a, (![8 * (1022 * b.val / 8), 0] : Fin 2 → Nat) a + S1040x1024.size a ≤ S8192x1024.size a := by
  have := b.isLt; intro a; fin_cases a <;> simp <;> omega
theorem inb_cell0_0 (s : Fin 2) : ∀ a, (![s.val, 0] : Fin 2 → Nat) a + S1x1.size a ≤ S2x2.size a := by
  have := s.isLt; intro a; fin_cases a <;> simp <;> omega
/-- Slot `s` of the ring, as the destination of the body's copies. -/
def rslot0_0 (s : Fin 2) : Memref sig .tc .vmem S1040x1024 .f32 :=
  (scM0_0.slice (Rect.unit (s := S2x1040x1024) ![s.val, 0, 0] S1x1040x1024.size (inb_slot0_0 s)) (fun _ => rfl)).squeeze S1040x1024 squeezes_S1x1040x1024_S1040x1024
/-- Block `b` of the operand (the block that step `b` waits for), as the source of the body's copies. -/
def srcB0_0 (b : Fin 8) : Memref sig .tc .hbm S1040x1024 .f32 :=
  hbM0_0.slice (Rect.unit (s := S8192x1024) ![8 * (1022 * b.val / 8), 0] S1040x1024.size (inb_src0_0 b)) (fun _ => rfl)
/-- Cell `s` of `cc0_scratch2`, a semaphore; its number. -/
def cellA0_0 (s : Fin 2) : DmaSems sig S_ := (cc0_scratch2.slice (Rect.unit (s := S2x2) ![s.val, 0] S1x1.size (inb_cell0_0 s))).squeeze S_ squeezes_S1x1_S_
abbrev cellR0_0 (s : Fin 2) : SemLoc sig := SemLoc.dma (cellA0_0 s).sem
theorem cellR0_0_0 : cellR0_0 0 = SemLoc.dma 8 := by decide
theorem cellR0_0_1 : cellR0_0 1 = SemLoc.dma 10 := by decide

section Ring0_0
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs0_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f`; the FLIGHT of block `b` into slot `s`, delivering the slot landed
    and the lent elements back. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 8) : sProp 𝕄 := (srcB0_0 b).view.loc (c : Thread nD τ) ↦[(srcB0_0 b).view.set]{qs0_0 s} W
/-- The rest of slot `s`'s copy of the operand, without block `b`. -/
def restP0_0 (s : Fin 2) (b : Fin 8) : sProp 𝕄 := ((c : Thread nD τ).loc main_call0_v3) ↦[Finset.univ \ (srcB0_0 b).view.set]{qs0_0 s} W
abbrev wholeP0_0 (s : Fin 2) : sProp 𝕄 := ((c : Thread nD τ).loc main_call0_v3) ↦[Finset.univ]{qs0_0 s} W
abbrev landed0_0 (s : Fin 2) (b : Fin 8) (f : HbBuf0 (F := F) c (rslot0_0 s)) : HbBuf0 (F := F) c (rslot0_0 s) :=
  (rslot0_0 s).view.writes (Elt F) f [⟨Rect.whole S1040x1024, ReadAs.same.apply ((srcB0_0 b).view.read (Elt F) W)⟩]
abbrev flightP0_0 (s : Fin 2) (b : Fin 8) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- What a slot carries, in flight or not: a slot not in flight carries its copy of the operand whole; a flight, the
    rest of the copy it borrowed from. -/
abbrev slotW0_0 (s : Fin 2) (f : HbBuf0 (F := F) c (rslot0_0 s)) : sProp 𝕄 := iprop(slotP0_0 c s f ∗ wholeP0_0 c W s)
abbrev flightW0_0 (s : Fin 2) (b : Fin 8) (f : HbBuf0 (F := F) c (rslot0_0 s)) : sProp 𝕄 := iprop(flightP0_0 c W s b f ∗ restP0_0 c W s b)
abbrev noHome0_0 (b : Fin 8) : sProp 𝕄 := iprop(emp)
/-- The ring before its step `k`: every slot free before the first; from then on block `k` in flight
    into slot `k`, slot `k + 1` KEEPING block `k - 1` (landed, readable) until the step starts block `k + 1` over it. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [FloatOps F] in
theorem cellP0_0_0 : cellP0_0 (F := F) c 0 = semVal ((c : Thread nD τ), SemLoc.dma 8) 0 := congrArg (fun x => (semVal ((c : Thread nD τ), x) 0 : sProp 𝕄)) cellR0_0_0
omit [FloatOps F] in
theorem cellP0_0_1 : cellP0_0 (F := F) c 1 = semVal ((c : Thread nD τ), SemLoc.dma 10) 0 := congrArg (fun x => (semVal ((c : Thread nD τ), x) 0 : sProp 𝕄)) cellR0_0_1
end Ring0_0

/-! ### The slots, disjoint and covering the scratch -/

abbrev slotSet0_0 (s : Fin 2) : Finset S2x1040x1024.Idx := (Rect.unit (s := S2x1040x1024) ![s.val, 0, 0] S1x1040x1024.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x1040x1024) (0 : Fin 3) 1 (fun s : Fin 2 => (![s.val, 0, 0] : Fin 3 → Nat)) S1x1040x1024.size inb_slot0_0 (fun s => by simp) rfl s s' h
theorem slots0_0_cover : Finset.univ.biUnion slotSet0_0 = Finset.univ :=
  Ring.lead_cover (s := S2x1040x1024) (0 : Fin 3) 1 (fun s : Fin 2 => (![s.val, 0, 0] : Fin 3 → Nat)) S1x1040x1024.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 2) (f) : slotP0_0 (F := F) c s f = (((c : Thread nD τ).loc cc0_scratch0) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 2) (b : Fin 8) : wholeP0_0 (F := F) c W s ⊣⊢ iprop(srcP0_0 c W s b ∗ restP0_0 c W s b) := by
  unfold restP0_0; exact pointsTo_split_subset (Finset.subset_univ _)
/-- the operand whole at the full share is the two copies. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- the scratch whole at anything is its slots at something each, and back. -/
theorem slots0_0_in : iprop(∃ d, owns (c : Thread nD τ) scM0_0 fullShare d) ⊢ (iprop((∃ f, slotP0_0 (F := F) c 0 f) ∗ ∃ f, slotP0_0 (F := F) c 1 f) : sProp 𝕄) := by
  simp only [scM0_0, owns_whole]
  exact Ring.slots2_split (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
end InOut0_0

/-- INTO THE RING: the launch's pieces — the scratch whole, the cells at zero, the operand whole — are the ring before its first step; -/
theorem ring0_0_in (c : Dev nD) :
    iprop((∃ d, owns (c : Thread nD τ) scM0_0 fullShare d) ∗ (semVal ((c : Thread nD τ), SemLoc.dma 8) 0 ∗ semVal ((c : Thread nD τ), SemLoc.dma 10) 0) ∗ hbPt0 c hbM0_0 (V m c main_call0_v3))
      ⊢ ringAt0_0 c (V m c main_call0_v3) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_call0_v3)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_0_out (c : Dev nD) :
    ringAt0_0 c (V m c main_call0_v3) 8
      ⊢ iprop((∃ d, owns (c : Thread nD τ) scM0_0 fullShare d) ∗ (semVal ((c : Thread nD τ), SemLoc.dma 8) 0 ∗ semVal ((c : Thread nD τ), SemLoc.dma 10) 0) ∗ hbPt0 c hbM0_0 (V m c main_call0_v3)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_call0_v3)).2; isplitl [HW0]; · iexact HW0
    iexact HW1

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → 1 ≤ t.val ∧ t.val + 1 < 8 ∧ (t.val + 1) = t.val + 1 := by decide +kernel
/-- At the points of case C the ring takes its LAST step. -/
theorem rstep0_0_C : ∀ t : Fin grid0.N, ¬cond0_0 (grid0.coords t) → ¬cond0_1 (grid0.coords t) → 1 ≤ t.val ∧ t.val + 1 = 8 ∧ (t.val + 1) = t.val + 1 := by decide +kernel
theorem coff0_0_1 : ∀ t : Fin grid0.N, cond0_0 (grid0.coords t) → cond0_1 (grid0.coords t) → (![0, 0, 0] : Fin 3 → Nat) = ![(Ring.sl 2 t.val).val, 0, 0] := by decide +kernel
@[sl_canon] theorem canon0_0_1 (t : Fin grid0.N) (h0 : cond0_0 (grid0.coords t)) (h1 : cond0_1 (grid0.coords t)) :
    (scM0_0.slice (Rect.unit (s := S2x1040x1024) ![0, 0, 0] S1x1040x1024.size inb_S2x1040x1024_S1x1040x1024_0_0_0) (fun _ => rfl)).squeeze S1040x1024 squeezes_S1x1040x1024_S1040x1024 = rslot0_0 (Ring.sl 2 t.val) :=
  congrArg (fun M : Memref sig .tc .vmem S1x1040x1024 .f32 => M.squeeze S1040x1024 squeezes_S1x1040x1024_S1040x1024) (Memref.slice_unit_congr _ (coff0_0_1 t h0 h1) _ _ (fun _ => rfl) (fun _ => rfl))
theorem coff0_0_2 : ∀ t : Fin grid0.N, cond0_0 (grid0.coords t) → cond0_1 (grid0.coords t) → (![0, 0] : Fin 2 → Nat) = ![(Ring.sl 2 t.val).val, 0] := by decide +kernel
@[sl_canon] theorem canon0_0_2 (t : Fin grid0.N) (h0 : cond0_0 (grid0.coords t)) (h1 : cond0_1 (grid0.coords t)) :
    (cc0_scratch2.slice (Rect.unit (s := S2x2) ![0, 0] S1x1.size inb_S2x2_S1x1_0_0)).squeeze S_ squeezes_S1x1_S_ = cellA0_0 (Ring.sl 2 t.val) :=
  congrArg (fun A : DmaSems sig S1x1 => A.squeeze S_ squeezes_S1x1_S_) (SemArray.slice_unit_congr _ (coff0_0_2 t h0 h1) _ _)
theorem coff0_0_3 : ∀ t : Fin grid0.N, cond0_0 (grid0.coords t) → cond0_1 (grid0.coords t) → (![0, 0] : Fin 2 → Nat) = ![8 * (1022 * (Ring.bk 8 t.val).val / 8), 0] := by decide +kernel
@[sl_canon] theorem canon0_0_3 (t : Fin grid0.N) (h0 : cond0_0 (grid0.coords t)) (h1 : cond0_1 (grid0.coords t)) :
    hbM0_0.slice (Rect.unit (s := S8192x1024) ![0, 0] S1040x1024.size inb_S8192x1024_S1040x1024_0_0) (fun _ => rfl) = srcB0_0 (Ring.bk 8 t.val) :=
  congrArg (fun M : Memref sig .tc .hbm S1040x1024 .f32 => M) (Memref.slice_unit_congr _ (coff0_0_3 t h0 h1) _ _ (fun _ => rfl) (fun _ => rfl))
theorem coff0_0_4 : ∀ t : Fin grid0.N, k0_off2 (grid0.coords t) = ![(Ring.sl 2 (t.val + 1)).val, 0, 0] := by decide +kernel
@[sl_canon] theorem canon0_0_4 (t : Fin grid0.N) (h1 : cond0_1 (grid0.coords t)) :
    (scM0_0.slice (Rect.unit (s := S2x1040x1024) (k0_off2 (grid0.coords t)) S1x1040x1024.size (k0_off2_inb (grid0.coords t) h1)) (fun _ => rfl)).squeeze S1040x1024 squeezes_S1x1040x1024_S1040x1024 = rslot0_0 (Ring.sl 2 (t.val + 1)) :=
  congrArg (fun M : Memref sig .tc .vmem S1x1040x1024 .f32 => M.squeeze S1040x1024 squeezes_S1x1040x1024_S1040x1024) (Memref.slice_unit_congr _ (coff0_0_4 t ) _ _ (fun _ => rfl) (fun _ => rfl))
theorem coff0_0_5 : ∀ t : Fin grid0.N, k0_off1 (grid0.coords t) = ![(Ring.sl 2 (t.val + 1)).val, 0] := by decide +kernel
@[sl_canon] theorem canon0_0_5 (t : Fin grid0.N) (h1 : cond0_1 (grid0.coords t)) :
    (cc0_scratch2.slice (Rect.unit (s := S2x2) (k0_off1 (grid0.coords t)) S1x1.size (k0_off1_inb (grid0.coords t) h1))).squeeze S_ squeezes_S1x1_S_ = cellA0_0 (Ring.sl 2 (t.val + 1)) :=
  congrArg (fun A : DmaSems sig S1x1 => A.squeeze S_ squeezes_S1x1_S_) (SemArray.slice_unit_congr _ (coff0_0_5 t ) _ _)
theorem coff0_0_6 : ∀ t : Fin grid0.N, cond0_0 (grid0.coords t) → cond0_1 (grid0.coords t) → k0_off3 (grid0.coords t) = ![8 * (1022 * (Ring.bk 8 (t.val + 1)).val / 8), 0] := by decide +kernel
@[sl_canon] theorem canon0_0_6 (t : Fin grid0.N) (h0 : cond0_0 (grid0.coords t)) (h1 : cond0_1 (grid0.coords t)) :
    hbM0_0.slice (Rect.unit (s := S8192x1024) (k0_off3 (grid0.coords t)) S1040x1024.size (k0_off3_inb (grid0.coords t) h1)) (fun _ => rfl) = srcB0_0 (Ring.bk 8 (t.val + 1)) :=
  congrArg (fun M : Memref sig .tc .hbm S1040x1024 .f32 => M) (Memref.slice_unit_congr _ (coff0_0_6 t h0 h1) _ _ (fun _ => rfl) (fun _ => rfl))
theorem coff0_0_7 : ∀ t : Fin grid0.N, k0_off6 (grid0.coords t) = ![(Ring.sl 2 t.val).val, 0, 0] := by decide +kernel
@[sl_canon] theorem canon0_0_7 (t : Fin grid0.N) :
    (scM0_0.slice (Rect.unit (s := S2x1040x1024) (k0_off6 (grid0.coords t)) S1x1040x1024.size (k0_off6_inb (grid0.coords t))) (fun _ => rfl)).squeeze S1040x1024 squeezes_S1x1040x1024_S1040x1024 = rslot0_0 (Ring.sl 2 t.val) :=
  congrArg (fun M : Memref sig .tc .vmem S1x1040x1024 .f32 => M.squeeze S1040x1024 squeezes_S1x1040x1024_S1040x1024) (Memref.slice_unit_congr _ (coff0_0_7 t ) _ _ (fun _ => rfl) (fun _ => rfl))
theorem coff0_0_8 : ∀ t : Fin grid0.N, k0_off5 (grid0.coords t) = ![(Ring.sl 2 t.val).val, 0] := by decide +kernel
@[sl_canon] theorem canon0_0_8 (t : Fin grid0.N) :
    (cc0_scratch2.slice (Rect.unit (s := S2x2) (k0_off5 (grid0.coords t)) S1x1.size (k0_off5_inb (grid0.coords t)))).squeeze S_ squeezes_S1x1_S_ = cellA0_0 (Ring.sl 2 t.val) :=
  congrArg (fun A : DmaSems sig S1x1 => A.squeeze S_ squeezes_S1x1_S_) (SemArray.slice_unit_congr _ (coff0_0_8 t ) _ _)
theorem coff0_0_9 : ∀ t : Fin grid0.N, ¬cond0_0 (grid0.coords t) → cond0_1 (grid0.coords t) → k0_off3 (grid0.coords t) = ![8 * (1022 * (Ring.bk 8 (t.val + 1)).val / 8), 0] := by decide +kernel
@[sl_canon] theorem canon0_0_9 (t : Fin grid0.N) (h0 : ¬cond0_0 (grid0.coords t)) (h1 : cond0_1 (grid0.coords t)) :
    hbM0_0.slice (Rect.unit (s := S8192x1024) (k0_off3 (grid0.coords t)) S1040x1024.size (k0_off3_inb (grid0.coords t) h1)) (fun _ => rfl) = srcB0_0 (Ring.bk 8 (t.val + 1)) :=
  congrArg (fun M : Memref sig .tc .hbm S1040x1024 .f32 => M) (Memref.slice_unit_congr _ (coff0_0_9 t h0 h1) _ _ (fun _ => rfl) (fun _ => rfl))
theorem coff0_0_10 : ∀ t : Fin grid0.N, k0_off10 (grid0.coords t) = ![(Ring.sl 2 t.val).val, 0, 0] := by decide +kernel
instance (priority := high) closedOff0_0_10 (t : Fin grid0.N) : ClosedOff (k0_off10 (grid0.coords t)) := ⟨![(Ring.sl 2 t.val).val, 0, 0], coff0_0_10 t⟩
theorem coff0_0_11 : ∀ t : Fin grid0.N, k0_off11 (grid0.coords t) = ![(Ring.sl 2 t.val).val, 128, 0] := by decide +kernel
instance (priority := high) closedOff0_0_11 (t : Fin grid0.N) : ClosedOff (k0_off11 (grid0.coords t)) := ⟨![(Ring.sl 2 t.val).val, 128, 0], coff0_0_11 t⟩
theorem coff0_0_12 : ∀ t : Fin grid0.N, k0_off12 (grid0.coords t) = ![(Ring.sl 2 t.val).val, 256, 0] := by decide +kernel
instance (priority := high) closedOff0_0_12 (t : Fin grid0.N) : ClosedOff (k0_off12 (grid0.coords t)) := ⟨![(Ring.sl 2 t.val).val, 256, 0], coff0_0_12 t⟩
theorem coff0_0_13 : ∀ t : Fin grid0.N, k0_off13 (grid0.coords t) = ![(Ring.sl 2 t.val).val, 384, 0] := by decide +kernel
instance (priority := high) closedOff0_0_13 (t : Fin grid0.N) : ClosedOff (k0_off13 (grid0.coords t)) := ⟨![(Ring.sl 2 t.val).val, 384, 0], coff0_0_13 t⟩
theorem coff0_0_14 : ∀ t : Fin grid0.N, k0_off14 (grid0.coords t) = ![(Ring.sl 2 t.val).val, 512, 0] := by decide +kernel
instance (priority := high) closedOff0_0_14 (t : Fin grid0.N) : ClosedOff (k0_off14 (grid0.coords t)) := ⟨![(Ring.sl 2 t.val).val, 512, 0], coff0_0_14 t⟩
theorem coff0_0_15 : ∀ t : Fin grid0.N, k0_off15 (grid0.coords t) = ![(Ring.sl 2 t.val).val, 640, 0] := by decide +kernel
instance (priority := high) closedOff0_0_15 (t : Fin grid0.N) : ClosedOff (k0_off15 (grid0.coords t)) := ⟨![(Ring.sl 2 t.val).val, 640, 0], coff0_0_15 t⟩
theorem coff0_0_16 : ∀ t : Fin grid0.N, k0_off16 (grid0.coords t) = ![(Ring.sl 2 t.val).val, 768, 0] := by decide +kernel
instance (priority := high) closedOff0_0_16 (t : Fin grid0.N) : ClosedOff (k0_off16 (grid0.coords t)) := ⟨![(Ring.sl 2 t.val).val, 768, 0], coff0_0_16 t⟩
theorem coff0_0_17 : ∀ t : Fin grid0.N, k0_off17 (grid0.coords t) = ![(Ring.sl 2 t.val).val, 896, 0] := by decide +kernel
instance (priority := high) closedOff0_0_17 (t : Fin grid0.N) : ClosedOff (k0_off17 (grid0.coords t)) := ⟨![(Ring.sl 2 t.val).val, 896, 0], coff0_0_17 t⟩
end Canon0_0

end Cert.KernelIdeal.Own

end
-- ==== Proof.IdealFrame.RingX.lean ====
/- The two slots of the buffer for the X matrices, as `RingR` for the R matrices. -/
module

public import proofs.«01_k».proof.Proof.IdealFrame.RingR

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Ring 1 of kernel 0: `main_call0_v5` streamed through the 2 slots of `cc0_scratch1` on the cells of `cc0_scratch2`, 1 block ahead, in 8 steps -/

theorem inb_slot0_1 (s : Fin 2) : ∀ a, (![s.val, 0, 0] : Fin 3 → Nat) a + S1x1040x1024.size a ≤ S2x1040x1024.size a := by
  have := s.isLt; intro a; fin_cases a <;> simp <;> omega
theorem inb_src0_1 (b : Fin 8) : ∀ a, (![8 * (1022 * b.val / 8), 0] : Fin 2 → Nat) a + S1040x1024.size a ≤ S8192x1024.size a := by
  have := b.isLt; intro a; fin_cases a <;> simp <;> omega
theorem inb_cell0_1 (s : Fin 2) : ∀ a, (![s.val, 1] : Fin 2 → Nat) a + S1x1.size a ≤ S2x2.size a := by
  have := s.isLt; intro a; fin_cases a <;> simp <;> omega
/-- Slot `s` of the ring, as the destination of the body's copies. -/
def rslot0_1 (s : Fin 2) : Memref sig .tc .vmem S1040x1024 .f32 :=
  (scM0_1.slice (Rect.unit (s := S2x1040x1024) ![s.val, 0, 0] S1x1040x1024.size (inb_slot0_1 s)) (fun _ => rfl)).squeeze S1040x1024 squeezes_S1x1040x1024_S1040x1024
/-- Block `b` of the operand (the block that step `b` waits for), as the source of the body's copies. -/
def srcB0_1 (b : Fin 8) : Memref sig .tc .hbm S1040x1024 .f32 :=
  hbM0_1.slice (Rect.unit (s := S8192x1024) ![8 * (1022 * b.val / 8), 0] S1040x1024.size (inb_src0_1 b)) (fun _ => rfl)
/-- Cell `s` of `cc0_scratch2`, a semaphore; its number. -/
def cellA0_1 (s : Fin 2) : DmaSems sig S_ := (cc0_scratch2.slice (Rect.unit (s := S2x2) ![s.val, 1] S1x1.size (inb_cell0_1 s))).squeeze S_ squeezes_S1x1_S_
abbrev cellR0_1 (s : Fin 2) : SemLoc sig := SemLoc.dma (cellA0_1 s).sem
theorem cellR0_1_0 : cellR0_1 0 = SemLoc.dma 9 := by decide
theorem cellR0_1_1 : cellR0_1 1 = SemLoc.dma 11 := by decide

section Ring0_1
variable (c : Dev nD) (W : HbBuf0 (F := F) c hbM0_1)
/-- The operand is lent BY SHARE, one read-share copy of it per slot (the left and right halves of the full share): whatever
    blocks two transfers in flight stream — the same one twice, two that overlap —, each borrows from its own slot's copy. -/
abbrev qs0_1 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f`; the FLIGHT of block `b` into slot `s`, delivering the slot landed
    and the lent elements back. -/
abbrev slotP0_1 (s : Fin 2) (f : HbBuf0 (F := F) c (rslot0_1 s)) : sProp 𝕄 := (rslot0_1 s).view.loc (c : Thread nD τ) ↦[(rslot0_1 s).view.set]{fullShare} f
abbrev cellP0_1 (s : Fin 2) : sProp 𝕄 := semVal ((c : Thread nD τ), cellR0_1 s) 0
abbrev srcP0_1 (s : Fin 2) (b : Fin 8) : sProp 𝕄 := (srcB0_1 b).view.loc (c : Thread nD τ) ↦[(srcB0_1 b).view.set]{qs0_1 s} W
/-- The rest of slot `s`'s copy of the operand, without block `b`. -/
def restP0_1 (s : Fin 2) (b : Fin 8) : sProp 𝕄 := ((c : Thread nD τ).loc main_call0_v5) ↦[Finset.univ \ (srcB0_1 b).view.set]{qs0_1 s} W
abbrev wholeP0_1 (s : Fin 2) : sProp 𝕄 := ((c : Thread nD τ).loc main_call0_v5) ↦[Finset.univ]{qs0_1 s} W
abbrev landed0_1 (s : Fin 2) (b : Fin 8) (f : HbBuf0 (F := F) c (rslot0_1 s)) : HbBuf0 (F := F) c (rslot0_1 s) :=
  (rslot0_1 s).view.writes (Elt F) f [⟨Rect.whole S1040x1024, ReadAs.same.apply ((srcB0_1 b).view.read (Elt F) W)⟩]
abbrev flightP0_1 (s : Fin 2) (b : Fin 8) (f : HbBuf0 (F := F) c (rslot0_1 s)) : sProp 𝕄 :=
  Transfers.Flight countersEmb (c : Thread nD τ) (cellR0_1 s) default ((rslot0_1 s).view.amount (cellR0_1 s))
    iprop(slotP0_1 c s (landed0_1 c W s b f) ∗ srcP0_1 c W s b)
/-- What a slot carries, in flight or not: a slot not in flight carries its copy of the operand whole; a flight, the
    rest of the copy it borrowed from. -/
abbrev slotW0_1 (s : Fin 2) (f : HbBuf0 (F := F) c (rslot0_1 s)) : sProp 𝕄 := iprop(slotP0_1 c s f ∗ wholeP0_1 c W s)
abbrev flightW0_1 (s : Fin 2) (b : Fin 8) (f : HbBuf0 (F := F) c (rslot0_1 s)) : sProp 𝕄 := iprop(flightP0_1 c W s b f ∗ restP0_1 c W s b)
abbrev noHome0_1 (b : Fin 8) : sProp 𝕄 := iprop(emp)
/-- The ring before its step `k`: every slot free before the first; from then on block `k` in flight
    into slot `k`, slot `k + 1` KEEPING block `k - 1` (landed, readable) until the step starts block `k + 1` over it. -/
def ringAt0_1 (k : ℕ) : sProp 𝕄 :=
  if k = 0 then Ring.At₀ (cellP0_1 c) (slotW0_1 c W) noHome0_1
  else Ring.AtK 1 (cellP0_1 c) (slotW0_1 c W) noHome0_1 (flightW0_1 c W) (landed0_1 c W) k
omit [FloatOps F] in
theorem cellP0_1_0 : cellP0_1 (F := F) c 0 = semVal ((c : Thread nD τ), SemLoc.dma 9) 0 := congrArg (fun x => (semVal ((c : Thread nD τ), x) 0 : sProp 𝕄)) cellR0_1_0
omit [FloatOps F] in
theorem cellP0_1_1 : cellP0_1 (F := F) c 1 = semVal ((c : Thread nD τ), SemLoc.dma 11) 0 := congrArg (fun x => (semVal ((c : Thread nD τ), x) 0 : sProp 𝕄)) cellR0_1_1
end Ring0_1

/-! ### The slots, disjoint and covering the scratch -/

abbrev slotSet0_1 (s : Fin 2) : Finset S2x1040x1024.Idx := (Rect.unit (s := S2x1040x1024) ![s.val, 0, 0] S1x1040x1024.size (inb_slot0_1 s)).set
theorem slotSet0_1_eq (s : Fin 2) : (rslot0_1 s).view.set = slotSet0_1 s := by
  simp only [rslot0_1, Memref.view_squeeze, View.set_reshape]; exact View.set_slice_whole _ _
theorem slots0_1_disjoint (s s' : Fin 2) (h : s ≠ s') : Disjoint (slotSet0_1 s) (slotSet0_1 s') :=
  Ring.lead_disjoint (s := S2x1040x1024) (0 : Fin 3) 1 (fun s : Fin 2 => (![s.val, 0, 0] : Fin 3 → Nat)) S1x1040x1024.size inb_slot0_1 (fun s => by simp) rfl s s' h
theorem slots0_1_cover : Finset.univ.biUnion slotSet0_1 = Finset.univ :=
  Ring.lead_cover (s := S2x1040x1024) (0 : Fin 3) 1 (fun s : Fin 2 => (![s.val, 0, 0] : Fin 3 → Nat)) S1x1040x1024.size inb_slot0_1 (fun s => by simp)
    (fun s a ha => by fin_cases a <;> first | exact absurd rfl ha | rfl) rfl (fun a ha => by fin_cases a <;> first | exact absurd rfl ha | rfl) rfl

/-! ### What the launch hands the ring, and takes back -/

section InOut0_1
variable (c : Dev nD) (W : HbBuf0 (F := F) c hbM0_1)
theorem slotP0_1_eq (s : Fin 2) (f) : slotP0_1 (F := F) c s f = (((c : Thread nD τ).loc cc0_scratch1) ↦[slotSet0_1 s]{fullShare} f : sProp 𝕄) := by
  unfold slotP0_1; rw [slotSet0_1_eq]; rfl
/-- A slot's copy of the operand, whole, is block `b`'s elements and the rest (any `b`: what a run splits off before its step
    starts block `b`, and joins back once the wait returned it); -/
theorem src0_1_split (s : Fin 2) (b : Fin 8) : wholeP0_1 (F := F) c W s ⊣⊢ iprop(srcP0_1 c W s b ∗ restP0_1 c W s b) := by
  unfold restP0_1; exact pointsTo_split_subset (Finset.subset_univ _)
/-- the operand whole at the full share is the two copies. -/
theorem whole0_1_split : (hbPt0 c hbM0_1 W : sProp 𝕄) ⊣⊢ iprop(wholeP0_1 c W 0 ∗ wholeP0_1 c W 1) :=
  pointsTo_share (PosShare.mem_left_op_right fullShare)
set_option maxHeartbeats 1000000 in
/-- the scratch whole at anything is its slots at something each, and back. -/
theorem slots0_1_in : iprop(∃ d, owns (c : Thread nD τ) scM0_1 fullShare d) ⊢ (iprop((∃ f, slotP0_1 (F := F) c 0 f) ∗ ∃ f, slotP0_1 (F := F) c 1 f) : sProp 𝕄) := by
  simp only [scM0_1, owns_whole]
  exact Ring.slots2_split (U := Pipeline.UD sig nD τ) (ℓ := (c : Thread nD τ).loc cc0_scratch1) (q := fullShare) slotSet0_1 slots0_1_disjoint slots0_1_cover
    (slotP0_1 c 0) (slotP0_1 c 1) (slotP0_1_eq c 0) (slotP0_1_eq c 1)
set_option maxHeartbeats 1000000 in
theorem slots0_1_out : (iprop((∃ f, slotP0_1 (F := F) c 0 f) ∗ ∃ f, slotP0_1 (F := F) c 1 f) : sProp 𝕄) ⊢ iprop(∃ d, owns (c : Thread nD τ) scM0_1 fullShare d) := by
  simp only [scM0_1, owns_whole]
  exact Ring.slots2_join (U := Pipeline.UD sig nD τ) (ℓ := (c : Thread nD τ).loc cc0_scratch1) (q := fullShare) slotSet0_1 slots0_1_disjoint slots0_1_cover
    (slotP0_1 c 0) (slotP0_1 c 1) (slotP0_1_eq c 0) (slotP0_1_eq c 1)
end InOut0_1

/-- INTO THE RING: the launch's pieces — the scratch whole, the cells at zero, the operand whole — are the ring before its first step; -/
theorem ring0_1_in (c : Dev nD) :
    iprop((∃ d, owns (c : Thread nD τ) scM0_1 fullShare d) ∗ (semVal ((c : Thread nD τ), SemLoc.dma 9) 0 ∗ semVal ((c : Thread nD τ), SemLoc.dma 11) 0) ∗ hbPt0 c hbM0_1 (V m c main_call0_v5))
      ⊢ ringAt0_1 c (V m c main_call0_v5) 0 := by
  unfold ringAt0_1; rw [if_pos rfl]; unfold Ring.At₀
  rw [Ring.bigSep_fin2]
  simp only [Ring.free, cellP0_1_0, cellP0_1_1]
  iintro ⟨HS, Hc, HW⟩
  iapply Ring.with_homes₀
  icases Hc with ⟨H0, H1⟩
  ihave HS' := (slots0_1_in (F := F) c) $$ HS
  icases HS' with ⟨⟨%d0, HS0⟩, ⟨%d1, HS1⟩⟩
  ihave HW' := (whole0_1_split (F := F) c (V m c main_call0_v5)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_1_out (c : Dev nD) :
    ringAt0_1 c (V m c main_call0_v5) 8
      ⊢ iprop((∃ d, owns (c : Thread nD τ) scM0_1 fullShare d) ∗ (semVal ((c : Thread nD τ), SemLoc.dma 9) 0 ∗ semVal ((c : Thread nD τ), SemLoc.dma 11) 0) ∗ hbPt0 c hbM0_1 (V m c main_call0_v5)) := by
  unfold ringAt0_1; rw [if_neg (by decide)]
  iintro H
  ihave H' := (Ring.free2_of_AtK_last _ _ _ _ _) $$ H
  simp only [Ring.free, cellP0_1_0, cellP0_1_1]
  icases H' with ⟨-, ⟨H0, ⟨%f0, HS0, HW0⟩⟩, ⟨H1, ⟨%f1, HS1, HW1⟩⟩⟩
  isplitl [HS0 HS1]
  · iapply (slots0_1_out (F := F) c); isplitl [HS0]; · iexists f0; iexact HS0
    iexists f1; iexact HS1
  isplitl [H0 H1]
  · isplitl [H0]; · iexact H0
    iexact H1
  · iapply (whole0_1_split (F := F) c (V m c main_call0_v5)).2; isplitl [HW0]; · iexact HW0
    iexact HW1

/-! ### Ring 1's steps at each case's points, and its canonical names: the body's operands at point `t` are the ring's slots, blocks and cells -/

section Canon0_1
omit [FloatOps F]
/-- At the points of case A the ring takes its FIRST step. -/
theorem rstep0_1_A : ∀ t : Fin grid0.N, cond0_0 (grid0.coords t) → cond0_1 (grid0.coords t) → t.val = 0 ∧ (t.val + 1) = 1 := by decide +kernel
/-- At the points of case B the ring takes a step, a block still to start. -/
theorem rstep0_1_B : ∀ t : Fin grid0.N, ¬cond0_0 (grid0.coords t) → cond0_1 (grid0.coords t) → 1 ≤ t.val ∧ t.val + 1 < 8 ∧ (t.val + 1) = t.val + 1 := by decide +kernel
/-- At the points of case C the ring takes its LAST step. -/
theorem rstep0_1_C : ∀ t : Fin grid0.N, ¬cond0_0 (grid0.coords t) → ¬cond0_1 (grid0.coords t) → 1 ≤ t.val ∧ t.val + 1 = 8 ∧ (t.val + 1) = t.val + 1 := by decide +kernel
theorem coff0_1_1 : ∀ t : Fin grid0.N, cond0_0 (grid0.coords t) → cond0_1 (grid0.coords t) → (![0, 0, 0] : Fin 3 → Nat) = ![(Ring.sl 2 t.val).val, 0, 0] := by decide +kernel
@[sl_canon] theorem canon0_1_1 (t : Fin grid0.N) (h0 : cond0_0 (grid0.coords t)) (h1 : cond0_1 (grid0.coords t)) :
    (scM0_1.slice (Rect.unit (s := S2x1040x1024) ![0, 0, 0] S1x1040x1024.size inb_S2x1040x1024_S1x1040x1024_0_0_0) (fun _ => rfl)).squeeze S1040x1024 squeezes_S1x1040x1024_S1040x1024 = rslot0_1 (Ring.sl 2 t.val) :=
  congrArg (fun M : Memref sig .tc .vmem S1x1040x1024 .f32 => M.squeeze S1040x1024 squeezes_S1x1040x1024_S1040x1024) (Memref.slice_unit_congr _ (coff0_1_1 t h0 h1) _ _ (fun _ => rfl) (fun _ => rfl))
theorem coff0_1_2 : ∀ t : Fin grid0.N, cond0_0 (grid0.coords t) → cond0_1 (grid0.coords t) → (![0, 1] : Fin 2 → Nat) = ![(Ring.sl 2 t.val).val, 1] := by decide +kernel
@[sl_canon] theorem canon0_1_2 (t : Fin grid0.N) (h0 : cond0_0 (grid0.coords t)) (h1 : cond0_1 (grid0.coords t)) :
    (cc0_scratch2.slice (Rect.unit (s := S2x2) ![0, 1] S1x1.size inb_S2x2_S1x1_0_1)).squeeze S_ squeezes_S1x1_S_ = cellA0_1 (Ring.sl 2 t.val) :=
  congrArg (fun A : DmaSems sig S1x1 => A.squeeze S_ squeezes_S1x1_S_) (SemArray.slice_unit_congr _ (coff0_1_2 t h0 h1) _ _)
theorem coff0_1_3 : ∀ t : Fin grid0.N, cond0_0 (grid0.coords t) → cond0_1 (grid0.coords t) → (![0, 0] : Fin 2 → Nat) = ![8 * (1022 * (Ring.bk 8 t.val).val / 8), 0] := by decide +kernel
@[sl_canon] theorem canon0_1_3 (t : Fin grid0.N) (h0 : cond0_0 (grid0.coords t)) (h1 : cond0_1 (grid0.coords t)) :
    hbM0_1.slice (Rect.unit (s := S8192x1024) ![0, 0] S1040x1024.size inb_S8192x1024_S1040x1024_0_0) (fun _ => rfl) = srcB0_1 (Ring.bk 8 t.val) :=
  congrArg (fun M : Memref sig .tc .hbm S1040x1024 .f32 => M) (Memref.slice_unit_congr _ (coff0_1_3 t h0 h1) _ _ (fun _ => rfl) (fun _ => rfl))
theorem coff0_1_4 : ∀ t : Fin grid0.N, k0_off2 (grid0.coords t) = ![(Ring.sl 2 (t.val + 1)).val, 0, 0] := by decide +kernel
@[sl_canon] theorem canon0_1_4 (t : Fin grid0.N) (h1 : cond0_1 (grid0.coords t)) :
    (scM0_1.slice (Rect.unit (s := S2x1040x1024) (k0_off2 (grid0.coords t)) S1x1040x1024.size (k0_off2_inb (grid0.coords t) h1)) (fun _ => rfl)).squeeze S1040x1024 squeezes_S1x1040x1024_S1040x1024 = rslot0_1 (Ring.sl 2 (t.val + 1)) :=
  congrArg (fun M : Memref sig .tc .vmem S1x1040x1024 .f32 => M.squeeze S1040x1024 squeezes_S1x1040x1024_S1040x1024) (Memref.slice_unit_congr _ (coff0_1_4 t ) _ _ (fun _ => rfl) (fun _ => rfl))
theorem coff0_1_5 : ∀ t : Fin grid0.N, k0_off4 (grid0.coords t) = ![(Ring.sl 2 (t.val + 1)).val, 1] := by decide +kernel
@[sl_canon] theorem canon0_1_5 (t : Fin grid0.N) (h1 : cond0_1 (grid0.coords t)) :
    (cc0_scratch2.slice (Rect.unit (s := S2x2) (k0_off4 (grid0.coords t)) S1x1.size (k0_off4_inb (grid0.coords t) h1))).squeeze S_ squeezes_S1x1_S_ = cellA0_1 (Ring.sl 2 (t.val + 1)) :=
  congrArg (fun A : DmaSems sig S1x1 => A.squeeze S_ squeezes_S1x1_S_) (SemArray.slice_unit_congr _ (coff0_1_5 t ) _ _)
theorem coff0_1_6 : ∀ t : Fin grid0.N, cond0_0 (grid0.coords t) → cond0_1 (grid0.coords t) → k0_off3 (grid0.coords t) = ![8 * (1022 * (Ring.bk 8 (t.val + 1)).val / 8), 0] := by decide +kernel
@[sl_canon] theorem canon0_1_6 (t : Fin grid0.N) (h0 : cond0_0 (grid0.coords t)) (h1 : cond0_1 (grid0.coords t)) :
    hbM0_1.slice (Rect.unit (s := S8192x1024) (k0_off3 (grid0.coords t)) S1040x1024.size (k0_off3_inb (grid0.coords t) h1)) (fun _ => rfl) = srcB0_1 (Ring.bk 8 (t.val + 1)) :=
  congrArg (fun M : Memref sig .tc .hbm S1040x1024 .f32 => M) (Memref.slice_unit_congr _ (coff0_1_6 t h0 h1) _ _ (fun _ => rfl) (fun _ => rfl))
theorem coff0_1_7 : ∀ t : Fin grid0.N, k0_off6 (grid0.coords t) = ![(Ring.sl 2 t.val).val, 0, 0] := by decide +kernel
@[sl_canon] theorem canon0_1_7 (t : Fin grid0.N) :
    (scM0_1.slice (Rect.unit (s := S2x1040x1024) (k0_off6 (grid0.coords t)) S1x1040x1024.size (k0_off6_inb (grid0.coords t))) (fun _ => rfl)).squeeze S1040x1024 squeezes_S1x1040x1024_S1040x1024 = rslot0_1 (Ring.sl 2 t.val) :=
  congrArg (fun M : Memref sig .tc .vmem S1x1040x1024 .f32 => M.squeeze S1040x1024 squeezes_S1x1040x1024_S1040x1024) (Memref.slice_unit_congr _ (coff0_1_7 t ) _ _ (fun _ => rfl) (fun _ => rfl))
theorem coff0_1_8 : ∀ t : Fin grid0.N, k0_off8 (grid0.coords t) = ![(Ring.sl 2 t.val).val, 1] := by decide +kernel
@[sl_canon] theorem canon0_1_8 (t : Fin grid0.N) :
    (cc0_scratch2.slice (Rect.unit (s := S2x2) (k0_off8 (grid0.coords t)) S1x1.size (k0_off8_inb (grid0.coords t)))).squeeze S_ squeezes_S1x1_S_ = cellA0_1 (Ring.sl 2 t.val) :=
  congrArg (fun A : DmaSems sig S1x1 => A.squeeze S_ squeezes_S1x1_S_) (SemArray.slice_unit_congr _ (coff0_1_8 t ) _ _)
theorem coff0_1_9 : ∀ t : Fin grid0.N, ¬cond0_0 (grid0.coords t) → cond0_1 (grid0.coords t) → k0_off3 (grid0.coords t) = ![8 * (1022 * (Ring.bk 8 (t.val + 1)).val / 8), 0] := by decide +kernel
@[sl_canon] theorem canon0_1_9 (t : Fin grid0.N) (h0 : ¬cond0_0 (grid0.coords t)) (h1 : cond0_1 (grid0.coords t)) :
    hbM0_1.slice (Rect.unit (s := S8192x1024) (k0_off3 (grid0.coords t)) S1040x1024.size (k0_off3_inb (grid0.coords t) h1)) (fun _ => rfl) = srcB0_1 (Ring.bk 8 (t.val + 1)) :=
  congrArg (fun M : Memref sig .tc .hbm S1040x1024 .f32 => M) (Memref.slice_unit_congr _ (coff0_1_9 t h0 h1) _ _ (fun _ => rfl) (fun _ => rfl))
theorem coff0_1_10 : ∀ t : Fin grid0.N, k0_off10 (grid0.coords t) = ![(Ring.sl 2 t.val).val, 0, 0] := by decide +kernel
instance (priority := high) closedOff0_1_10 (t : Fin grid0.N) : ClosedOff (k0_off10 (grid0.coords t)) := ⟨![(Ring.sl 2 t.val).val, 0, 0], coff0_1_10 t⟩
theorem coff0_1_11 : ∀ t : Fin grid0.N, k0_off11 (grid0.coords t) = ![(Ring.sl 2 t.val).val, 128, 0] := by decide +kernel
instance (priority := high) closedOff0_1_11 (t : Fin grid0.N) : ClosedOff (k0_off11 (grid0.coords t)) := ⟨![(Ring.sl 2 t.val).val, 128, 0], coff0_1_11 t⟩
theorem coff0_1_12 : ∀ t : Fin grid0.N, k0_off12 (grid0.coords t) = ![(Ring.sl 2 t.val).val, 256, 0] := by decide +kernel
instance (priority := high) closedOff0_1_12 (t : Fin grid0.N) : ClosedOff (k0_off12 (grid0.coords t)) := ⟨![(Ring.sl 2 t.val).val, 256, 0], coff0_1_12 t⟩
theorem coff0_1_13 : ∀ t : Fin grid0.N, k0_off13 (grid0.coords t) = ![(Ring.sl 2 t.val).val, 384, 0] := by decide +kernel
instance (priority := high) closedOff0_1_13 (t : Fin grid0.N) : ClosedOff (k0_off13 (grid0.coords t)) := ⟨![(Ring.sl 2 t.val).val, 384, 0], coff0_1_13 t⟩
theorem coff0_1_14 : ∀ t : Fin grid0.N, k0_off14 (grid0.coords t) = ![(Ring.sl 2 t.val).val, 512, 0] := by decide +kernel
instance (priority := high) closedOff0_1_14 (t : Fin grid0.N) : ClosedOff (k0_off14 (grid0.coords t)) := ⟨![(Ring.sl 2 t.val).val, 512, 0], coff0_1_14 t⟩
theorem coff0_1_15 : ∀ t : Fin grid0.N, k0_off15 (grid0.coords t) = ![(Ring.sl 2 t.val).val, 640, 0] := by decide +kernel
instance (priority := high) closedOff0_1_15 (t : Fin grid0.N) : ClosedOff (k0_off15 (grid0.coords t)) := ⟨![(Ring.sl 2 t.val).val, 640, 0], coff0_1_15 t⟩
theorem coff0_1_16 : ∀ t : Fin grid0.N, k0_off16 (grid0.coords t) = ![(Ring.sl 2 t.val).val, 768, 0] := by decide +kernel
instance (priority := high) closedOff0_1_16 (t : Fin grid0.N) : ClosedOff (k0_off16 (grid0.coords t)) := ⟨![(Ring.sl 2 t.val).val, 768, 0], coff0_1_16 t⟩
theorem coff0_1_17 : ∀ t : Fin grid0.N, k0_off17 (grid0.coords t) = ![(Ring.sl 2 t.val).val, 896, 0] := by decide +kernel
instance (priority := high) closedOff0_1_17 (t : Fin grid0.N) : ClosedOff (k0_off17 (grid0.coords t)) := ⟨![(Ring.sl 2 t.val).val, 896, 0], coff0_1_17 t⟩
end Canon0_1

end Cert.KernelIdeal.Own

end
-- ==== Proof.IdealFrame.RunA.lean ====
/- The kernel's body run once at the first point (both branches taken: it starts block 0 and block 1, and waits for block 0). -/
module

public import proofs.«01_k».proof.Proof.IdealFrame.RingX

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at the first point (both branches taken: it starts block 0 and block 1, and waits for block 0): on the inputs' staging buffers at their contents, the output's at anything, and the slots
    as the point finds them, it runs to the end; the inputs are as before, the slots as the next point takes them, and the
    output's buffer holds the pieces `L4` that the run stored. -/
noncomputable def kernelRun0_A (c : Dev nD) (t : Fin cfg0.N) (arg1 : Memref sig .tc .smem S6 .f32) (harg1 : arg1.IsWhole) (arg2 : Memref sig .tc .smem S8 .f32) (harg2 : arg2.IsWhole) (arg3 : Memref sig .tc .vmem S1x2x1024 .f32) (harg3 : arg3.IsWhole) (arg4 : Memref sig .tc .vmem S1x8x128 .f32) (harg4 : arg4.IsWhole) (arg7 : Memref sig .tc .vmem S1x8x128 .f32) (harg7 : arg7.IsWhole) (hc0 : cond0_0 (grid0.coords t)) (hc1 : cond0_1 (grid0.coords t))
    (x0 : Vec F S6 .f32) (x1 : Vec F S8 .f32) (x2 : Vec F S1x2x1024 .f32) (x3 : Vec F S1x8x128 .f32) (fh0 : HbBuf0 (F := F) c hbM0_0) (fh1 : HbBuf0 (F := F) c hbM0_1) :
    { L4 : List (View.Piece (Elt F) S1x8x128 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ Ring.free (cellP0_0 c) (slotW0_0 c fh0) (Ring.sl 2 t.val) ∗ Ring.free (cellP0_0 c) (slotW0_0 c fh0) (Ring.sl 2 (t.val + 1)) ∗ Ring.free (cellP0_1 c) (slotW0_1 c fh1) (Ring.sl 2 t.val) ∗ Ring.free (cellP0_1 c) (slotW0_1 c fh1) (Ring.sl 2 (t.val + 1)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ Ring.inflight (flightW0_0 c fh0) (Ring.sl 2 (t.val + 1)) (Ring.bk 8 (t.val + 1)) ∗ Ring.kept (cellP0_0 c) (slotW0_0 c fh0) (landed0_0 c fh0) (Ring.sl 2 t.val) (Ring.bk 8 t.val) ∗ Ring.inflight (flightW0_1 c fh1) (Ring.sl 2 (t.val + 1)) (Ring.bk 8 (t.val + 1)) ∗ Ring.kept (cellP0_1 c) (slotW0_1 c fh1) (landed0_1 c fh1) (Ring.sl 2 t.val) (Ring.bk 8 t.val) ∗ (∃ W', owes (c : Thread nD τ) 0 W')) -∗ K ⟨⟩))
          ⊢ wp frame (wpE (defs₀ (F := F)) Variants.none c none) Set.univ (cc0__body (grid0.coords t) arg1 harg1 arg2 harg2 arg3 harg3 arg4 harg4 (Memref.whole main_call0_v3) (Memref.isWhole_whole _) (Memref.whole main_call0_v5) (Memref.isWhole_whole _) arg7 harg7 scM0_0 (Memref.isWhole_whole _) scM0_1 (Memref.isWhole_whole _) cc0_scratch2) K } := by
  refine ⟨?_, fun W K => ?run⟩
  case run =>
    haveI : Fact (cond0_0 (grid0.coords t)) := ⟨hc0⟩
    haveI : Fact (cond0_1 (grid0.coords t)) := ⟨hc1⟩
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    have hcanon0 := canon0_0_1 t hc0 hc1
    have hcanon1 := canon0_0_2 t hc0 hc1
    have hcanon2 := canon0_0_3 t hc0 hc1
    have hcanon3 := canon0_1_1 t hc0 hc1
    have hcanon4 := canon0_1_2 t hc0 hc1
    have hcanon5 := canon0_1_3 t hc0 hc1
    unfold owns Ring.free Ring.inflight Ring.kept
    iintro ⟨⟨%f0, %hf0, H0⟩, ⟨%f1, %hf1, H1⟩, ⟨%f2, %hf2, H2⟩, ⟨%f3, %hf3, H3⟩, ⟨%d4, %f4, -, H4⟩, ⟨Hc0_0_0, ⟨%fs0_0_0, Hs0_0_0, Hw0_0_0⟩⟩, ⟨Hc0_0_1, ⟨%fs0_0_1, Hs0_0_1, Hw0_0_1⟩⟩, ⟨Hc0_1_0, ⟨%fs0_1_0, Hs0_1_0, Hw0_1_0⟩⟩, ⟨Hc0_1_1, ⟨%fs0_1_1, Hs0_1_1, Hw0_1_1⟩⟩, HW, Hk⟩
    ihave Hsp0_0_0 := (src0_0_split c fh0 (Ring.sl 2 t.val) (Ring.bk 8 t.val)).1 $$ Hw0_0_0
    icases Hsp0_0_0 with ⟨Hh0_0_0, Hr0_0_0⟩
    ihave Hsp0_0_1 := (src0_0_split c fh0 (Ring.sl 2 (t.val + 1)) (Ring.bk 8 (t.val + 1))).1 $$ Hw0_0_1
    icases Hsp0_0_1 with ⟨Hh0_0_1, Hr0_0_1⟩
    ihave Hsp0_1_0 := (src0_1_split c fh1 (Ring.sl 2 t.val) (Ring.bk 8 t.val)).1 $$ Hw0_1_0
    icases Hsp0_1_0 with ⟨Hh0_1_0, Hr0_1_0⟩
    ihave Hsp0_1_1 := (src0_1_split c fh1 (Ring.sl 2 (t.val + 1)) (Ring.bk 8 (t.val + 1))).1 $$ Hw0_1_1
    icases Hsp0_1_1 with ⟨Hh0_1_1, Hr0_1_1⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 2 t.val) (Ring.bk 8 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_0 Hs0_1_0 Hh0_1_0 Hr0_1_0]
    · isplitl [Hc0_1_0]; · iexact Hc0_1_0
      iexists _; isplitl [Hs0_1_0]; · iexact Hs0_1_0
      iapply (src0_1_split c fh1 (Ring.sl 2 t.val) (Ring.bk 8 t.val)).2; isplitl [Hh0_1_0]; · iexact Hh0_1_0
      iexact Hr0_1_0
    iexists _; iexact HW

end Cert.KernelIdeal.Own

end
-- ==== Proof.IdealFrame.RunB.lean ====
/- The kernel's body run once at the points 1 to 6 (it starts the next block and waits for its own). -/
module

public import proofs.«01_k».proof.Proof.IdealFrame.RunA

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at the points 1 to 6 (it starts the next block and waits for its own): on the inputs' staging buffers at their contents, the output's at anything, and the slots
    as the point finds them, it runs to the end; the inputs are as before, the slots as the next point takes them, and the
    output's buffer holds the pieces `L4` that the run stored. -/
noncomputable def kernelRun0_B (c : Dev nD) (t : Fin cfg0.N) (arg1 : Memref sig .tc .smem S6 .f32) (harg1 : arg1.IsWhole) (arg2 : Memref sig .tc .smem S8 .f32) (harg2 : arg2.IsWhole) (arg3 : Memref sig .tc .vmem S1x2x1024 .f32) (harg3 : arg3.IsWhole) (arg4 : Memref sig .tc .vmem S1x8x128 .f32) (harg4 : arg4.IsWhole) (arg7 : Memref sig .tc .vmem S1x8x128 .f32) (harg7 : arg7.IsWhole) (hc0 : ¬cond0_0 (grid0.coords t)) (hc1 : cond0_1 (grid0.coords t))
    (x0 : Vec F S6 .f32) (x1 : Vec F S8 .f32) (x2 : Vec F S1x2x1024 .f32) (x3 : Vec F S1x8x128 .f32) (fh0 : HbBuf0 (F := F) c hbM0_0) (fh1 : HbBuf0 (F := F) c hbM0_1) :
    { L4 : List (View.Piece (Elt F) S1x8x128 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ Ring.inflight (flightW0_0 c fh0) (Ring.sl 2 t.val) (Ring.bk 8 t.val) ∗ Ring.kept (cellP0_0 c) (slotW0_0 c fh0) (landed0_0 c fh0) (Ring.sl 2 (t.val + 1)) (Ring.bk 8 (t.val - 1)) ∗ Ring.inflight (flightW0_1 c fh1) (Ring.sl 2 t.val) (Ring.bk 8 t.val) ∗ Ring.kept (cellP0_1 c) (slotW0_1 c fh1) (landed0_1 c fh1) (Ring.sl 2 (t.val + 1)) (Ring.bk 8 (t.val - 1)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ Ring.inflight (flightW0_0 c fh0) (Ring.sl 2 (t.val + 1)) (Ring.bk 8 (t.val + 1)) ∗ Ring.kept (cellP0_0 c) (slotW0_0 c fh0) (landed0_0 c fh0) (Ring.sl 2 t.val) (Ring.bk 8 t.val) ∗ Ring.inflight (flightW0_1 c fh1) (Ring.sl 2 (t.val + 1)) (Ring.bk 8 (t.val + 1)) ∗ Ring.kept (cellP0_1 c) (slotW0_1 c fh1) (landed0_1 c fh1) (Ring.sl 2 t.val) (Ring.bk 8 t.val) ∗ (∃ W', owes (c : Thread nD τ) 0 W')) -∗ K ⟨⟩))
          ⊢ wp frame (wpE (defs₀ (F := F)) Variants.none c none) Set.univ (cc0__body (grid0.coords t) arg1 harg1 arg2 harg2 arg3 harg3 arg4 harg4 (Memref.whole main_call0_v3) (Memref.isWhole_whole _) (Memref.whole main_call0_v5) (Memref.isWhole_whole _) arg7 harg7 scM0_0 (Memref.isWhole_whole _) scM0_1 (Memref.isWhole_whole _) cc0_scratch2) K } := by
  refine ⟨?_, fun W K => ?run⟩
  case run =>
    haveI : Fact (¬cond0_0 (grid0.coords t)) := ⟨hc0⟩
    haveI : Fact (cond0_1 (grid0.coords t)) := ⟨hc1⟩
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns Ring.inflight Ring.kept
    iintro ⟨⟨%f0, %hf0, H0⟩, ⟨%f1, %hf1, H1⟩, ⟨%f2, %hf2, H2⟩, ⟨%f3, %hf3, H3⟩, ⟨%d4, %f4, -, H4⟩, ⟨%ff0_0, Hf0_0, Hrf0_0⟩, ⟨Hc0_0_1, ⟨%fs0_0_1, Hs0_0_1, Hw0_0_1⟩⟩, ⟨%ff0_1, Hf0_1, Hrf0_1⟩, ⟨Hc0_1_1, ⟨%fs0_1_1, Hs0_1_1, Hw0_1_1⟩⟩, HW, Hk⟩
    ihave Hsp0_0_1 := (src0_0_split c fh0 (Ring.sl 2 (t.val + 1)) (Ring.bk 8 (t.val + 1))).1 $$ Hw0_0_1
    icases Hsp0_0_1 with ⟨Hh0_0_1, Hr0_0_1⟩
    ihave Hsp0_1_1 := (src0_1_split c fh1 (Ring.sl 2 (t.val + 1)) (Ring.bk 8 (t.val + 1))).1 $$ Hw0_1_1
    icases Hsp0_1_1 with ⟨Hh0_1_1, Hr0_1_1⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 8 t.val)).2; isplitl [Hf0_0_src]; · iexact Hf0_0_src
      iexact Hrf0_0
    isplitl [Hc0_1_1 Hr0_1_1]
    · iexists _; isplitl [Hc0_1_1]; · iexact Hc0_1_1
      iexact Hr0_1_1
    isplitl [Hf0_1 Hf0_1_dst Hf0_1_src Hrf0_1]
    · isplitl [Hf0_1]; · iexact Hf0_1
      iexists _; isplitl [Hf0_1_dst]; · iexact Hf0_1_dst
      iapply (src0_1_split c fh1 (Ring.sl 2 t.val) (Ring.bk 8 t.val)).2; isplitl [Hf0_1_src]; · iexact Hf0_1_src
      iexact Hrf0_1
    iexists _; iexact HW

end Cert.KernelIdeal.Own

end
-- ==== Proof.IdealFrame.RunC.lean ====
/- The kernel's body run once at the last point (it only waits for its own block). -/
module

public import proofs.«01_k».proof.Proof.IdealFrame.RunB

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at the last point (it only waits for its own block): on the inputs' staging buffers at their contents, the output's at anything, and the slots
    as the point finds them, it runs to the end; the inputs are as before, the slots as the next point takes them, and the
    output's buffer holds the pieces `L4` that the run stored. -/
noncomputable def kernelRun0_C (c : Dev nD) (t : Fin cfg0.N) (arg1 : Memref sig .tc .smem S6 .f32) (harg1 : arg1.IsWhole) (arg2 : Memref sig .tc .smem S8 .f32) (harg2 : arg2.IsWhole) (arg3 : Memref sig .tc .vmem S1x2x1024 .f32) (harg3 : arg3.IsWhole) (arg4 : Memref sig .tc .vmem S1x8x128 .f32) (harg4 : arg4.IsWhole) (arg7 : Memref sig .tc .vmem S1x8x128 .f32) (harg7 : arg7.IsWhole) (hc0 : ¬cond0_0 (grid0.coords t)) (hc1 : ¬cond0_1 (grid0.coords t))
    (x0 : Vec F S6 .f32) (x1 : Vec F S8 .f32) (x2 : Vec F S1x2x1024 .f32) (x3 : Vec F S1x8x128 .f32) (fh0 : HbBuf0 (F := F) c hbM0_0) (fh1 : HbBuf0 (F := F) c hbM0_1) :
    { L4 : List (View.Piece (Elt F) S1x8x128 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ Ring.inflight (flightW0_0 c fh0) (Ring.sl 2 t.val) (Ring.bk 8 t.val) ∗ Ring.inflight (flightW0_1 c fh1) (Ring.sl 2 t.val) (Ring.bk 8 t.val) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ Ring.kept (cellP0_0 c) (slotW0_0 c fh0) (landed0_0 c fh0) (Ring.sl 2 t.val) (Ring.bk 8 t.val) ∗ Ring.kept (cellP0_1 c) (slotW0_1 c fh1) (landed0_1 c fh1) (Ring.sl 2 t.val) (Ring.bk 8 t.val) ∗ (∃ W', owes (c : Thread nD τ) 0 W')) -∗ K ⟨⟩))
          ⊢ wp frame (wpE (defs₀ (F := F)) Variants.none c none) Set.univ (cc0__body (grid0.coords t) arg1 harg1 arg2 harg2 arg3 harg3 arg4 harg4 (Memref.whole main_call0_v3) (Memref.isWhole_whole _) (Memref.whole main_call0_v5) (Memref.isWhole_whole _) arg7 harg7 scM0_0 (Memref.isWhole_whole _) scM0_1 (Memref.isWhole_whole _) cc0_scratch2) K } := by
  refine ⟨?_, fun W K => ?run⟩
  case run =>
    haveI : Fact (¬cond0_0 (grid0.coords t)) := ⟨hc0⟩
    haveI : Fact (¬cond0_1 (grid0.coords t)) := ⟨hc1⟩
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns Ring.inflight Ring.kept
    iintro ⟨⟨%f0, %hf0, H0⟩, ⟨%f1, %hf1, H1⟩, ⟨%f2, %hf2, H2⟩, ⟨%f3, %hf3, H3⟩, ⟨%d4, %f4, -, H4⟩, ⟨%ff0_0, Hf0_0, Hrf0_0⟩, ⟨%ff0_1, Hf0_1, Hrf0_1⟩, HW, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 8 t.val)).2; isplitl [Hf0_0_src]; · iexact Hf0_0_src
      iexact Hrf0_0
    isplitl [Hf0_1 Hf0_1_dst Hf0_1_src Hrf0_1]
    · isplitl [Hf0_1]; · iexact Hf0_1
      iexists _; isplitl [Hf0_1_dst]; · iexact Hf0_1_dst
      iapply (src0_1_split c fh1 (Ring.sl 2 t.val) (Ring.bk 8 t.val)).2; isplitl [Hf0_1_src]; · iexact Hf0_1_src
      iexact Hrf0_1
    iexists _; iexact HW

end Cert.KernelIdeal.Own

end
-- ==== Proof.IdealFrame.Out.lean ====
/- What the ideal kernel's body leaves in the output's block at each grid point, and the launch's proof data built from it. -/
module

public import proofs.«01_k».proof.Proof.IdealFrame.RunC

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The eight rows stored at the first point tile the output's block. -/
theorem cover0_A_4 (c : Dev nD) (t : Fin cfg0.N) (arg1 : Memref sig .tc .smem S6 .f32) (harg1 : arg1.IsWhole) (arg2 : Memref sig .tc .smem S8 .f32) (harg2 : arg2.IsWhole) (arg3 : Memref sig .tc .vmem S1x2x1024 .f32) (harg3 : arg3.IsWhole) (arg4 : Memref sig .tc .vmem S1x8x128 .f32) (harg4 : arg4.IsWhole) (arg7 : Memref sig .tc .vmem S1x8x128 .f32) (harg7 : arg7.IsWhole) (hc0 : cond0_0 (grid0.coords t)) (hc1 : cond0_1 (grid0.coords t))
    (x0 : Vec F S6 .f32) (x1 : Vec F S8 .f32) (x2 : Vec F S1x2x1024 .f32) (x3 : Vec F S1x8x128 .f32) (fh0 : HbBuf0 (F := F) c hbM0_0) (fh1 : HbBuf0 (F := F) c hbM0_1) (y : S1x8x128.Idx) :
    ∃ pc ∈ (kernelRun0_A c t arg1 harg1 arg2 harg2 arg3 harg3 arg4 harg4 arg7 harg7 hc0 hc1 x0 x1 x2 x3 fh0 fh1).1, y ∈ pc.1.set :=
  View.cover_of_tiledL (kernelRun0_A c t arg1 harg1 arg2 harg2 arg3 harg3 arg4 harg4 arg7 harg7 hc0 hc1 x0 x1 x2 x3 fh0 fh1).1 S1x1x128.size (by sl_kernel_rfl) y

/-- What the body leaves at the first point in the output's staging buffer. -/
def out0_A_4 (c : Dev nD) (t : Fin cfg0.N) (arg1 : Memref sig .tc .smem S6 .f32) (harg1 : arg1.IsWhole) (arg2 : Memref sig .tc .smem S8 .f32) (harg2 : arg2.IsWhole) (arg3 : Memref sig .tc .vmem S1x2x1024 .f32) (harg3 : arg3.IsWhole) (arg4 : Memref sig .tc .vmem S1x8x128 .f32) (harg4 : arg4.IsWhole) (arg7 : Memref sig .tc .vmem S1x8x128 .f32) (harg7 : arg7.IsWhole) (hc0 : cond0_0 (grid0.coords t)) (hc1 : cond0_1 (grid0.coords t))
    (x0 : Vec F S6 .f32) (x1 : Vec F S8 .f32) (x2 : Vec F S1x2x1024 .f32) (x3 : Vec F S1x8x128 .f32) (fh0 : HbBuf0 (F := F) c hbM0_0) (fh1 : HbBuf0 (F := F) c hbM0_1) : Vec F S1x8x128 .f32 :=
  VO0_4.read (Elt F) (VO0_4.writes (Elt F) VO0_4.junk (kernelRun0_A c t arg1 harg1 arg2 harg2 arg3 harg3 arg4 harg4 arg7 harg7 hc0 hc1 x0 x1 x2 x3 fh0 fh1).1)

/-- The eight rows stored at the points 1 to 6 tile the output's block. -/
theorem cover0_B_4 (c : Dev nD) (t : Fin cfg0.N) (arg1 : Memref sig .tc .smem S6 .f32) (harg1 : arg1.IsWhole) (arg2 : Memref sig .tc .smem S8 .f32) (harg2 : arg2.IsWhole) (arg3 : Memref sig .tc .vmem S1x2x1024 .f32) (harg3 : arg3.IsWhole) (arg4 : Memref sig .tc .vmem S1x8x128 .f32) (harg4 : arg4.IsWhole) (arg7 : Memref sig .tc .vmem S1x8x128 .f32) (harg7 : arg7.IsWhole) (hc0 : ¬cond0_0 (grid0.coords t)) (hc1 : cond0_1 (grid0.coords t))
    (x0 : Vec F S6 .f32) (x1 : Vec F S8 .f32) (x2 : Vec F S1x2x1024 .f32) (x3 : Vec F S1x8x128 .f32) (fh0 : HbBuf0 (F := F) c hbM0_0) (fh1 : HbBuf0 (F := F) c hbM0_1) (y : S1x8x128.Idx) :
    ∃ pc ∈ (kernelRun0_B c t arg1 harg1 arg2 harg2 arg3 harg3 arg4 harg4 arg7 harg7 hc0 hc1 x0 x1 x2 x3 fh0 fh1).1, y ∈ pc.1.set :=
  View.cover_of_tiledL (kernelRun0_B c t arg1 harg1 arg2 harg2 arg3 harg3 arg4 harg4 arg7 harg7 hc0 hc1 x0 x1 x2 x3 fh0 fh1).1 S1x1x128.size (by sl_kernel_rfl) y

/-- What the body leaves at the points 1 to 6 in the output's staging buffer. -/
def out0_B_4 (c : Dev nD) (t : Fin cfg0.N) (arg1 : Memref sig .tc .smem S6 .f32) (harg1 : arg1.IsWhole) (arg2 : Memref sig .tc .smem S8 .f32) (harg2 : arg2.IsWhole) (arg3 : Memref sig .tc .vmem S1x2x1024 .f32) (harg3 : arg3.IsWhole) (arg4 : Memref sig .tc .vmem S1x8x128 .f32) (harg4 : arg4.IsWhole) (arg7 : Memref sig .tc .vmem S1x8x128 .f32) (harg7 : arg7.IsWhole) (hc0 : ¬cond0_0 (grid0.coords t)) (hc1 : cond0_1 (grid0.coords t))
    (x0 : Vec F S6 .f32) (x1 : Vec F S8 .f32) (x2 : Vec F S1x2x1024 .f32) (x3 : Vec F S1x8x128 .f32) (fh0 : HbBuf0 (F := F) c hbM0_0) (fh1 : HbBuf0 (F := F) c hbM0_1) : Vec F S1x8x128 .f32 :=
  VO0_4.read (Elt F) (VO0_4.writes (Elt F) VO0_4.junk (kernelRun0_B c t arg1 harg1 arg2 harg2 arg3 harg3 arg4 harg4 arg7 harg7 hc0 hc1 x0 x1 x2 x3 fh0 fh1).1)

/-- The eight rows stored at the last point tile the output's block. -/
theorem cover0_C_4 (c : Dev nD) (t : Fin cfg0.N) (arg1 : Memref sig .tc .smem S6 .f32) (harg1 : arg1.IsWhole) (arg2 : Memref sig .tc .smem S8 .f32) (harg2 : arg2.IsWhole) (arg3 : Memref sig .tc .vmem S1x2x1024 .f32) (harg3 : arg3.IsWhole) (arg4 : Memref sig .tc .vmem S1x8x128 .f32) (harg4 : arg4.IsWhole) (arg7 : Memref sig .tc .vmem S1x8x128 .f32) (harg7 : arg7.IsWhole) (hc0 : ¬cond0_0 (grid0.coords t)) (hc1 : ¬cond0_1 (grid0.coords t))
    (x0 : Vec F S6 .f32) (x1 : Vec F S8 .f32) (x2 : Vec F S1x2x1024 .f32) (x3 : Vec F S1x8x128 .f32) (fh0 : HbBuf0 (F := F) c hbM0_0) (fh1 : HbBuf0 (F := F) c hbM0_1) (y : S1x8x128.Idx) :
    ∃ pc ∈ (kernelRun0_C c t arg1 harg1 arg2 harg2 arg3 harg3 arg4 harg4 arg7 harg7 hc0 hc1 x0 x1 x2 x3 fh0 fh1).1, y ∈ pc.1.set :=
  View.cover_of_tiledL (kernelRun0_C c t arg1 harg1 arg2 harg2 arg3 harg3 arg4 harg4 arg7 harg7 hc0 hc1 x0 x1 x2 x3 fh0 fh1).1 S1x1x128.size (by sl_kernel_rfl) y

/-- What the body leaves at the last point in the output's staging buffer. -/
def out0_C_4 (c : Dev nD) (t : Fin cfg0.N) (arg1 : Memref sig .tc .smem S6 .f32) (harg1 : arg1.IsWhole) (arg2 : Memref sig .tc .smem S8 .f32) (harg2 : arg2.IsWhole) (arg3 : Memref sig .tc .vmem S1x2x1024 .f32) (harg3 : arg3.IsWhole) (arg4 : Memref sig .tc .vmem S1x8x128 .f32) (harg4 : arg4.IsWhole) (arg7 : Memref sig .tc .vmem S1x8x128 .f32) (harg7 : arg7.IsWhole) (hc0 : ¬cond0_0 (grid0.coords t)) (hc1 : ¬cond0_1 (grid0.coords t))
    (x0 : Vec F S6 .f32) (x1 : Vec F S8 .f32) (x2 : Vec F S1x2x1024 .f32) (x3 : Vec F S1x8x128 .f32) (fh0 : HbBuf0 (F := F) c hbM0_0) (fh1 : HbBuf0 (F := F) c hbM0_1) : Vec F S1x8x128 .f32 :=
  VO0_4.read (Elt F) (VO0_4.writes (Elt F) VO0_4.junk (kernelRun0_C c t arg1 harg1 arg2 harg2 arg3 harg3 arg4 harg4 arg7 harg7 hc0 hc1 x0 x1 x2 x3 fh0 fh1).1)

/-! ## What the outputs hold after each point -/

/-- What the output's staging buffer holds after the body at point `n`: the case of that point, on the point's input blocks. No
    point takes the first branch without the second. -/
def outsAt0 (c : Dev nD) : (n : ℕ) → n < cfg0.N → Vec F S1x8x128 .f32
  | 0, hn => out0_A_4 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (V m c main_call0_v3) (V m c main_call0_v5)
  | n + 1, hn =>
    if h0 : (n + 1) % 8 = 0 then
      if h1 : (n + 1) < 7 then
        out0_A_4 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_call0_v3) (V m c main_call0_v5)
      else
        False.elim (by have hN : n + 1 < 8 := lt_of_lt_of_eq hn (show cfg0.N = 8 from N_0); omega)
    else
      if h1 : (n + 1) < 7 then
        out0_B_4 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_call0_v3) (V m c main_call0_v5)
      else
        out0_C_4 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_call0_v3) (V m c main_call0_v5)

/-- What the output's staging buffer holds at the first point. -/
theorem outsAt0_A (c : Dev nD) (t : Fin cfg0.N) (h0 : t.val % 8 = 0) (h1 : t.val < 7) :
    outsAt0 m c t.val t.isLt = out0_A_4 c t (ms0_0 t) (hs0_0 t) (ms0_1 t) (hs0_1 t) (ms0_2 t) (hs0_2 t) (ms0_3 t) (hs0_3 t) (ms0_4 t) (hs0_4 t) ((hcond0_0 t).mpr h0) ((hcond0_1 t).mpr h1) (iblk m c 0 t) (iblk m c 1 t) (iblk m c 2 t) (iblk m c 3 t) (V m c main_call0_v3) (V m c main_call0_v5) := by
  obtain ⟨n, hn⟩ := t
  cases n with
  | zero => exact rfl
  | succ n => exact (dif_pos h0).trans ((dif_pos h1).trans rfl)

/-- What the output's staging buffer holds at the points 1 to 6. -/
theorem outsAt0_B (c : Dev nD) (t : Fin cfg0.N) (h0 : ¬t.val % 8 = 0) (h1 : t.val < 7) :
    outsAt0 m c t.val t.isLt = out0_B_4 c t (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t) (iblk m c 2 t) (iblk m c 3 t) (V m c main_call0_v3) (V m c main_call0_v5) := by
  obtain ⟨n, hn⟩ := t
  cases n with
  | zero => exact (by exfalso; (try dsimp only at h0); exact absurd (Nat.zero_mod _) h0)
  | succ n => exact (dif_neg h0).trans ((dif_pos h1).trans rfl)

/-- What the output's staging buffer holds at the last point. -/
theorem outsAt0_C (c : Dev nD) (t : Fin cfg0.N) (h0 : ¬t.val % 8 = 0) (h1 : ¬t.val < 7) :
    outsAt0 m c t.val t.isLt = out0_C_4 c t (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (iblk m c 0 t) (iblk m c 1 t) (iblk m c 2 t) (iblk m c 3 t) (V m c main_call0_v3) (V m c main_call0_v5) := by
  obtain ⟨n, hn⟩ := t
  cases n with
  | zero => exact (by exfalso; (try dsimp only at h0); exact absurd (Nat.zero_mod _) h0)
  | succ n => exact (dif_neg h0).trans ((dif_neg h1).trans rfl)

/-! ## The pipeline's proof data -/

/-- The region invariant before point `k`: the generator register at some state, and each ring
    before point `k`. -/
def PhiR (c : Dev nD) (k : ℕ) : sProp 𝕄 := iprop((∃ r, prngReg c r) ∗ ringAt0_0 c (V m c main_call0_v3) k ∗ ringAt0_1 c (V m c main_call0_v5) k)

/-- What the pipeline's run is stated over, on core `c`: the arrays as the region finds them; after the body at point `t` each
    input's buffer at its block and the output's at `outsAt0`; the invariant `PhiR`; every buffer held whole. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ t := PhiR m c t.val
  q _ := fullShare
  owed _ := 0

/-- The pipeline's arrays start as the region finds them. -/
theorem A_eq (c : Dev nD) (w : Fin cfg0.W) : (dats m 0 c).A w = V m c (Pipeline.arrRef spec0 w) := by
  dsimp only [dats]

/-- The invariant at a point's start. -/
theorem PhiR_castSucc (c : Dev nD) (t : Fin cfg0.N) : (dats m 0 c).Φ t.castSucc = PhiR m c t.val := by
  dsimp only [dats]; simp only [Fin.coe_castSucc]
/-- The invariant at a point's end. -/
theorem PhiR_succ (c : Dev nD) (t : Fin cfg0.N) : (dats m 0 c).Φ t.succ = PhiR m c (t.val + 1) := by
  dsimp only [dats]; simp only [Fin.val_succ]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

/-- Each input's staging buffer holds its block at every point, fetched there or not. -/
theorem before0_0 (c : Dev nD) (t : Fin cfg0.N) (d) : (dats m 0 c).before 0 t d = iblk m c 0 t :=
  before_0_of m (dats m 0 c) (A_eq m c 0) (after0_0 m c) t d
theorem before0_1 (c : Dev nD) (t : Fin cfg0.N) (d) : (dats m 0 c).before 1 t d = iblk m c 1 t :=
  before_1_of m (dats m 0 c) (A_eq m c 1) (after0_1 m c) t d
theorem before0_2 (c : Dev nD) (t : Fin cfg0.N) (d) : (dats m 0 c).before 2 t d = iblk m c 2 t :=
  before_2_of m (dats m 0 c) (A_eq m c 2) (after0_2 m c) t d
theorem before0_3 (c : Dev nD) (t : Fin cfg0.N) (d) : (dats m 0 c).before 3 t d = iblk m c 3 t :=
  before_3_of m (dats m 0 c) (A_eq m c 3) (after0_3 m c) t d

end Cert.KernelIdeal.Own

end
-- ==== Proof.IdealFrame.Frame.lean ====
/- The frame of the ideal kernel: the body meets its obligation at every grid point, so the launch runs to the end; what
   every buffer then holds; the arguments are unchanged. -/
module

public import proofs.«01_k».proof.Proof.IdealFrame.Out

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body obligation, at a generic point -/

/-- What the body is given at point `t`: the invariant, and every window's staging buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
/-- The body meets its obligation at any point: the inputs' buffers hold their blocks, the point is the first, one of 1 to 6 or
    the last, each ring is before its step there, and the run of that case takes both rings to their next step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [after0_0, after0_1, after0_2, after0_3, after0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1
  have hgN : grid0.N = 8 := N_0
  have hN : t.val < 8 := lt_of_lt_of_eq t.isLt (show cfg0.N = 8 from N_0)
  by_cases h0 : t.val % 8 = 0
  · by_cases h1 : t.val < 7
    · rw [outsAt0_A m c t h0 h1]
      unfold out0_A_4
      have hr0 := rstep0_0_A t ((hcond0_0 t).mpr h0) ((hcond0_1 t).mpr h1)
      obtain ⟨hK00, hK10⟩ := hr0
      rw [if_pos hK00, if_neg (show ¬t.val + 1 = 0 by omega)]
      rw [Ring.At₀_eq2' _ _ _ t.val hK00 (by decide : 2 ≤ 8), Ring.AtK2_one' _ _ _ _ _ t.val hK00 (by decide : 1 < 8)]
      have hr1 := rstep0_1_A t ((hcond0_0 t).mpr h0) ((hcond0_1 t).mpr h1)
      obtain ⟨hK01, hK11⟩ := hr1
      rw [if_pos hK01, if_neg (show ¬t.val + 1 = 0 by omega)]
      rw [Ring.At₀_eq2' _ _ _ t.val hK01 (by decide : 2 ≤ 8), Ring.AtK2_one' _ _ _ _ _ t.val hK01 (by decide : 1 < 8)]
      iintro ⟨⟨Hg, ⟨-, Hfr0_0_0, Hfr0_0_1⟩, ⟨-, Hfr0_1_0, Hfr0_1_1⟩⟩, ⟨%W, -, HW⟩, ⟨%d0, H0⟩, ⟨%d1, H1⟩, ⟨%d2, H2⟩, ⟨%d3, H3⟩, ⟨%d4, H4⟩⟩
      iapply ((kernelRun0_A c t _ _ _ _ _ _ _ _ _ _ ((hcond0_0 t).mpr h0) ((hcond0_1 t).mpr h1) (iblk m c 0 t) (iblk m c 1 t) (iblk m c 2 t) (iblk m c 3 t) (V m c main_call0_v3) (V m c main_call0_v5)).2 W _)
      isplitl [H0]; · iexact H0
      isplitl [H1]; · iexact H1
      isplitl [H2]; · iexact H2
      isplitl [H3]; · iexact H3
      isplitl [H4]; · iexists _; iexact H4
      isplitl [Hfr0_0_0]; · iexact Hfr0_0_0
      isplitl [Hfr0_0_1]; · iexact Hfr0_0_1
      isplitl [Hfr0_1_0]; · iexact Hfr0_1_0
      isplitl [Hfr0_1_1]; · iexact Hfr0_1_1
      isplitl [HW]; · iexact HW
      iintro ⟨H0, H1, H2, H3, ⟨%e4, H4⟩, Hfl0_0', Hkp0_0', Hfl0_1', Hkp0_1', ⟨%W', HW'⟩⟩
      isplitl [Hg Hfl0_0' Hkp0_0' Hfl0_1' Hkp0_1']
      · isplitl [Hg]; · iexact Hg
        isplitl [Hfl0_0' Hkp0_0']
        · iapply Ring.with_homes₀
          isplitl [Hfl0_0']; · iexact Hfl0_0'
          iexact Hkp0_0'
        iapply Ring.with_homes₀
        isplitl [Hfl0_1']; · iexact Hfl0_1'
        iexact Hkp0_1'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _ _)
    · exfalso; omega
  · by_cases h1 : t.val < 7
    · rw [outsAt0_B m c t h0 h1]
      unfold out0_B_4
      have hr0 := rstep0_0_B t (fun h => h0 ((hcond0_0 t).mp h)) ((hcond0_1 t).mpr h1)
      obtain ⟨hK10, hKB0, hKs0⟩ := hr0
      rw [if_neg (show ¬t.val = 0 by omega), if_neg (show ¬t.val + 1 = 0 by omega)]
      rw [Ring.AtK2_here _ _ _ _ _ t.val hK10 hKB0, Ring.AtK2_next _ _ _ _ _ t.val hK10 hKB0]
      have hr1 := rstep0_1_B t (fun h => h0 ((hcond0_0 t).mp h)) ((hcond0_1 t).mpr h1)
      obtain ⟨hK11, hKB1, hKs1⟩ := hr1
      rw [if_neg (show ¬t.val = 0 by omega), if_neg (show ¬t.val + 1 = 0 by omega)]
      rw [Ring.AtK2_here _ _ _ _ _ t.val hK11 hKB1, Ring.AtK2_next _ _ _ _ _ t.val hK11 hKB1]
      iintro ⟨⟨Hg, ⟨-, Hfl0_0, Hkp0_0⟩, ⟨-, Hfl0_1, Hkp0_1⟩⟩, ⟨%W, -, HW⟩, ⟨%d0, H0⟩, ⟨%d1, H1⟩, ⟨%d2, H2⟩, ⟨%d3, H3⟩, ⟨%d4, H4⟩⟩
      iapply ((kernelRun0_B c t _ _ _ _ _ _ _ _ _ _ (fun h => h0 ((hcond0_0 t).mp h)) ((hcond0_1 t).mpr h1) (iblk m c 0 t) (iblk m c 1 t) (iblk m c 2 t) (iblk m c 3 t) (V m c main_call0_v3) (V m c main_call0_v5)).2 W _)
      isplitl [H0]; · iexact H0
      isplitl [H1]; · iexact H1
      isplitl [H2]; · iexact H2
      isplitl [H3]; · iexact H3
      isplitl [H4]; · iexists _; iexact H4
      isplitl [Hfl0_0]; · iexact Hfl0_0
      isplitl [Hkp0_0]; · iexact Hkp0_0
      isplitl [Hfl0_1]; · iexact Hfl0_1
      isplitl [Hkp0_1]; · iexact Hkp0_1
      isplitl [HW]; · iexact HW
      iintro ⟨H0, H1, H2, H3, ⟨%e4, H4⟩, Hfl0_0', Hkp0_0', Hfl0_1', Hkp0_1', ⟨%W', HW'⟩⟩
      isplitl [Hg Hfl0_0' Hkp0_0' Hfl0_1' Hkp0_1']
      · isplitl [Hg]; · iexact Hg
        isplitl [Hfl0_0' Hkp0_0']
        · iapply (Ring.with_homes (Idealize.SL.BI.Entails.refl _))
          isplitl [Hfl0_0']; · iexact Hfl0_0'
          iexact Hkp0_0'
        iapply (Ring.with_homes (Idealize.SL.BI.Entails.refl _))
        isplitl [Hfl0_1']; · iexact Hfl0_1'
        iexact Hkp0_1'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _)
    · rw [outsAt0_C m c t h0 h1]
      unfold out0_C_4
      have hr0 := rstep0_0_C t (fun h => h0 ((hcond0_0 t).mp h)) (fun h => h1 ((hcond0_1 t).mp h))
      obtain ⟨hK10, hKB0, hKs0⟩ := hr0
      rw [if_neg (show ¬t.val = 0 by omega), if_neg (show ¬t.val + 1 = 0 by omega)]
      rw [Ring.AtK2_here_last _ _ _ _ _ t.val hK10 hKB0, Ring.AtK2_next_last _ _ _ _ _ t.val hK10 hKB0]
      have hr1 := rstep0_1_C t (fun h => h0 ((hcond0_0 t).mp h)) (fun h => h1 ((hcond0_1 t).mp h))
      obtain ⟨hK11, hKB1, hKs1⟩ := hr1
      rw [if_neg (show ¬t.val = 0 by omega), if_neg (show ¬t.val + 1 = 0 by omega)]
      rw [Ring.AtK2_here_last _ _ _ _ _ t.val hK11 hKB1, Ring.AtK2_next_last _ _ _ _ _ t.val hK11 hKB1]
      iintro ⟨⟨Hg, ⟨-, Hfl0_0, Hkp0_0⟩, ⟨-, Hfl0_1, Hkp0_1⟩⟩, ⟨%W, -, HW⟩, ⟨%d0, H0⟩, ⟨%d1, H1⟩, ⟨%d2, H2⟩, ⟨%d3, H3⟩, ⟨%d4, H4⟩⟩
      iapply ((kernelRun0_C c t _ _ _ _ _ _ _ _ _ _ (fun h => h0 ((hcond0_0 t).mp h)) (fun h => h1 ((hcond0_1 t).mp h)) (iblk m c 0 t) (iblk m c 1 t) (iblk m c 2 t) (iblk m c 3 t) (V m c main_call0_v3) (V m c main_call0_v5)).2 W _)
      isplitl [H0]; · iexact H0
      isplitl [H1]; · iexact H1
      isplitl [H2]; · iexact H2
      isplitl [H3]; · iexact H3
      isplitl [H4]; · iexists _; iexact H4
      isplitl [Hfl0_0]; · iexact Hfl0_0
      isplitl [Hfl0_1]; · iexact Hfl0_1
      isplitl [HW]; · iexact HW
      iintro ⟨H0, H1, H2, H3, ⟨%e4, H4⟩, Hkp0_0', Hkp0_1', ⟨%W', HW'⟩⟩
      isplitl [Hg Hkp0_0 Hkp0_1 Hkp0_0' Hkp0_1']
      · isplitl [Hg]; · iexact Hg
        isplitl [Hkp0_0 Hkp0_0']
        · iapply (Ring.with_homes (Idealize.SL.BI.Entails.refl _))
          isplitl [Hkp0_0]; · iexact Hkp0_0
          iexact Hkp0_0'
        iapply (Ring.with_homes (Idealize.SL.BI.Entails.refl _))
        isplitl [Hkp0_1]; · iexact Hkp0_1
        iexact Hkp0_1'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _)

/-- The body that the pipeline runs at point `t` is `bodyAt0 t`. -/
theorem defs₀_row (t : Fin cfg0.N) :
    defs₀ (F := F) .tc cfg0.body (cfg0.bodyArgs t (cfg0.slots t)) = bodyAt0 t := by
  unfold defs₀; rw [Defs.onTc_tc]

/-- The body does, at every point, what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (the scratch buffers, the generator register, the semaphores at zero, the matrices whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HR0_0, HR0_1⟩, Hg, ⟨Hq0, Hq2, Hq1, Hq3⟩, ⟨Hh0, Hh1⟩⟩
  isplitl [Hg]; · iexact Hg
  isplitl [HR0_0 Hq0 Hq1 Hh0]
  · iapply (ring0_0_in (F := F) m c)
    isplitl [HR0_0]; · iexact HR0_0
    isplitl [Hq0 Hq1]
    · isplitl [Hq0]; · iexact Hq0
      iexact Hq1
    iexact Hh0
  iapply (ring0_1_in (F := F) m c)
  isplitl [HR0_1]; · iexact HR0_1
  isplitl [Hq2 Hq3]
  · isplitl [Hq2]; · iexact Hq2
    iexact Hq3
  iexact Hh1
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 8 by rw [N_0]]
  iintro ⟨Hg, HR0_0, HR0_1⟩
  ihave HX0_0 := (ring0_0_out (F := F) m c) $$ HR0_0
  icases HX0_0 with ⟨HR0_0, ⟨Hq0, Hq1⟩, Hh0⟩
  ihave HX0_1 := (ring0_1_out (F := F) m c) $$ HR0_1
  icases HX0_1 with ⟨HR0_1, ⟨Hq2, Hq3⟩, Hh1⟩
  isplitl [HR0_0 HR0_1]
  · isplitl [HR0_0]; · iexact HR0_0
    iexact HR0_1
  isplitl [Hg]
  · iexact Hg
  isplitl [Hq0 Hq1 Hq2 Hq3]
  · isplitl [Hq0]; · iexact Hq0
    isplitl [Hq2]; · iexact Hq2
    isplitl [Hq1]; · iexact Hq1
    iexact Hq3
  isplitl [Hh0]; · iexact Hh0
  iexact Hh1

/-! ## The run and the frame -/

set_option backward.isDefEq.respectTransparency.types false in
set_option maxHeartbeats 800000 in
/-- Every run of the whole program ends, with every buffer as `FramePost` says and every semaphore at zero. -/
theorem run_main_quiescent : θ_run defs (onTc (τ := τ) (main (F := F))) (s₀ m ρ) (fun r => (Pipeline.FramePost cfgs (dats m) 0 (tail m (dats m))) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- Every run of the whole program ends, with every array of the region at what its points leave there, and every other
    buffer as the lines after the region leave it. -/
theorem run_main : θ_run defs (onTc (τ := τ) (main (F := F))) (s₀ m ρ) (Pipeline.FramePost cfgs (dats m) 0 (tail m (dats m))) :=
  (θ_run defs _ _).mono (fun _ h => h.1) (run_main_quiescent m ρ)

/-- From any memory with zero counters, every run of @main ends, with every argument as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => args_kept m (dats m) (A_eq m) r h.1 c, h.2⟩) (run_main_quiescent m ρ)

end Cert.KernelIdeal.Own

end
-- ==== Proof.Value.Table.lean ====
/-
  The table of rotations the kernel's body builds of one row of 1024 values: row `r` of the 128-row table is the
  row rotated by `r` lanes, `table v (r, l) = v ((l + r) mod 1024)`. It is built of eight rotations by slices,
  selected by row, then doubled four times.
-/
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.KernelIdeal.Own

open Idealize.ShloMosaic Idealize.ShloMosaic.TcCoe Idealize.SL.Sem
open Cert.KernelIdeal Cert.KernelIdeal.Gen

/-- The lane `n` lanes further, around the 1024 lanes. -/
def lane (n : ℕ) : Fin 1024 := ⟨n % 1024, Nat.mod_lt _ (by decide)⟩

/-- A rotation made of two slices: the lanes from `s` on, then the lanes before `s`. -/
theorem rotated_by_slices {n s e : ℕ} (he : e + s = 1024) (a : (⟨2, ![n, 1024]⟩ : Shape).Idx → EReal)
    (h1 : (⟨2, ![n, 1024]⟩ : Shape).Slices ![0, s] ⟨2, ![n, e]⟩) (h2 : (⟨2, ![n, 1024]⟩ : Shape).Slices ![0, 0] ⟨2, ![n, s]⟩)
    (h3 : Shape.Concatenates [(⟨2, ![n, e]⟩ : Shape), ⟨2, ![n, s]⟩] ⟨2, ![n, 1024]⟩ 1) (r : Fin n) (l : Fin 1024) :
    concatenate ⟨2, ![n, 1024]⟩ 1 [⟨_, extractStridedSlice ⟨2, ![n, e]⟩ ![0, s] a h1⟩,
      ⟨_, extractStridedSlice ⟨2, ![n, s]⟩ ![0, 0] a h2⟩] h3 (ix2 r l) = a (ix2 r (lane (↑l + s))) := by
  have hl := l.isLt
  by_cases h : (l : ℕ) < e
  · rw [concatenate_pair_apply_left 1 _ _ h3 (ix2 r l) rfl (ix2 r (⟨l, h⟩ : Fin e))
      (fun b => by match b with | ⟨0, _⟩ => rfl | ⟨1, _⟩ => rfl)]
    refine extractStridedSlice_apply _ a h1 _ _ fun b => ?_
    match b with
    | ⟨0, _⟩ => exact (Nat.zero_add _).symm
    | ⟨1, _⟩ => show (↑l + s) % 1024 = s + ↑l; omega
  · rw [concatenate_pair_apply_right 1 _ _ h3 (ix2 r l) rfl rfl (ix2 r (⟨l - e, by omega⟩ : Fin s))
      (fun b hb => by match b with | ⟨0, _⟩ => rfl | ⟨1, _⟩ => exact absurd rfl hb)
      (by show ((l : ℕ) - e) + e = l; omega)]
    refine extractStridedSlice_apply _ a h2 _ _ fun b => ?_
    match b with
    | ⟨0, _⟩ => exact (Nat.zero_add _).symm
    | ⟨1, _⟩ => show (↑l + s) % 1024 = 0 + (↑l - e); omega

/-- Doubling: if the `n` rows are `f` rotated by the row number, so are the `2 n` rows made of them and of them
    rotated by `n` further lanes. -/
theorem doubled {n t e : ℕ} (ht : t = n + n) (he : e + n = 1024) (a : (⟨2, ![n, 1024]⟩ : Shape).Idx → EReal) (f : Fin 1024 → EReal)
    (h1 : (⟨2, ![n, 1024]⟩ : Shape).Slices ![0, n] ⟨2, ![n, e]⟩) (h2 : (⟨2, ![n, 1024]⟩ : Shape).Slices ![0, 0] ⟨2, ![n, n]⟩)
    (h3 : Shape.Concatenates [(⟨2, ![n, e]⟩ : Shape), ⟨2, ![n, n]⟩] ⟨2, ![n, 1024]⟩ 1)
    (h4 : Shape.Concatenates [(⟨2, ![n, 1024]⟩ : Shape), ⟨2, ![n, 1024]⟩] ⟨2, ![t, 1024]⟩ 0)
    (ha : ∀ (r : Fin n) (l : Fin 1024), a (ix2 r l) = f (lane (↑l + ↑r))) (r : Fin t) (l : Fin 1024) :
    concatenate ⟨2, ![t, 1024]⟩ 0 [⟨_, a⟩, ⟨_, concatenate ⟨2, ![n, 1024]⟩ 1 [⟨_, extractStridedSlice ⟨2, ![n, e]⟩ ![0, n] a h1⟩,
      ⟨_, extractStridedSlice ⟨2, ![n, n]⟩ ![0, 0] a h2⟩] h3⟩] h4 (ix2 r l) = f (lane (↑l + ↑r)) := by
  by_cases h : (r : ℕ) < n
  · rw [concatenate_pair_apply_left 0 _ _ h4 (ix2 r l) rfl (ix2 (⟨r, h⟩ : Fin n) l)
      (fun b => by match b with | ⟨0, _⟩ => rfl | ⟨1, _⟩ => rfl)]
    exact ha _ _
  · have hr := r.isLt
    rw [concatenate_pair_apply_right 0 _ _ h4 (ix2 r l) rfl rfl (ix2 (⟨r - n, by omega⟩ : Fin n) l)
      (fun b hb => by match b with | ⟨0, _⟩ => exact absurd rfl hb | ⟨1, _⟩ => rfl)
      (by show ((r : ℕ) - n) + n = r; omega), rotated_by_slices he, ha]
    refine congrArg f (Fin.ext ?_)
    show ((↑l + n) % 1024 + (↑r - n)) % 1024 = (↑l + ↑r) % 1024
    omega

/-- The table of a row, as the body builds it. -/
def table (v : FVec Ideal S1x1024 .f32) : FVec Ideal S128x1024 .f32 :=
  k0_pay9 v (iota .tc S8x1024 32 [0] iota_S8x1024_d0_w32) (k0_pay6 v) k0_pay7 (k0_pay8 v)

/-- The second row's table is built by the same operations. -/
theorem table_second (v : FVec Ideal S1x1024 .f32) :
    k0_pay12 v (iota .tc S8x1024 32 [0] iota_S8x1024_d0_w32) (k0_pay10 v) k0_pay11 = table v := rfl

/-- One step of the eight selected rows: where the row is `k`, the row rotated by `k` lanes, elsewhere as before. -/
theorem selected_row (k : ℕ) (hk : k < 8) (a : FVec Ideal S1x1024 .f32) (b : FVec Ideal S8x1024 .f32) (r : Fin 8) (l : Fin 1024) :
    select (cmpi .eq (iota .tc S8x1024 32 [0] iota_S8x1024_d0_w32) (broadcast S8x1024 (BitVec.ofNat 32 k)))
      (broadcastTo S8x1024 (shapeCast S1x1024 a shapeCasts_S1x1024_S1x1024) broadcasts_S1x1024_S8x1024) b (ix2 r l)
      = if (r : ℕ) = k then a (ix2 0 l) else b (ix2 r l) := by
  have hr := r.isLt
  pointwise
  by_cases h : (r : ℕ) = k
  · rw [if_pos h, h]
    exact if_pos (show IntOp.cmpi .eq (BitVec.ofNat 32 k) (BitVec.ofNat 32 k) = 1#1 by simp [IntOp.cmpi])
  · rw [if_neg h]
    have hne : BitVec.ofNat 32 (r : ℕ) ≠ BitVec.ofNat 32 k := fun h' => h (by
      have := congrArg BitVec.toNat h'
      simp only [BitVec.toNat_ofNat] at this
      omega)
    refine if_neg (show ¬ IntOp.cmpi .eq (BitVec.ofNat 32 (r : ℕ)) (BitVec.ofNat 32 k) = 1#1 from ?_)
    simp only [IntOp.cmpi, beq_eq_false_iff_ne.2 hne]
    decide

/-- The eight rows the table starts from: row `r` is the row rotated by `r` lanes. -/
def eight (v : FVec Ideal S1x1024 .f32) : FVec Ideal S8x1024 .f32 :=
  select (cmpi .eq (iota .tc S8x1024 32 [0] iota_S8x1024_d0_w32) (broadcast S8x1024 7#32))
    (broadcastTo S8x1024 (shapeCast S1x1024 (concatenate S1x1024 1
      [⟨S1x1017, extractStridedSlice S1x1017 ![0, 7] v slices_S1x1024_o0_7_S1x1017⟩,
       ⟨S1x7, extractStridedSlice S1x7 ![0, 0] v slices_S1x1024_o0_0_S1x7⟩] concatenates_S1x1017_S1x7_S1x1024_d1)
      shapeCasts_S1x1024_S1x1024) broadcasts_S1x1024_S8x1024)
    (select k0_pay7 (broadcastTo S8x1024 (shapeCast S1x1024 (k0_pay8 v) shapeCasts_S1x1024_S1x1024) broadcasts_S1x1024_S8x1024)
      (k0_pay6 v))

/-- Row `r` of the eight rows is the vector turned left by `r` lanes. -/
theorem eight_apply (v : FVec Ideal S1x1024 .f32) (r : Fin 8) (l : Fin 1024) : eight v (ix2 r l) = v (ix2 0 (lane (↑l + ↑r))) := by
  unfold eight k0_pay7 k0_pay8 k0_pay6
  simp only []
  rw [selected_row 7 (by decide), selected_row 6 (by decide), selected_row 5 (by decide), selected_row 4 (by decide),
    selected_row 3 (by decide), selected_row 2 (by decide), selected_row 1 (by decide)]
  rw [rotated_by_slices rfl, rotated_by_slices rfl, rotated_by_slices rfl, rotated_by_slices rfl, rotated_by_slices rfl,
    rotated_by_slices rfl, rotated_by_slices rfl]
  have hr := r.isLt
  have h0 : (r : ℕ) = 0 ∨ (r : ℕ) = 1 ∨ (r : ℕ) = 2 ∨ (r : ℕ) = 3 ∨ (r : ℕ) = 4 ∨ (r : ℕ) = 5 ∨ (r : ℕ) = 6 ∨ (r : ℕ) = 7 := by omega
  rcases h0 with h | h | h | h | h | h | h | h <;> rw [h] <;> simp only [Nat.reduceEqDiff, ↓reduceIte]
  pointwise
  refine congrArg (fun k => v (ix2 0 k)) (Fin.ext ?_)
  have hl := l.isLt
  show (l : ℕ) = (↑l + 0) % 1024
  omega

/-- The table read at row `r`, lane `l`: the row at lane `(l + r) mod 1024`. -/
theorem table_apply (v : FVec Ideal S1x1024 .f32) (r : Fin 128) (l : Fin 1024) :
    table v (ix2 r l) = v (ix2 0 (lane (↑l + ↑r))) :=
  doubled (n := 64) (t := 128) (e := 960) rfl rfl _ (fun k => v (ix2 0 k)) _ _ _
      concatenates_S64x1024_S64x1024_S128x1024_d0
    (doubled (n := 32) (t := 64) (e := 992) rfl rfl _ (fun k => v (ix2 0 k)) _ _ _
      concatenates_S32x1024_S32x1024_S64x1024_d0
      (doubled (n := 16) (t := 32) (e := 1008) rfl rfl _ (fun k => v (ix2 0 k)) _ _ _
      concatenates_S16x1024_S16x1024_S32x1024_d0
        (doubled (n := 8) (t := 16) (e := 1016) rfl rfl (eight v) (fun k => v (ix2 0 k)) _ _ _
      concatenates_S8x1024_S8x1024_S16x1024_d0 (eight_apply v)))) r l

end Cert.KernelIdeal.Own

end
-- ==== Proof.Value.Block.lean ====
/-
  The computation of one block of 128 output rows, as the kernel's body writes it: the rows of the two matrices
  brought into place (a load of 144 rows, rotated, the rows above the diagonal band taken one row up), their products
  with the two tables summed along the lanes, and the corrected magnitude of the sum. Each is read at an index.
-/
module

public import proofs.«01_k».proof.Proof.Value.Table
public import Idealize.ShloMosaic.Lib.KernelVsHost
public import Idealize.ShloMosaic.Lib.WordCmp

@[expose] public section

set_option maxRecDepth 16384

noncomputable section

namespace Cert.KernelIdeal.Own

open Idealize.ShloMosaic Idealize.ShloMosaic.TcCoe Idealize.SL.Sem
open Cert.KernelIdeal Cert.KernelIdeal.Gen

/-- Row plus lane, of each place of a block. -/
def diag : IVec S128x1024 32 := addi (iota .tc S128x1024 32 [0] iota_S128x1024_d0_w32) (iota .tc S128x1024 32 [1] iota_S128x1024_d1_w32)

/-- The 144 loaded rows, rotated up by `w` rows. -/
def aligned (w : BitVec 32) (x : FVec Ideal S1x144x1024 .f32) : FVec Ideal S144x1024 .f32 :=
  dynamicRotate 0 (Scalar.subi 144#32 w) none (shapeCast S144x1024 x shapeCasts_S1x144x1024_S144x1024) rotates_S144x1024_d0

/-- The block's rows: the aligned ones where row plus lane is below `hi`, the row before elsewhere. -/
def masked (hi w : BitVec 32) (x : FVec Ideal S1x144x1024 .f32) : FVec Ideal S128x1024 .f32 :=
  select (cmpi .slt diag (broadcast S128x1024 hi))
    (extractStridedSlice S128x1024 ![0, 0] (aligned w x) slices_S144x1024_o0_0_S128x1024)
    (extractStridedSlice S128x1024 ![0, 0] (dynamicRotate 0 1#32 none (aligned w x) rotates_S144x1024_d0)
      slices_S144x1024_o0_0_S128x1024)

/-- The first block's rows: the row after where row plus lane is below `lo`. -/
def maskedFirst (lo hi w : BitVec 32) (x : FVec Ideal S1x144x1024 .f32) : FVec Ideal S128x1024 .f32 :=
  select (cmpi .slt diag (broadcast S128x1024 lo))
    (extractStridedSlice S128x1024 ![1, 0] (aligned w x) slices_S144x1024_o1_0_S128x1024) (masked hi w x)

/-- The stored block: from the base voltage `v0`, the statistics `sy`, `my`, the two matrices' rows, the two tables
    and the block of normalised magnitudes. -/
def finish (sy my v0 : Ideal .f32) (a b p q : FVec Ideal S128x1024 .f32) (v : FVec Ideal S1x1x128 .f32) : FVec Ideal S1x1x128 .f32 :=
  have s : FVec Ideal S128 .f32 := multiReduction .add [1] S128 (addf (mulf a p) (mulf b q)) 0x00000000#32 reduces_S128x1024_S128 (.inl rfl) rfl
  have ldf : FVec Ideal S128 .f32 := minimumf (broadcast S128 (Scalar.ofBits .f32 0x3F9AE148#32))
    (maximumf (broadcast S128 (Scalar.ofBits .f32 0x3F23D70A#32))
      (addf (broadcast S128 v0) (mulf (broadcast S128 (Scalar.ofBits .f32 0x40000000#32)) s)))
  have scale : Ideal .f32 := Scalar.addf sy (Scalar.ofBits .f32 0x358637BD#32)
  have mag : FVec Ideal S128 .f32 := addf (mulf (shapeCast S128 v shapeCasts_S1x1x128_S128) (broadcast S128 scale)) (broadcast S128 my)
  have sq : FVec Ideal S128 .f32 := mulf mag mag
  have c : FVec Ideal S128 .f32 := maximumf (addf sq (mulf (broadcast S128 (Scalar.ofBits .f32 0x3F000000#32)) (subf ldf sq)))
    (broadcast S128 (Scalar.ofBits .f32 0x38D1B717#32))
  shapeCast S1x1x128 (divf (subf (sqrt c) (broadcast S128 my)) (broadcast S128 scale)) shapeCasts_S128_S1x1x128

/-- The corrected, renormalised magnitude of a node whose linear estimate is `e` and whose normalised magnitude is `v`. -/
def corrected (sy my e v : EReal) : EReal :=
  Ideal.div (Ideal.sqrt (max (((v * (sy + Ideal.ofBits .f32 0x358637BD#32) + my) * (v * (sy + Ideal.ofBits .f32 0x358637BD#32) + my))
      + Ideal.ofBits .f32 0x3F000000#32 * (min (Ideal.ofBits .f32 0x3F9AE148#32) (max (Ideal.ofBits .f32 0x3F23D70A#32) e)
        - ((v * (sy + Ideal.ofBits .f32 0x358637BD#32) + my) * (v * (sy + Ideal.ofBits .f32 0x358637BD#32) + my))))
    (Ideal.ofBits .f32 0x38D1B717#32)) - my) (sy + Ideal.ofBits .f32 0x358637BD#32)

/-- The stored block at row `r`: the correction, at the row's sum over the lanes. -/
theorem finish_apply (sy my v0 : EReal) (a b p q : FVec Ideal S128x1024 .f32) (v : FVec Ideal S1x1x128 .f32) (r : Fin 128) :
    finish sy my v0 a b p q v (ix3 0 0 r)
      = corrected sy my (v0 + Ideal.ofBits .f32 0x40000000#32 * ∑ l : Fin 1024, (a (ix2 r l) * p (ix2 r l) + b (ix2 r l) * q (ix2 r l)))
          (v (ix3 0 0 r)) := by
  unfold corrected
  pointwise [finish]

/-- The aligned rows at `(r, l)`: the loaded row `r + k`, around the 144 rows. -/
theorem aligned_apply (k : ℕ) (hk : 1 ≤ k) (hk' : k ≤ 16) (x : FVec Ideal S1x144x1024 .f32) (r : Fin 144) (l : Fin 1024) :
    aligned (BitVec.ofNat 32 k) x (ix2 r l) = x (ix3 0 ⟨(↑r + k) % 144, Nat.mod_lt _ (by decide)⟩ l) := by
  have hr := r.isLt
  have hw : (Scalar.subi 144#32 (BitVec.ofNat 32 k)).toNat = 144 - k := by
    show (144#32 - BitVec.ofNat 32 k).toNat = _
    rw [BitVec.toNat_sub, BitVec.toNat_ofNat, BitVec.toNat_ofNat]
    omega
  unfold aligned
  rw [dynamicRotate_apply 0 _ _ _ (ix2 r l) (ix2 ⟨(↑r + k) % 144, Nat.mod_lt _ (by decide)⟩ l)
    (fun b => by
      match b with
      | ⟨0, _⟩ =>
        refine Eq.trans ?_ (if_pos (Fin.ext rfl)).symm
        rw [hw]
        show (↑r + k) % 144 = (↑r + 144 - (144 - k) % 144) % 144
        omega
      | ⟨1, _⟩ => rfl)]
  pointwise

/-- The aligned rows one row down: at a row that is not the first, the row before. -/
theorem aligned_before (w : BitVec 32) (x : FVec Ideal S1x144x1024 .f32) (r : Fin 144) (l : Fin 1024) :
    dynamicRotate 0 1#32 none (aligned w x) rotates_S144x1024_d0 (ix2 r l)
      = aligned w x (ix2 ⟨(↑r + 143) % 144, Nat.mod_lt _ (by decide)⟩ l) := by
  generalize aligned w x = a
  exact dynamicRotate_apply 0 1#32 a _ (ix2 r l) (ix2 ⟨(↑r + 143) % 144, Nat.mod_lt _ (by decide)⟩ l)
    (fun b => by
      match b with
      | ⟨0, _⟩ => rfl
      | ⟨1, _⟩ => rfl)

/-- The comparison of row plus lane with a bound below 2³¹. -/
theorem diag_lt (n : ℕ) (hn : n < 2 ^ 31) (r : Fin 128) (l : Fin 1024) :
    cmpi .slt diag (broadcast S128x1024 (BitVec.ofNat 32 n)) (ix2 r l) = BitVec.ofBool (decide (↑r + ↑l < n)) := by
  have hr := r.isLt
  have hl := l.isLt
  have e : diag (ix2 r l) = BitVec.ofNat 32 (↑r + ↑l) := by
    pointwise [diag]
    try exact (BitVec.ofNat_add _ _).symm
  show IntOp.cmpi .slt (diag (ix2 r l)) (BitVec.ofNat 32 n) = _
  rw [e]
  exact WordCmp.cmpi_slt_ofNat (by omega) (by omega)

/-- The block's rows at `(r, l)`: the loaded row `r + k` below the diagonal bound `n`, the row before it above. -/
theorem masked_apply (n k : ℕ) (hn : n < 2 ^ 31) (hk : 1 ≤ k) (hk' : k ≤ 15) (x : FVec Ideal S1x144x1024 .f32)
    (r : Fin 128) (l : Fin 1024) :
    masked (BitVec.ofNat 32 n) (BitVec.ofNat 32 k) x (ix2 r l)
      = x (ix3 0 ⟨if ↑r + ↑l < n then ↑r + k else ↑r + k - 1, by have := r.isLt; split <;> omega⟩ l) := by
  have hr := r.isLt
  unfold masked
  show Scalar.select (cmpi .slt diag (broadcast S128x1024 (BitVec.ofNat 32 n)) (ix2 r l)) _ _ = _
  rw [diag_lt n hn,
    extractStridedSlice_apply _ _ _ (ix2 r l) (ix2 ⟨↑r, by omega⟩ l) (fun b => by match b with | ⟨0, _⟩ => simp | ⟨1, _⟩ => simp),
    extractStridedSlice_apply _ _ _ (ix2 r l) (ix2 ⟨↑r, by omega⟩ l) (fun b => by match b with | ⟨0, _⟩ => simp | ⟨1, _⟩ => simp),
    aligned_before, aligned_apply k hk (by omega), aligned_apply k hk (by omega)]
  by_cases h : ↑r + ↑l < n
  · simp only [h, decide_true, if_true]
    show x _ = x _
    congr 2
    exact Fin.ext (show (↑r + k) % 144 = ↑r + k by omega)
  · simp only [h, decide_false, if_false]
    show x _ = x _
    congr 2
    exact Fin.ext (show ((↑r + 143) % 144 + k) % 144 = ↑r + k - 1 by omega)

/-- The first block's rows at `(r, l)`: the row after, the row itself or the row before, by the two bounds. -/
theorem maskedFirst_apply (n₀ n k : ℕ) (hn₀ : n₀ < 2 ^ 31) (hn : n < 2 ^ 31) (hk : 1 ≤ k) (hk' : k ≤ 15)
    (x : FVec Ideal S1x144x1024 .f32) (r : Fin 128) (l : Fin 1024) :
    maskedFirst (BitVec.ofNat 32 n₀) (BitVec.ofNat 32 n) (BitVec.ofNat 32 k) x (ix2 r l)
      = x (ix3 0 ⟨if ↑r + ↑l < n₀ then ↑r + k + 1 else if ↑r + ↑l < n then ↑r + k else ↑r + k - 1,
          by have := r.isLt; split <;> [skip; split] <;> omega⟩ l) := by
  have hr := r.isLt
  unfold maskedFirst
  show Scalar.select (cmpi .slt diag (broadcast S128x1024 (BitVec.ofNat 32 n₀)) (ix2 r l)) _ _ = _
  rw [diag_lt n₀ hn₀,
    extractStridedSlice_apply _ _ _ (ix2 r l) (ix2 ⟨↑r + 1, by omega⟩ l) (fun b => by match b with | ⟨0, _⟩ => simp [Nat.add_comm] | ⟨1, _⟩ => simp),
    aligned_apply k hk (by omega), masked_apply n k hn hk hk']
  by_cases h : ↑r + ↑l < n₀
  · simp only [h, decide_true, if_true]
    show x _ = x _
    congr 2
    exact Fin.ext (show (↑r + 1 + k) % 144 = ↑r + k + 1 by omega)
  · simp only [h, decide_false, if_false]
    rfl

end Cert.KernelIdeal.Own

end
-- ==== Proof.Value.Pieces.lean ====
/-
  The eight blocks that one run of the body stores, as one list over the values it reads: the same list at the first
  point, in between and at the last.
-/
module

public import proofs.«01_k».proof.Proof.IdealFrame.Out
public import proofs.«01_k».proof.Proof.Value.Block

@[expose] public section

set_option maxRecDepth 16384

noncomputable section

namespace Cert.KernelIdeal.Own

open Idealize.ShloMosaic Idealize.ShloMosaic.TcCoe Idealize.SL.Sem
open Cert.KernelIdeal Cert.KernelIdeal.Gen

/-- A block after the first: both matrices' rows by the diagonal's bound `hi`. -/
def later (hi w : BitVec 32) (sy my v0 : Ideal .f32) (p q : FVec Ideal S128x1024 .f32) (x y : FVec Ideal S1x144x1024 .f32)
    (v : FVec Ideal S1x1x128 .f32) : FVec Ideal S1x1x128 .f32 :=
  finish sy my v0 (masked hi w x) (masked hi w y) p q v

/-- The first block: its rows meet the diagonal's lower bound `lo` too. -/
def first (lo hi w : BitVec 32) (sy my v0 : Ideal .f32) (p q : FVec Ideal S128x1024 .f32) (x y : FVec Ideal S1x144x1024 .f32)
    (v : FVec Ideal S1x1x128 .f32) : FVec Ideal S1x1x128 .f32 :=
  finish sy my v0 (maskedFirst lo hi w x) (maskedFirst lo hi w y) p q v

/-- The first column of blocks' diagonal bound, less `s`. -/
def bound (g s : BitVec 32) : BitVec 32 := Scalar.subi (Scalar.addi 1024#32 g) s

/-- The table turned left by 128 lanes. -/
def turn128 (a : FVec Ideal S128x1024 .f32) : FVec Ideal S128x1024 .f32 :=
  concatenate S128x1024 1 [⟨S128x896, extractStridedSlice S128x896 ![0, 128] a slices_S128x1024_o0_128_S128x896⟩,
    ⟨S128x128, extractStridedSlice S128x128 ![0, 0] a slices_S128x1024_o0_0_S128x128⟩] concatenates_S128x896_S128x128_S128x1024_d1
/-- The table turned left by 256 lanes. -/
def turn256 (a : FVec Ideal S128x1024 .f32) : FVec Ideal S128x1024 .f32 :=
  concatenate S128x1024 1 [⟨S128x768, extractStridedSlice S128x768 ![0, 256] a slices_S128x1024_o0_256_S128x768⟩,
    ⟨S128x256, extractStridedSlice S128x256 ![0, 0] a slices_S128x1024_o0_0_S128x256⟩] concatenates_S128x768_S128x256_S128x1024_d1
/-- The table turned left by 384 lanes. -/
def turn384 (a : FVec Ideal S128x1024 .f32) : FVec Ideal S128x1024 .f32 :=
  concatenate S128x1024 1 [⟨S128x640, extractStridedSlice S128x640 ![0, 384] a slices_S128x1024_o0_384_S128x640⟩,
    ⟨S128x384, extractStridedSlice S128x384 ![0, 0] a slices_S128x1024_o0_0_S128x384⟩] concatenates_S128x640_S128x384_S128x1024_d1
/-- The table turned left by 512 lanes. -/
def turn512 (a : FVec Ideal S128x1024 .f32) : FVec Ideal S128x1024 .f32 :=
  concatenate S128x1024 1 [⟨S128x512, extractStridedSlice S128x512 ![0, 512] a slices_S128x1024_o0_512_S128x512⟩,
    ⟨S128x512, extractStridedSlice S128x512 ![0, 0] a slices_S128x1024_o0_0_S128x512⟩] concatenates_S128x512_S128x512_S128x1024_d1
/-- The table turned left by 640 lanes. -/
def turn640 (a : FVec Ideal S128x1024 .f32) : FVec Ideal S128x1024 .f32 :=
  concatenate S128x1024 1 [⟨S128x384, extractStridedSlice S128x384 ![0, 640] a slices_S128x1024_o0_640_S128x384⟩,
    ⟨S128x640, extractStridedSlice S128x640 ![0, 0] a slices_S128x1024_o0_0_S128x640⟩] concatenates_S128x384_S128x640_S128x1024_d1
/-- The table turned left by 768 lanes. -/
def turn768 (a : FVec Ideal S128x1024 .f32) : FVec Ideal S128x1024 .f32 :=
  concatenate S128x1024 1 [⟨S128x256, extractStridedSlice S128x256 ![0, 768] a slices_S128x1024_o0_768_S128x256⟩,
    ⟨S128x768, extractStridedSlice S128x768 ![0, 0] a slices_S128x1024_o0_0_S128x768⟩] concatenates_S128x256_S128x768_S128x1024_d1
/-- The table turned left by 896 lanes. -/
def turn896 (a : FVec Ideal S128x1024 .f32) : FVec Ideal S128x1024 .f32 :=
  concatenate S128x1024 1 [⟨S128x128, extractStridedSlice S128x128 ![0, 896] a slices_S128x1024_o0_896_S128x128⟩,
    ⟨S128x896, extractStridedSlice S128x896 ![0, 0] a slices_S128x1024_o0_0_S128x896⟩] concatenates_S128x128_S128x896_S128x1024_d1

/-- An entry of the table turned left by 128 lanes. -/
theorem turn128_apply (a : FVec Ideal S128x1024 .f32) (r : Fin 128) (l : Fin 1024) : turn128 a (ix2 r l) = a (ix2 r (lane (↑l + 128))) :=
  rotated_by_slices rfl a _ _ _ r l
/-- An entry of the table turned left by 256 lanes. -/
theorem turn256_apply (a : FVec Ideal S128x1024 .f32) (r : Fin 128) (l : Fin 1024) : turn256 a (ix2 r l) = a (ix2 r (lane (↑l + 256))) :=
  rotated_by_slices rfl a _ _ _ r l
/-- An entry of the table turned left by 384 lanes. -/
theorem turn384_apply (a : FVec Ideal S128x1024 .f32) (r : Fin 128) (l : Fin 1024) : turn384 a (ix2 r l) = a (ix2 r (lane (↑l + 384))) :=
  rotated_by_slices rfl a _ _ _ r l
/-- An entry of the table turned left by 512 lanes. -/
theorem turn512_apply (a : FVec Ideal S128x1024 .f32) (r : Fin 128) (l : Fin 1024) : turn512 a (ix2 r l) = a (ix2 r (lane (↑l + 512))) :=
  rotated_by_slices rfl a _ _ _ r l
/-- An entry of the table turned left by 640 lanes. -/
theorem turn640_apply (a : FVec Ideal S128x1024 .f32) (r : Fin 128) (l : Fin 1024) : turn640 a (ix2 r l) = a (ix2 r (lane (↑l + 640))) :=
  rotated_by_slices rfl a _ _ _ r l
/-- An entry of the table turned left by 768 lanes. -/
theorem turn768_apply (a : FVec Ideal S128x1024 .f32) (r : Fin 128) (l : Fin 1024) : turn768 a (ix2 r l) = a (ix2 r (lane (↑l + 768))) :=
  rotated_by_slices rfl a _ _ _ r l
/-- An entry of the table turned left by 896 lanes. -/
theorem turn896_apply (a : FVec Ideal S128x1024 .f32) (r : Fin 128) (l : Fin 1024) : turn896 a (ix2 r l) = a (ix2 r (lane (↑l + 896))) :=
  rotated_by_slices rfl a _ _ _ r l

/-- The stored pieces, last store first: from the graph's word `g`, the shift `w`, the scalars, the two tables, and the
    eight loads of each matrix and of the magnitudes. -/
def pieces (g w : BitVec 32) (sy my v0 : Ideal .f32) (p q : FVec Ideal S128x1024 .f32)
    (x y : Fin 8 → FVec Ideal S1x144x1024 .f32) (v : Fin 8 → FVec Ideal S1x1x128 .f32) : List (View.Piece (Elt Ideal) S1x8x128 .f32) :=
  [⟨Rect.unit ![0, 7, 0] S1x1x128.size inb_S1x8x128_S1x1x128_0_7_0, later (bound g 896#32) w sy my v0 (turn896 p) (turn896 q) (x 7) (y 7) (v 7)⟩,
   ⟨Rect.unit ![0, 6, 0] S1x1x128.size inb_S1x8x128_S1x1x128_0_6_0, later (bound g 768#32) w sy my v0 (turn768 p) (turn768 q) (x 6) (y 6) (v 6)⟩,
   ⟨Rect.unit ![0, 5, 0] S1x1x128.size inb_S1x8x128_S1x1x128_0_5_0, later (bound g 640#32) w sy my v0 (turn640 p) (turn640 q) (x 5) (y 5) (v 5)⟩,
   ⟨Rect.unit ![0, 4, 0] S1x1x128.size inb_S1x8x128_S1x1x128_0_4_0, later (bound g 512#32) w sy my v0 (turn512 p) (turn512 q) (x 4) (y 4) (v 4)⟩,
   ⟨Rect.unit ![0, 3, 0] S1x1x128.size inb_S1x8x128_S1x1x128_0_3_0, later (bound g 384#32) w sy my v0 (turn384 p) (turn384 q) (x 3) (y 3) (v 3)⟩,
   ⟨Rect.unit ![0, 2, 0] S1x1x128.size inb_S1x8x128_S1x1x128_0_2_0, later (bound g 256#32) w sy my v0 (turn256 p) (turn256 q) (x 2) (y 2) (v 2)⟩,
   ⟨Rect.unit ![0, 1, 0] S1x1x128.size inb_S1x8x128_S1x1x128_0_1_0, later (bound g 128#32) w sy my v0 (turn128 p) (turn128 q) (x 1) (y 1) (v 1)⟩,
   ⟨Rect.unit ![0, 0, 0] S1x1x128.size inb_S1x8x128_S1x1x128_0_0_0, first g (bound g 0#32) w sy my v0 p q (x 0) (y 0) (v 0)⟩]

section Payloads
variable (g w : BitVec 32) (sy my v0 : Ideal .f32) (p q : FVec Ideal S128x1024 .f32) (x y : FVec Ideal S1x144x1024 .f32)
    (v : FVec Ideal S1x1x128 .f32)

/-- What the body stores for rows 0 to 127. -/
theorem stored0 : k0_pay17 sy my (k0_pay15 g w v0 p q diag (shapeCast S144x1024 x shapeCasts_S1x144x1024_S144x1024) (Scalar.subi 144#32 w) y)
    (k0_pay16 sy v) = first g (bound g 0#32) w sy my v0 p q x y v := rfl
/-- What the body stores for rows 128 to 255. -/
theorem stored1 : k0_pay21 sy my v0 p q (k0_pay18 g w diag x) (k0_pay19 g w diag y) (k0_pay20 p) v
    = later (bound g 128#32) w sy my v0 (turn128 p) (turn128 q) x y v := rfl
/-- What the body stores for rows 256 to 383. -/
theorem stored2 : k0_pay25 sy my (k0_pay23 g w v0 p q diag (k0_pay22 x) y) (k0_pay24 sy v)
    = later (bound g 256#32) w sy my v0 (turn256 p) (turn256 q) x y v := rfl
/-- What the body stores for rows 384 to 511. -/
theorem stored3 : k0_pay29 sy my v0 p q (k0_pay26 g w diag x) (k0_pay27 g w diag y) (k0_pay28 p) v
    = later (bound g 384#32) w sy my v0 (turn384 p) (turn384 q) x y v := rfl
/-- What the body stores for rows 512 to 639. -/
theorem stored4 : k0_pay33 sy my (k0_pay31 g w v0 p q diag (k0_pay30 x) y) (k0_pay32 sy v)
    = later (bound g 512#32) w sy my v0 (turn512 p) (turn512 q) x y v := rfl
/-- What the body stores for rows 640 to 767. -/
theorem stored5 : k0_pay37 sy my v0 p q (k0_pay34 g w diag x) (k0_pay35 g w diag y) (k0_pay36 p) v
    = later (bound g 640#32) w sy my v0 (turn640 p) (turn640 q) x y v := rfl
/-- What the body stores for rows 768 to 895. -/
theorem stored6 : k0_pay41 sy my (k0_pay39 g w v0 p q diag (k0_pay38 x) y) (k0_pay40 sy v)
    = later (bound g 768#32) w sy my v0 (turn768 p) (turn768 q) x y v := rfl
/-- What the body stores for rows 896 to 1023. -/
theorem stored7 : k0_pay1 sy (k0_pay45 sy my v0 p q (k0_pay42 g w diag x) (k0_pay43 g w diag y) (k0_pay44 p) v) (k0_pay46 my)
    = later (bound g 896#32) w sy my v0 (turn896 p) (turn896 q) x y v := rfl

/-- The list of the stored values, as the body computes them, is the list of the blocks. -/
theorem stored_pieces (x y : Fin 8 → FVec Ideal S1x144x1024 .f32) (v : Fin 8 → FVec Ideal S1x1x128 .f32) :
  [⟨Rect.unit ![0, 7, 0] S1x1x128.size inb_S1x8x128_S1x1x128_0_7_0, k0_pay1 sy (k0_pay45 sy my v0 p q (k0_pay42 g w diag (x 7)) (k0_pay43 g w diag (y 7)) (k0_pay44 p) (v 7)) (k0_pay46 my)⟩,
   ⟨Rect.unit ![0, 6, 0] S1x1x128.size inb_S1x8x128_S1x1x128_0_6_0, k0_pay41 sy my (k0_pay39 g w v0 p q diag (k0_pay38 (x 6)) (y 6)) (k0_pay40 sy (v 6))⟩,
   ⟨Rect.unit ![0, 5, 0] S1x1x128.size inb_S1x8x128_S1x1x128_0_5_0, k0_pay37 sy my v0 p q (k0_pay34 g w diag (x 5)) (k0_pay35 g w diag (y 5)) (k0_pay36 p) (v 5)⟩,
   ⟨Rect.unit ![0, 4, 0] S1x1x128.size inb_S1x8x128_S1x1x128_0_4_0, k0_pay33 sy my (k0_pay31 g w v0 p q diag (k0_pay30 (x 4)) (y 4)) (k0_pay32 sy (v 4))⟩,
   ⟨Rect.unit ![0, 3, 0] S1x1x128.size inb_S1x8x128_S1x1x128_0_3_0, k0_pay29 sy my v0 p q (k0_pay26 g w diag (x 3)) (k0_pay27 g w diag (y 3)) (k0_pay28 p) (v 3)⟩,
   ⟨Rect.unit ![0, 2, 0] S1x1x128.size inb_S1x8x128_S1x1x128_0_2_0, k0_pay25 sy my (k0_pay23 g w v0 p q diag (k0_pay22 (x 2)) (y 2)) (k0_pay24 sy (v 2))⟩,
   ⟨Rect.unit ![0, 1, 0] S1x1x128.size inb_S1x8x128_S1x1x128_0_1_0, k0_pay21 sy my v0 p q (k0_pay18 g w diag (x 1)) (k0_pay19 g w diag (y 1)) (k0_pay20 p) (v 1)⟩,
   ⟨Rect.unit ![0, 0, 0] S1x1x128.size inb_S1x8x128_S1x1x128_0_0_0, k0_pay17 sy my (k0_pay15 g w v0 p q diag (shapeCast S144x1024 (x 0) shapeCasts_S1x144x1024_S144x1024) (Scalar.subi 144#32 w) (y 0))
    (k0_pay16 sy (v 0))⟩] = pieces g w sy my v0 p q x y v := by
  rw [stored0, stored1, stored2, stored3, stored4, stored5, stored6, stored7]
  rfl
end Payloads

/-- A load of the first ring's slot of point `t`, which holds its own block. -/
def loadR (c : Dev nD) (t : Fin cfg0.N) (fh : HbBuf0 (F := Ideal) c hbM0_0) (off : Fin 3 → ℕ)
    (inb : ∀ a : Fin 3, off a + S1x144x1024.size a ≤ S2x1040x1024.size a) : FVec Ideal S1x144x1024 .f32 :=
  View.readAt (Elt Ideal) scM0_0.view (Rect.unit (s := S2x1040x1024) off S1x144x1024.size inb).toLoadRect
    (landed0_0 c fh (Ring.sl 2 t.val) (Ring.bk 8 t.val) (rslot0_0 (Ring.sl 2 t.val)).view.junk)

/-- A load of the second ring's slot. -/
def loadX (c : Dev nD) (t : Fin cfg0.N) (fh : HbBuf0 (F := Ideal) c hbM0_1) (off : Fin 3 → ℕ)
    (inb : ∀ a : Fin 3, off a + S1x144x1024.size a ≤ S2x1040x1024.size a) : FVec Ideal S1x144x1024 .f32 :=
  View.readAt (Elt Ideal) scM0_1.view (Rect.unit (s := S2x1040x1024) off S1x144x1024.size inb).toLoadRect
    (landed0_1 c fh (Ring.sl 2 t.val) (Ring.bk 8 t.val) (rslot0_1 (Ring.sl 2 t.val)).view.junk)

/-- The eight loads, from a load at an offset. -/
def eightLoads (t : Fin cfg0.N) (ld : (off : Fin 3 → ℕ) → (∀ a : Fin 3, off a + S1x144x1024.size a ≤ S2x1040x1024.size a) →
    FVec Ideal S1x144x1024 .f32) : Fin 8 → FVec Ideal S1x144x1024 .f32 :=
  ![ld (k0_off10 (grid0.coords t)) (k0_off10_inb _), ld (k0_off11 (grid0.coords t)) (k0_off11_inb _),
    ld (k0_off12 (grid0.coords t)) (k0_off12_inb _), ld (k0_off13 (grid0.coords t)) (k0_off13_inb _),
    ld (k0_off14 (grid0.coords t)) (k0_off14_inb _), ld (k0_off15 (grid0.coords t)) (k0_off15_inb _),
    ld (k0_off16 (grid0.coords t)) (k0_off16_inb _), ld (k0_off17 (grid0.coords t)) (k0_off17_inb _)]

section Eight
variable (t : Fin cfg0.N) (ld : (off : Fin 3 → ℕ) → (∀ a : Fin 3, off a + S1x144x1024.size a ≤ S2x1040x1024.size a) →
    FVec Ideal S1x144x1024 .f32)
/-- The body's load of window 0. -/
theorem eight0 : eightLoads t ld 0 = ld (k0_off10 (grid0.coords t)) (k0_off10_inb _) := rfl
/-- The body's load of window 1. -/
theorem eight1 : eightLoads t ld 1 = ld (k0_off11 (grid0.coords t)) (k0_off11_inb _) := rfl
/-- The body's load of window 2. -/
theorem eight2 : eightLoads t ld 2 = ld (k0_off12 (grid0.coords t)) (k0_off12_inb _) := rfl
/-- The body's load of window 3. -/
theorem eight3 : eightLoads t ld 3 = ld (k0_off13 (grid0.coords t)) (k0_off13_inb _) := rfl
/-- The body's load of window 4. -/
theorem eight4 : eightLoads t ld 4 = ld (k0_off14 (grid0.coords t)) (k0_off14_inb _) := rfl
/-- The body's load of window 5. -/
theorem eight5 : eightLoads t ld 5 = ld (k0_off15 (grid0.coords t)) (k0_off15_inb _) := rfl
/-- The body's load of window 6. -/
theorem eight6 : eightLoads t ld 6 = ld (k0_off16 (grid0.coords t)) (k0_off16_inb _) := rfl
/-- The body's load of window 7. -/
theorem eight7 : eightLoads t ld 7 = ld (k0_off17 (grid0.coords t)) (k0_off17_inb _) := rfl
end Eight

/-- The eight loads of the normalised magnitudes. -/
def loadsV (arg4 : Memref sig .tc .vmem S1x8x128 .f32) (harg4 : arg4.IsWhole) (x3 : Vec Ideal S1x8x128 .f32) :
    Fin 8 → FVec Ideal S1x1x128 .f32 :=
  fun b => View.readAt (Elt Ideal) arg4.view (Rect.unit (s := S1x8x128) ![0, b.val, 0] S1x1x128.size
    (fun a => by have := b.isLt; match a with | ⟨0, _⟩ => exact Nat.le_refl _ | ⟨1, _⟩ => show b.val + 1 ≤ 8; omega | ⟨2, _⟩ => exact Nat.le_refl _)).toLoadRect
    (harg4.unread x3)

/-- The pieces of point `t`, from the contents of the body's memories. -/
def piecesAt (c : Dev nD) (t : Fin cfg0.N) (arg1 : Memref sig .tc .smem S6 .f32) (harg1 : arg1.IsWhole)
    (arg2 : Memref sig .tc .smem S8 .f32) (harg2 : arg2.IsWhole) (arg3 : Memref sig .tc .vmem S1x2x1024 .f32) (harg3 : arg3.IsWhole)
    (arg4 : Memref sig .tc .vmem S1x8x128 .f32) (harg4 : arg4.IsWhole) (x0 : Vec Ideal S6 .f32) (x1 : Vec Ideal S8 .f32)
    (x2 : Vec Ideal S1x2x1024 .f32) (x3 : Vec Ideal S1x8x128 .f32) (fh0 : HbBuf0 (F := Ideal) c hbM0_0) (fh1 : HbBuf0 (F := Ideal) c hbM0_1) :
    List (View.Piece (Elt Ideal) S1x8x128 .f32) :=
  pieces (BitVec.ofNat 32 (grid0.coords t 0).val) (kernelRun0_C.sl.v80 t)
    (kernelRun0_C.sl.r c arg1 harg1 x0) (kernelRun0_C.sl.r_1 c arg1 harg1 x0) (kernelRun0_C.sl.r_6 c t arg2 harg2 x1)
    (kernelRun0_C.sl.v192 c t arg1 harg1 arg3 harg3 x0 x2) (kernelRun0_C.sl.v267 c t arg1 harg1 arg3 harg3 x0 x2)
    (eightLoads t (loadR c t fh0)) (eightLoads t (loadX c t fh1)) (loadsV arg4 harg4 x3)

section Runs
variable (c : Dev nD) (t : Fin cfg0.N) (arg1 : Memref sig .tc .smem S6 .f32) (harg1 : arg1.IsWhole)
    (arg2 : Memref sig .tc .smem S8 .f32) (harg2 : arg2.IsWhole) (arg3 : Memref sig .tc .vmem S1x2x1024 .f32) (harg3 : arg3.IsWhole)
    (arg4 : Memref sig .tc .vmem S1x8x128 .f32) (harg4 : arg4.IsWhole) (arg7 : Memref sig .tc .vmem S1x8x128 .f32) (harg7 : arg7.IsWhole)
    (x0 : Vec Ideal S6 .f32) (x1 : Vec Ideal S8 .f32) (x2 : Vec Ideal S1x2x1024 .f32) (x3 : Vec Ideal S1x8x128 .f32)
    (fh0 : HbBuf0 (F := Ideal) c hbM0_0) (fh1 : HbBuf0 (F := Ideal) c hbM0_1)

/-- The last point's run stores these pieces. -/
theorem pieces_C (hc0 : ¬cond0_0 (grid0.coords t)) (hc1 : ¬cond0_1 (grid0.coords t)) :
    (kernelRun0_C c t arg1 harg1 arg2 harg2 arg3 harg3 arg4 harg4 arg7 harg7 hc0 hc1 x0 x1 x2 x3 fh0 fh1).1
      = piecesAt c t arg1 harg1 arg2 harg2 arg3 harg3 arg4 harg4 x0 x1 x2 x3 fh0 fh1 := by
  delta kernelRun0_C
  dsimp only
  rw [piecesAt, ← stored_pieces]
  simp only [eight0, eight1, eight2, eight3, eight4, eight5, eight6, eight7]
  rfl

/-- So do the runs in between. -/
theorem pieces_B (hc0 : ¬cond0_0 (grid0.coords t)) (hc1 : cond0_1 (grid0.coords t)) :
    (kernelRun0_B c t arg1 harg1 arg2 harg2 arg3 harg3 arg4 harg4 arg7 harg7 hc0 hc1 x0 x1 x2 x3 fh0 fh1).1
      = piecesAt c t arg1 harg1 arg2 harg2 arg3 harg3 arg4 harg4 x0 x1 x2 x3 fh0 fh1 := by
  delta kernelRun0_B
  dsimp only
  rw [piecesAt, ← stored_pieces]
  simp only [eight0, eight1, eight2, eight3, eight4, eight5, eight6, eight7]
  rfl

/-- And the first point's. -/
theorem pieces_A (hc0 : cond0_0 (grid0.coords t)) (hc1 : cond0_1 (grid0.coords t)) :
    (kernelRun0_A c t arg1 harg1 arg2 harg2 arg3 harg3 arg4 harg4 arg7 harg7 hc0 hc1 x0 x1 x2 x3 fh0 fh1).1
      = piecesAt c t arg1 harg1 arg2 harg2 arg3 harg3 arg4 harg4 x0 x1 x2 x3 fh0 fh1 := by
  delta kernelRun0_A
  dsimp only
  rw [piecesAt, ← stored_pieces]
  simp only [eight0, eight1, eight2, eight3, eight4, eight5, eight6, eight7]
  rfl
end Runs

end Cert.KernelIdeal.Own

end
-- ==== Proof.Value.Landed.lean ====
/-
  What the body's loads read: rows of the copied block of each matrix, the scalars, the row of the window's block, and
  the normalised magnitudes.
-/
module

public import proofs.«01_k».proof.Proof.Value.Pieces
public import Idealize.ShloMosaic.Lib.VecWindow
public import Idealize.ShloMosaic.Lib.WholeRead

@[expose] public section

set_option maxRecDepth 16384

noncomputable section

namespace Cert.KernelIdeal.Own

open Idealize.ShloMosaic Idealize.ShloMosaic.TcCoe Idealize.SL.Sem
open Cert.KernelIdeal Cert.KernelIdeal.Gen

/-- The first matrix's row of block `b`'s row `k`. -/
theorem source_row (b : Fin 8) (k : ℕ) (hk : k < 1040) : 8 * (1022 * b.val / 8) + k < 8192 := by
  have := b.isLt
  omega

/-- Slot `s` of a ring of two, as a memory of its own. -/
def slotOf (M : Memref sig .tc .vmem S2x1040x1024 .f32) (s : Fin 2) (inb : ∀ a, (![s.val, 0, 0] : Fin 3 → ℕ) a + S1x1040x1024.size a ≤ S2x1040x1024.size a) :
    Memref sig .tc .vmem S1040x1024 .f32 :=
  (M.slice (Rect.unit ![s.val, 0, 0] S1x1040x1024.size inb) (fun _ => rfl)).squeeze S1040x1024 squeezes_S1x1040x1024_S1040x1024

/-- A load from a ring's slot that holds `w` reads `w` from the load's first row on. -/
theorem load_of_whole (M : Memref sig .tc .vmem S2x1040x1024 .f32) (z : Fin 2) (hz)
    (w : S1040x1024.Idx → Elt Ideal .f32) (f : M.view.ty.Contents (Elt Ideal)) (off : Fin 3 → ℕ)
    (inb : ∀ a : Fin 3, off a + S1x144x1024.size a ≤ S2x1040x1024.size a) (s : ℕ) (hs : s + 144 ≤ 1040)
    (hoff : off = ![z.val, s, 0]) (k : Fin 144) (l : Fin 1024) :
    View.readAt (Elt Ideal) M.view (Rect.unit (s := S2x1040x1024) off S1x144x1024.size inb).toLoadRect
      ((slotOf M z hz).view.writes (Elt Ideal) f [⟨Rect.whole S1040x1024, w⟩]) (ix3 0 k l)
      = w (ix2 (⟨s + k.val, by have := k.isLt; omega⟩ : Fin 1040) l) := by
  subst hoff
  have hk := k.isLt
  have h := congrFun (View.read_writes_whole (Val := Elt Ideal) (slotOf M z hz).view f w) (ix2 (⟨s + k.val, by omega⟩ : Fin 1040) l)
  generalize (slotOf M z hz).view.writes (Elt Ideal) f [⟨Rect.whole S1040x1024, w⟩] = g at h ⊢
  refine Eq.trans ?_ h
  unfold slotOf
  rw [Memref.read_squeeze_slice (Val := Elt Ideal) M (Rect.unit ![z.val, 0, 0] S1x1040x1024.size hz) (fun _ => rfl) squeezes_S1x1040x1024_S1040x1024 (show S1x1040x1024.ShapeCasts S1040x1024 by decide) g,
    shapeCast_apply _ _ (ix2 (⟨s + k.val, by omega⟩ : Fin 1040) l) (ix3 0 (⟨s + k.val, by omega⟩ : Fin 1040) l)
      (by rw [Shape.rowMajor_val_two, Shape.rowMajor_val_three]; simp [ix2, ix3])]
  show M.view.read (Elt Ideal) _ _ = M.view.read (Elt Ideal) _ _
  refine congrArg (M.view.read (Elt Ideal) _) (funext fun a => Fin.ext ?_)
  match a with
  | ⟨0, _⟩ => rfl
  | ⟨1, _⟩ => show s + 1 * k.val = 0 + 1 * (s + k.val); omega
  | ⟨2, _⟩ => rfl

/-- A matrix's block read through the transfer's source: its rows from the block's start on. -/
theorem source_apply (M : Memref sig .tc .hbm S8192x1024 .f32) (b : Fin 8) (inb : ∀ a, (![8 * (1022 * b.val / 8), 0] : Fin 2 → ℕ) a + S1040x1024.size a ≤ S8192x1024.size a)
    (f : M.view.ty.Contents (Elt Ideal)) (k : Fin 1040) (l : Fin 1024) :
    View.read (Elt Ideal) (M.slice (Rect.unit (s := S8192x1024) ![8 * (1022 * b.val / 8), 0] S1040x1024.size inb) (fun _ => rfl)).view f (ix2 k l)
      = M.view.read (Elt Ideal) f (ix2 ⟨8 * (1022 * b.val / 8) + k.val, source_row b k.val k.isLt⟩ l) := by
  show M.view.read (Elt Ideal) f _ = M.view.read (Elt Ideal) f _
  refine congrArg (M.view.read (Elt Ideal) f) (funext fun a => Fin.ext ?_)
  match a with
  | ⟨0, _⟩ => show 8 * (1022 * b.val / 8) + 1 * k.val = _; exact congrArg _ (Nat.one_mul _)
  | ⟨1, _⟩ => show 0 + 1 * l.val = l.val; omega

/-- A load of 144 rows of the first ring's slot from row `s`: rows of the matrix from the block's start plus `s`. -/
theorem loadR_apply (c : Dev nD) (t : Fin cfg0.N) (fh : HbBuf0 (F := Ideal) c hbM0_0) (off : Fin 3 → ℕ)
    (inb : ∀ a : Fin 3, off a + S1x144x1024.size a ≤ S2x1040x1024.size a) (s : ℕ) (hs : s + 144 ≤ 1040)
    (hoff : off = ![(Ring.sl 2 t.val).val, s, 0]) (k : Fin 144) (l : Fin 1024) :
    loadR c t fh off inb (ix3 0 k l)
      = hbM0_0.view.read (Elt Ideal) fh (ix2 ⟨8 * (1022 * (Ring.bk 8 t.val).val / 8) + (s + k.val), source_row _ _ (by have := k.isLt; omega)⟩ l) :=
  (load_of_whole scM0_0 (Ring.sl 2 t.val) _ (ReadAs.same.apply (View.read (Elt Ideal) (srcB0_0 (Ring.bk 8 t.val)).view fh))
    (rslot0_0 (Ring.sl 2 t.val)).view.junk off inb s hs hoff k l).trans
    (source_apply hbM0_0 (Ring.bk 8 t.val) _ fh ⟨s + k.val, by have := k.isLt; omega⟩ l)

/-- A load of 144 rows of the second ring's slot from row `s`: rows of the matrix from the block's start plus `s`. -/
theorem loadX_apply (c : Dev nD) (t : Fin cfg0.N) (fh : HbBuf0 (F := Ideal) c hbM0_1) (off : Fin 3 → ℕ)
    (inb : ∀ a : Fin 3, off a + S1x144x1024.size a ≤ S2x1040x1024.size a) (s : ℕ) (hs : s + 144 ≤ 1040)
    (hoff : off = ![(Ring.sl 2 t.val).val, s, 0]) (k : Fin 144) (l : Fin 1024) :
    loadX c t fh off inb (ix3 0 k l)
      = hbM0_1.view.read (Elt Ideal) fh (ix2 ⟨8 * (1022 * (Ring.bk 8 t.val).val / 8) + (s + k.val), source_row _ _ (by have := k.isLt; omega)⟩ l) :=
  (load_of_whole scM0_1 (Ring.sl 2 t.val) _ (ReadAs.same.apply (View.read (Elt Ideal) (srcB0_1 (Ring.bk 8 t.val)).view fh))
    (rslot0_1 (Ring.sl 2 t.val)).view.junk off inb s hs hoff k l).trans
    (source_apply hbM0_1 (Ring.bk 8 t.val) _ fh ⟨s + k.val, by have := k.isLt; omega⟩ l)

section Eight
variable (t : Fin cfg0.N) (ld : (off : Fin 3 → ℕ) → (∀ a : Fin 3, off a + S1x144x1024.size a ≤ S2x1040x1024.size a) → FVec Ideal S1x144x1024 .f32)

/-- The `b`-th of the eight loads is at row `128 b` of the slot. -/
theorem eightLoads_at (b : Fin 8) : ∃ off inb, off = ![(Ring.sl 2 t.val).val, 128 * b.val, 0] ∧ eightLoads t ld b = ld off inb := by
  match b with
  | ⟨0, _⟩ => exact ⟨_, _, coff0_0_10 t, eight0 t ld⟩
  | ⟨1, _⟩ => exact ⟨_, _, coff0_0_11 t, eight1 t ld⟩
  | ⟨2, _⟩ => exact ⟨_, _, coff0_0_12 t, eight2 t ld⟩
  | ⟨3, _⟩ => exact ⟨_, _, coff0_0_13 t, eight3 t ld⟩
  | ⟨4, _⟩ => exact ⟨_, _, coff0_0_14 t, eight4 t ld⟩
  | ⟨5, _⟩ => exact ⟨_, _, coff0_0_15 t, eight5 t ld⟩
  | ⟨6, _⟩ => exact ⟨_, _, coff0_0_16 t, eight6 t ld⟩
  | ⟨7, _⟩ => exact ⟨_, _, coff0_0_17 t, eight7 t ld⟩
end Eight

/-- The `b`-th load of the first matrix at `(k, l)`. -/
theorem rowsR (c : Dev nD) (t : Fin cfg0.N) (fh : HbBuf0 (F := Ideal) c hbM0_0) (b : Fin 8) (k : Fin 144) (l : Fin 1024) :
    eightLoads t (loadR c t fh) b (ix3 0 k l)
      = hbM0_0.view.read (Elt Ideal) fh (ix2 ⟨8 * (1022 * (Ring.bk 8 t.val).val / 8) + (128 * b.val + k.val), source_row _ _ (by have := k.isLt; have := b.isLt; omega)⟩ l) := by
  obtain ⟨off, inb, ho, he⟩ := eightLoads_at t (loadR c t fh) b
  rw [he]
  exact loadR_apply c t fh off inb _ (by have := b.isLt; omega) ho k l

/-- The `b`-th load of the second matrix at `(k, l)`. -/
theorem rowsX (c : Dev nD) (t : Fin cfg0.N) (fh : HbBuf0 (F := Ideal) c hbM0_1) (b : Fin 8) (k : Fin 144) (l : Fin 1024) :
    eightLoads t (loadX c t fh) b (ix3 0 k l)
      = hbM0_1.view.read (Elt Ideal) fh (ix2 ⟨8 * (1022 * (Ring.bk 8 t.val).val / 8) + (128 * b.val + k.val), source_row _ _ (by have := k.isLt; have := b.isLt; omega)⟩ l) := by
  obtain ⟨off, inb, ho, he⟩ := eightLoads_at t (loadX c t fh) b
  rw [he]
  exact loadX_apply c t fh off inb _ (by have := b.isLt; omega) ho k l

/-- The `b`-th load of the magnitudes at `r`. -/
theorem loadsV_apply (arg4 : Memref sig .tc .vmem S1x8x128 .f32) (harg4 : arg4.IsWhole) (x3 : Vec Ideal S1x8x128 .f32) (b : Fin 8) (r : Fin 128) :
    loadsV arg4 harg4 x3 b (ix3 0 0 r) = x3 (ix3 0 b r) := by
  unfold loadsV
  rw [Memref.IsWhole.readAt_unread]
  refine congrArg x3 (funext fun a => Fin.ext ?_)
  match a with
  | ⟨0, _⟩ => rfl
  | ⟨1, _⟩ => rfl
  | ⟨2, _⟩ => show 0 + 1 * r.val = r.val; omega

/-- The grid's one coordinate is the point. -/
theorem coord0 : ∀ t : Fin cfg0.N, (grid0.coords t 0).val = t.val := (by decide +kernel : ∀ t : Fin grid0.N, _)

/-- The shift of the rows into place, at each point. -/
theorem shift_word : ∀ t : Fin cfg0.N, kernelRun0_C.sl.v80 t = BitVec.ofNat 32 (1022 * t.val + 8 - 8 * (1022 * t.val / 8)) :=
  (by decide +kernel : ∀ t : Fin grid0.N, kernelRun0_C.sl.v80 t = BitVec.ofNat 32 (1022 * t.val + 8 - 8 * (1022 * t.val / 8)))

section Scalars
variable (c : Dev nD) (t : Fin cfg0.N) (arg1 : Memref sig .tc .smem S6 .f32) (harg1 : arg1.IsWhole)
    (arg2 : Memref sig .tc .smem S8 .f32) (harg2 : arg2.IsWhole) (arg3 : Memref sig .tc .vmem S1x2x1024 .f32) (harg3 : arg3.IsWhole)
    (x0 : Vec Ideal S6 .f32) (x1 : Vec Ideal S8 .f32) (x2 : Vec Ideal S1x2x1024 .f32)

/-- The body reads parameter 0. -/
theorem scalar0 : kernelRun0_C.sl.r c arg1 harg1 x0 = x0 (ix1 0) := by
  unfold kernelRun0_C.sl.r
  rw [Memref.IsWhole.readAt_unread]
  exact congrArg x0 (funext fun a => Fin.ext (by match a with | ⟨0, _⟩ => rfl))
/-- The body reads parameter 1. -/
theorem scalar1 : kernelRun0_C.sl.r_1 c arg1 harg1 x0 = x0 (ix1 1) := by
  unfold kernelRun0_C.sl.r_1
  rw [Memref.IsWhole.readAt_unread]
  exact congrArg x0 (funext fun a => Fin.ext (by match a with | ⟨0, _⟩ => rfl))
/-- The body reads parameter 2. -/
theorem scalar2 : kernelRun0_C.sl.r_2 c arg1 harg1 x0 = x0 (ix1 2) := by
  unfold kernelRun0_C.sl.r_2
  rw [Memref.IsWhole.readAt_unread]
  exact congrArg x0 (funext fun a => Fin.ext (by match a with | ⟨0, _⟩ => rfl))
/-- The body reads parameter 3. -/
theorem scalar3 : kernelRun0_C.sl.r_3 c arg1 harg1 x0 = x0 (ix1 3) := by
  unfold kernelRun0_C.sl.r_3
  rw [Memref.IsWhole.readAt_unread]
  exact congrArg x0 (funext fun a => Fin.ext (by match a with | ⟨0, _⟩ => rfl))
/-- The body reads parameter 4. -/
theorem scalar4 : kernelRun0_C.sl.r_4 c arg1 harg1 x0 = x0 (ix1 4) := by
  unfold kernelRun0_C.sl.r_4
  rw [Memref.IsWhole.readAt_unread]
  exact congrArg x0 (funext fun a => Fin.ext (by match a with | ⟨0, _⟩ => rfl))
/-- The body reads parameter 5. -/
theorem scalar5 : kernelRun0_C.sl.r_5 c arg1 harg1 x0 = x0 (ix1 5) := by
  unfold kernelRun0_C.sl.r_5
  rw [Memref.IsWhole.readAt_unread]
  exact congrArg x0 (funext fun a => Fin.ext (by match a with | ⟨0, _⟩ => rfl))
/-- The base voltage the body reads: point `t`'s. -/
theorem base_voltage (g : Fin 8) (hg : g.val = t.val) : kernelRun0_C.sl.r_6 c t arg2 harg2 x1 = x1 (ix1 g) := by
  have h9 : ∀ t : Fin cfg0.N, k0_off9 (grid0.coords t) = ![t.val] := (by decide +kernel : ∀ t : Fin grid0.N, _)
  unfold kernelRun0_C.sl.r_6
  rw [Memref.IsWhole.readAt_unread]
  refine congrArg x1 (funext fun a => Fin.ext ?_)
  match a with
  | ⟨0, _⟩ =>
    show k0_off9 (grid0.coords t) 0 + 1 * 0 = g.val
    rw [h9 t, hg]
    rfl
end Scalars

end Cert.KernelIdeal.Own

end
-- ==== Proof.Value.RowAt.lean ====
/-
  One run's output read at an index: each of the 1024 stored values is the correction of one node's linear estimate,
  the sum over the lanes of two matrices' rows against the two rows the tables were built from.
-/
module

public import proofs.«01_k».proof.Proof.Value.Landed

@[expose] public section

set_option maxRecDepth 16384

noncomputable section

namespace Cert.KernelIdeal.Own

open Idealize.ShloMosaic Idealize.ShloMosaic.TcCoe Idealize.SL.Sem
open Cert.KernelIdeal Cert.KernelIdeal.Gen

/-- The row of the padded, reshaped matrix that node `i` of graph `g` meets at lane `l`. -/
def srcRow (g : Fin 8) (i : Fin 1024) (l : Fin 1024) : Fin 8192 :=
  ⟨if i.val + l.val < g.val then 1022 * g.val + 9 + i.val
    else if i.val + l.val < 1024 + g.val then 1022 * g.val + 8 + i.val else 1022 * g.val + 7 + i.val, by
    have := g.isLt
    have := i.isLt
    split <;> [skip; split] <;> omega⟩

/-- The sum of node `i`'s products. -/
def rowSum (g : Fin 8) (R X : FVec Ideal S8192x1024 .f32) (P Q : Fin 1024 → EReal) (i : Fin 1024) : EReal :=
  ∑ l : Fin 1024, (R (ix2 (srcRow g i l) l) * P (lane (l.val + i.val)) + X (ix2 (srcRow g i l) l) * Q (lane (l.val + i.val)))

/-- Node `128 b + r`. -/
def node (b : Fin 8) (r : Fin 128) : Fin 1024 := ⟨128 * b.val + r.val, by have := b.isLt; have := r.isLt; omega⟩

/-- The value stored at `(0, b, r)`. -/
def stored (g : Fin 8) (sy my v0 : EReal) (R X : FVec Ideal S8192x1024 .f32) (P Q : Fin 1024 → EReal)
    (vc : FVec Ideal S1x8x128 .f32) (y : S1x8x128.Idx) : EReal :=
  corrected sy my (v0 + Ideal.ofBits .f32 0x40000000#32 * rowSum g R X P Q (node (y 1) (y 2))) (vc y)

/-- Turning by one amount and then another is turning by the sum. -/
theorem lane_lane (a b : ℕ) : lane ((lane a).val + b) = lane (a + b) := Fin.ext (by
  show (a % 1024 + b) % 1024 = (a + b) % 1024
  omega)

/-- The bound's word. -/
theorem bound_word (g : Fin 8) (s : ℕ) (hs : s ≤ 1024) :
    bound (BitVec.ofNat 32 g.val) (BitVec.ofNat 32 s) = BitVec.ofNat 32 (1024 + g.val - s) := by
  have hg := g.isLt
  unfold bound
  apply BitVec.eq_of_toNat_eq
  show ((1024#32 + BitVec.ofNat 32 g.val) - BitVec.ofNat 32 s).toNat = _
  rw [BitVec.toNat_sub, BitVec.toNat_add, BitVec.toNat_ofNat, BitVec.toNat_ofNat, BitVec.toNat_ofNat, BitVec.toNat_ofNat]
  omega

section At
variable (g : Fin 8) (sy my v0 : EReal) (R X : FVec Ideal S8192x1024 .f32) (P Q : Fin 1024 → EReal) (vc : FVec Ideal S1x8x128 .f32)

/-- The shift of graph `g`'s rows. -/
def shift (g : Fin 8) : ℕ := 1022 * g.val + 8 - 8 * (1022 * g.val / 8)

/-- A load of block `b` of a matrix: its rows from the graph's start plus `128 b`. -/
def LoadsOf (g : Fin 8) (b : Fin 8) (R : FVec Ideal S8192x1024 .f32) (x : FVec Ideal S1x144x1024 .f32) : Prop :=
  ∀ (k : Fin 144) (l : Fin 1024), x (ix3 0 k l)
    = R (ix2 ⟨8 * (1022 * g.val / 8) + (128 * b.val + k.val), source_row g _ (by have := k.isLt; have := b.isLt; omega)⟩ l)

/-- A block after the first, at row `r`. -/
theorem later_apply (b : Fin 8) (hb : 1 ≤ b.val) (p q : FVec Ideal S128x1024 .f32) (x y : FVec Ideal S1x144x1024 .f32) (v : FVec Ideal S1x1x128 .f32)
    (hx : LoadsOf g b R x) (hy : LoadsOf g b X y)
    (hp : ∀ (r : Fin 128) (l : Fin 1024), p (ix2 r l) = P (lane (l.val + (128 * b.val + r.val))))
    (hq : ∀ (r : Fin 128) (l : Fin 1024), q (ix2 r l) = Q (lane (l.val + (128 * b.val + r.val))))
    (hv : ∀ r : Fin 128, v (ix3 0 0 r) = vc (ix3 0 b r)) (r : Fin 128) :
    later (bound (BitVec.ofNat 32 g.val) (BitVec.ofNat 32 (128 * b.val))) (BitVec.ofNat 32 (shift g)) sy my v0 p q x y v (ix3 0 0 r)
      = stored g sy my v0 R X P Q vc (ix3 0 b r) := by
  have hg := g.isLt
  have hb' := b.isLt
  have hr := r.isLt
  have hs : 1 ≤ shift g ∧ shift g ≤ 15 := by unfold shift; omega
  unfold later stored rowSum
  rw [finish_apply, hv, bound_word g _ (by omega)]
  refine congrArg (fun e => corrected sy my (v0 + _ * e) _) (Finset.sum_congr rfl fun l _ => ?_)
  have hl := l.isLt
  rw [masked_apply _ _ (by omega) hs.1 hs.2, masked_apply _ _ (by omega) hs.1 hs.2, hx, hy, hp, hq]
  have e : (⟨8 * (1022 * g.val / 8) + (128 * b.val + (if r.val + l.val < 1024 + g.val - 128 * b.val then r.val + shift g else r.val + shift g - 1)),
      source_row g _ (by split <;> omega)⟩ : Fin 8192) = srcRow g (node b r) l := Fin.ext (by
    show 8 * (1022 * g.val / 8) + (128 * b.val + (if r.val + l.val < 1024 + g.val - 128 * b.val then r.val + shift g else r.val + shift g - 1))
      = if (128 * b.val + r.val) + l.val < g.val then 1022 * g.val + 9 + (128 * b.val + r.val)
        else if (128 * b.val + r.val) + l.val < 1024 + g.val then 1022 * g.val + 8 + (128 * b.val + r.val) else 1022 * g.val + 7 + (128 * b.val + r.val)
    rw [if_neg (show ¬ (128 * b.val + r.val) + l.val < g.val by omega)]
    unfold shift
    split <;> split <;> omega)
  show R (ix2 ⟨8 * (1022 * g.val / 8) + (128 * b.val + (if r.val + l.val < 1024 + g.val - 128 * b.val then r.val + shift g else r.val + shift g - 1)), _⟩ l) * _
    + X (ix2 ⟨8 * (1022 * g.val / 8) + (128 * b.val + (if r.val + l.val < 1024 + g.val - 128 * b.val then r.val + shift g else r.val + shift g - 1)), _⟩ l) * _ = _
  rw [e]
  rfl

/-- The first block, at row `r`. -/
theorem first_apply (p q : FVec Ideal S128x1024 .f32) (x y : FVec Ideal S1x144x1024 .f32) (v : FVec Ideal S1x1x128 .f32)
    (hx : LoadsOf g 0 R x) (hy : LoadsOf g 0 X y)
    (hp : ∀ (r : Fin 128) (l : Fin 1024), p (ix2 r l) = P (lane (l.val + r.val)))
    (hq : ∀ (r : Fin 128) (l : Fin 1024), q (ix2 r l) = Q (lane (l.val + r.val)))
    (hv : ∀ r : Fin 128, v (ix3 0 0 r) = vc (ix3 0 0 r)) (r : Fin 128) :
    first (BitVec.ofNat 32 g.val) (bound (BitVec.ofNat 32 g.val) 0#32) (BitVec.ofNat 32 (shift g)) sy my v0 p q x y v (ix3 0 0 r)
      = stored g sy my v0 R X P Q vc (ix3 0 0 r) := by
  have hg := g.isLt
  have hr := r.isLt
  have hs : 1 ≤ shift g ∧ shift g ≤ 15 := by unfold shift; omega
  have en : node 0 r = ⟨r.val, by omega⟩ := Fin.ext (by show 128 * 0 + r.val = r.val; omega)
  unfold first stored rowSum
  rw [finish_apply, hv, show bound (BitVec.ofNat 32 g.val) 0#32 = BitVec.ofNat 32 (1024 + g.val - 0) from bound_word g 0 (by omega)]
  show corrected _ _ (v0 + _ * ∑ l, _) _ = corrected _ _ (v0 + _ * ∑ l, (R (ix2 (srcRow g (node 0 r) l) l) * P (lane (l.val + (node 0 r).val))
    + X (ix2 (srcRow g (node 0 r) l) l) * Q (lane (l.val + (node 0 r).val)))) _
  rw [en]
  refine congrArg (fun e => corrected sy my (v0 + _ * e) _) (Finset.sum_congr rfl fun l _ => ?_)
  have hl := l.isLt
  rw [maskedFirst_apply _ _ _ (by omega) (by omega) hs.1 hs.2, maskedFirst_apply _ _ _ (by omega) (by omega) hs.1 hs.2, hx, hy, hp, hq]
  have e : (⟨8 * (1022 * g.val / 8) + (128 * (0 : Fin 8).val + (if r.val + l.val < g.val then r.val + shift g + 1
      else if r.val + l.val < 1024 + g.val - 0 then r.val + shift g else r.val + shift g - 1)),
      source_row g _ (by split <;> [skip; split] <;> simp <;> omega)⟩ : Fin 8192) = srcRow g ⟨r.val, by omega⟩ l := Fin.ext (by
    show 8 * (1022 * g.val / 8) + (128 * 0 + (if r.val + l.val < g.val then r.val + shift g + 1
      else if r.val + l.val < 1024 + g.val - 0 then r.val + shift g else r.val + shift g - 1))
      = if r.val + l.val < g.val then 1022 * g.val + 9 + r.val
        else if r.val + l.val < 1024 + g.val then 1022 * g.val + 8 + r.val else 1022 * g.val + 7 + r.val
    unfold shift
    split <;> [skip; split] <;> (try split) <;> omega)
  show R (ix2 ⟨8 * (1022 * g.val / 8) + (128 * (0 : Fin 8).val + (if r.val + l.val < g.val then r.val + shift g + 1
      else if r.val + l.val < 1024 + g.val - 0 then r.val + shift g else r.val + shift g - 1)), _⟩ l) * _
    + X (ix2 ⟨8 * (1022 * g.val / 8) + (128 * (0 : Fin 8).val + (if r.val + l.val < g.val then r.val + shift g + 1
      else if r.val + l.val < 1024 + g.val - 0 then r.val + shift g else r.val + shift g - 1)), _⟩ l) * _ = _
  rw [e]

/-- A block's piece holds what its rows hold. -/
theorem piece_of (b : Fin 8) (G : S1x8x128.Idx → EReal) (a : FVec Ideal S1x1x128 .f32)
    (inb : ∀ i, (![0, b.val, 0] : Fin 3 → ℕ) i + S1x1x128.size i ≤ S1x8x128.size i)
    (h : ∀ r : Fin 128, a (ix3 0 0 r) = G (ix3 0 b r)) (x : (Rect.unit (s := S1x8x128) ![0, b.val, 0] S1x1x128.size inb).shape.Idx) :
    a x = G ((Rect.unit (s := S1x8x128) ![0, b.val, 0] S1x1x128.size inb).emb x) := by
  have e : x = ix3 (0 : Fin 1) (0 : Fin 1) (x 2 : Fin 128) := funext fun i => by
    match i with
    | ⟨0, _⟩ => exact Subsingleton.elim (α := Fin 1) _ _
    | ⟨1, _⟩ => exact Subsingleton.elim (α := Fin 1) _ _
    | ⟨2, _⟩ => rfl
  rw [e]
  refine (h _).trans (congrArg G (funext fun i => Fin.ext ?_))
  match i with
  | ⟨0, _⟩ => rfl
  | ⟨1, _⟩ => rfl
  | ⟨2, _⟩ => show (x 2).val = 0 + 1 * (x 2).val; omega

/-- A turned table. -/
theorem turned (s : ℕ) (p p' : FVec Ideal S128x1024 .f32) (hp : ∀ (r : Fin 128) (l : Fin 1024), p (ix2 r l) = P (lane (l.val + r.val)))
    (h : ∀ r l, p' (ix2 r l) = p (ix2 r (lane (l.val + s)))) (r : Fin 128) (l : Fin 1024) : p' (ix2 r l) = P (lane (l.val + (s + r.val))) := by
  rw [h, hp, lane_lane, Nat.add_assoc]

/-- Every stored piece holds the values of `stored`. -/
theorem pieces_apply (p q : FVec Ideal S128x1024 .f32) (x y : Fin 8 → FVec Ideal S1x144x1024 .f32) (v : Fin 8 → FVec Ideal S1x1x128 .f32)
    (hx : ∀ b, LoadsOf g b R (x b)) (hy : ∀ b, LoadsOf g b X (y b))
    (hp : ∀ (r : Fin 128) (l : Fin 1024), p (ix2 r l) = P (lane (l.val + r.val)))
    (hq : ∀ (r : Fin 128) (l : Fin 1024), q (ix2 r l) = Q (lane (l.val + r.val)))
    (hv : ∀ b (r : Fin 128), v b (ix3 0 0 r) = vc (ix3 0 b r)) :
    ∀ pc ∈ pieces (BitVec.ofNat 32 g.val) (BitVec.ofNat 32 (shift g)) sy my v0 p q x y v, ∀ i, pc.2 i = stored g sy my v0 R X P Q vc (pc.1.emb i) := by
  intro pc hpc
  simp only [pieces, List.mem_cons, List.not_mem_nil, or_false] at hpc
  rcases hpc with rfl | rfl | rfl | rfl | rfl | rfl | rfl | rfl
  · exact piece_of 7 _ _ inb_S1x8x128_S1x1x128_0_7_0 (later_apply g sy my v0 R X P Q vc 7 (by decide) _ _ _ _ _ (hx 7) (hy 7) (turned P 896 p _ hp (turn896_apply p)) (turned Q 896 q _ hq (turn896_apply q)) (hv 7))
  · exact piece_of 6 _ _ inb_S1x8x128_S1x1x128_0_6_0 (later_apply g sy my v0 R X P Q vc 6 (by decide) _ _ _ _ _ (hx 6) (hy 6) (turned P 768 p _ hp (turn768_apply p)) (turned Q 768 q _ hq (turn768_apply q)) (hv 6))
  · exact piece_of 5 _ _ inb_S1x8x128_S1x1x128_0_5_0 (later_apply g sy my v0 R X P Q vc 5 (by decide) _ _ _ _ _ (hx 5) (hy 5) (turned P 640 p _ hp (turn640_apply p)) (turned Q 640 q _ hq (turn640_apply q)) (hv 5))
  · exact piece_of 4 _ _ inb_S1x8x128_S1x1x128_0_4_0 (later_apply g sy my v0 R X P Q vc 4 (by decide) _ _ _ _ _ (hx 4) (hy 4) (turned P 512 p _ hp (turn512_apply p)) (turned Q 512 q _ hq (turn512_apply q)) (hv 4))
  · exact piece_of 3 _ _ inb_S1x8x128_S1x1x128_0_3_0 (later_apply g sy my v0 R X P Q vc 3 (by decide) _ _ _ _ _ (hx 3) (hy 3) (turned P 384 p _ hp (turn384_apply p)) (turned Q 384 q _ hq (turn384_apply q)) (hv 3))
  · exact piece_of 2 _ _ inb_S1x8x128_S1x1x128_0_2_0 (later_apply g sy my v0 R X P Q vc 2 (by decide) _ _ _ _ _ (hx 2) (hy 2) (turned P 256 p _ hp (turn256_apply p)) (turned Q 256 q _ hq (turn256_apply q)) (hv 2))
  · exact piece_of 1 _ _ inb_S1x8x128_S1x1x128_0_1_0 (later_apply g sy my v0 R X P Q vc 1 (by decide) _ _ _ _ _ (hx 1) (hy 1) (turned P 128 p _ hp (turn128_apply p)) (turned Q 128 q _ hq (turn128_apply q)) (hv 1))
  · exact piece_of 0 _ _ inb_S1x8x128_S1x1x128_0_0_0 (first_apply g sy my v0 R X P Q vc _ _ _ _ _ (hx 0) (hy 0) hp hq (hv 0))

end At

end Cert.KernelIdeal.Own

end
-- ==== Proof.Value.TableRow.lean ====
/-
  The two rows the tables are built from: a stacked row scaled, shifted and negated, zero at one lane.
-/
module

public import proofs.«01_k».proof.Proof.Value.RowAt

@[expose] public section

set_option maxRecDepth 16384

noncomputable section

namespace Cert.KernelIdeal.Own

open Idealize.ShloMosaic Idealize.ShloMosaic.TcCoe Idealize.SL.Sem
open Cert.KernelIdeal Cert.KernelIdeal.Gen

/-- Lane `k` of graph `g`'s row: `0 - (x k * (s + ε) + m)`, and zero at the lane before lane `g`. -/
def tableRow (g : Fin 8) (s m : EReal) (x : Fin 1024 → EReal) (k : Fin 1024) : EReal :=
  if k.val = (g.val + 1023) % 1024 then 0 else 0 - (x k * (s + Ideal.ofBits .f32 0x358637BD#32) + m)

/-- The masked lane's word. -/
theorem masked_lane_word : ∀ g : Fin 8, Scalar.remsi (Scalar.addi (BitVec.ofNat 32 g.val) 1023#32) 1024#32 = BitVec.ofNat 32 ((g.val + 1023) % 1024) := by
  decide

/-- The comparison with the masked lane. -/
theorem masked_lane_ne (g : Fin 8) (k : Fin 1024) :
    IntOp.cmpi .ne (BitVec.ofNat 32 k.val) (BitVec.ofNat 32 ((g.val + 1023) % 1024)) = 1#1 ↔ ¬k.val = (g.val + 1023) % 1024 := by
  have h : BitVec.ofNat 32 k.val = BitVec.ofNat 32 ((g.val + 1023) % 1024) ↔ k.val = (g.val + 1023) % 1024 := by
    constructor
    · intro h
      have := congrArg BitVec.toNat h
      simp only [BitVec.toNat_ofNat] at this
      have := k.isLt
      omega
    · intro h; rw [h]
  rw [← h]
  by_cases e : BitVec.ofNat 32 k.val = BitVec.ofNat 32 ((g.val + 1023) % 1024)
  · simp [IntOp.cmpi, e]
  · have hb : (BitVec.ofNat 32 k.val != BitVec.ofNat 32 ((g.val + 1023) % 1024)) = true := bne_iff_ne.mpr e
    refine ⟨fun _ => e, fun _ => ?_⟩
    simp only [IntOp.cmpi, hb]
    rfl

/-- The first row at a lane. -/
theorem firstRow_apply (g : Fin 8) (s m : EReal) (x : FVec Ideal S1x1x1024 .f32) (k : Fin 1024) :
    k0_pay2 (F := Ideal) (BitVec.ofNat 32 g.val) s m x (ix2 0 k) = tableRow g s m (fun k => x (ix3 0 0 k)) k := by
  have e : k0_pay2 (F := Ideal) (BitVec.ofNat 32 g.val) s m x (ix2 0 k)
      = if IntOp.cmpi .ne (BitVec.ofNat 32 k.val) (Scalar.remsi (Scalar.addi (BitVec.ofNat 32 g.val) 1023#32) 1024#32) = 1#1
        then 0 - (x (ix3 0 0 k) * (s + Ideal.ofBits .f32 0x358637BD#32) + m) else 0 := by
    pointwise [k0_pay2]
    try rfl
  rw [e, masked_lane_word, tableRow]
  by_cases h : k.val = (g.val + 1023) % 1024
  · rw [if_neg (fun hh => (masked_lane_ne g k).mp hh h), if_pos h]
  · rw [if_pos ((masked_lane_ne g k).mpr h), if_neg h]

/-- The second row at a lane. -/
theorem secondRow_apply (g : Fin 8) (s m : EReal) (x : FVec Ideal S1x1x1024 .f32) (k : Fin 1024) :
    k0_pay5 (F := Ideal) (k0_pay3 (BitVec.ofNat 32 g.val)) (k0_pay4 (F := Ideal) s m x) (ix2 0 k) = tableRow g s m (fun k => x (ix3 0 0 k)) k := by
  have e : k0_pay5 (F := Ideal) (k0_pay3 (BitVec.ofNat 32 g.val)) (k0_pay4 (F := Ideal) s m x) (ix2 0 k)
      = if IntOp.cmpi .ne (BitVec.ofNat 32 k.val) (Scalar.remsi (Scalar.addi (BitVec.ofNat 32 g.val) 1023#32) 1024#32) = 1#1
        then 0 - (x (ix3 0 0 k) * (s + Ideal.ofBits .f32 0x358637BD#32) + m) else 0 := by
    pointwise [k0_pay3, k0_pay4, k0_pay5]
    try rfl
  rw [e, masked_lane_word, tableRow]
  by_cases h : k.val = (g.val + 1023) % 1024
  · rw [if_neg (fun hh => (masked_lane_ne g k).mp hh h), if_pos h]
  · rw [if_pos ((masked_lane_ne g k).mpr h), if_neg h]

section Rows
variable (c : Dev nD) (t : Fin cfg0.N) (arg1 : Memref sig .tc .smem S6 .f32) (harg1 : arg1.IsWhole)
    (arg3 : Memref sig .tc .vmem S1x2x1024 .f32) (harg3 : arg3.IsWhole)
    (x0 : Vec Ideal S6 .f32) (x2 : Vec Ideal S1x2x1024 .f32)

/-- The first table's entries. -/
theorem table_first_at (g : Fin 8) (hg : g.val = t.val) (r : Fin 128) (l : Fin 1024) :
    kernelRun0_C.sl.v192 c t arg1 harg1 arg3 harg3 x0 x2 (ix2 r l)
      = tableRow g (x0 (ix1 2)) (x0 (ix1 3)) (fun k => x2 (ix3 0 0 k)) (lane (l.val + r.val)) := by
  have e : kernelRun0_C.sl.v192 c t arg1 harg1 arg3 harg3 x0 x2 = table (kernelRun0_C.sl.r_7 c t arg1 harg1 arg3 harg3 x0 x2) := rfl
  rw [e, table_apply]
  unfold kernelRun0_C.sl.r_7
  rw [scalar2, scalar3, coord0, ← hg, firstRow_apply]
  refine congrArg (fun f => tableRow g _ _ f _) (funext fun k => ?_)
  rw [Memref.IsWhole.readAt_unread]
  refine congrArg x2 (funext fun a => Fin.ext ?_)
  match a with
  | ⟨0, _⟩ => rfl
  | ⟨1, _⟩ => rfl
  | ⟨2, _⟩ => show 0 + 1 * k.val = k.val; omega

/-- The second table's entries. -/
theorem table_second_at (g : Fin 8) (hg : g.val = t.val) (r : Fin 128) (l : Fin 1024) :
    kernelRun0_C.sl.v267 c t arg1 harg1 arg3 harg3 x0 x2 (ix2 r l)
      = tableRow g (x0 (ix1 4)) (x0 (ix1 5)) (fun k => x2 (ix3 0 1 k)) (lane (l.val + r.val)) := by
  have e : kernelRun0_C.sl.v267 c t arg1 harg1 arg3 harg3 x0 x2 = table (kernelRun0_C.sl.r_10 c t arg1 harg1 arg3 harg3 x0 x2) := rfl
  rw [e, table_apply]
  unfold kernelRun0_C.sl.r_10 kernelRun0_C.sl.r_8 kernelRun0_C.sl.r_9
  rw [scalar4, scalar5, coord0, ← hg, secondRow_apply]
  refine congrArg (fun f => tableRow g _ _ f _) (funext fun k => ?_)
  rw [Memref.IsWhole.readAt_unread]
  refine congrArg x2 (funext fun a => Fin.ext ?_)
  match a with
  | ⟨0, _⟩ => rfl
  | ⟨1, _⟩ => rfl
  | ⟨2, _⟩ => show 0 + 1 * k.val = k.val; omega
end Rows

end Cert.KernelIdeal.Own

end
-- ==== Proof.Value.PointOut.lean ====
/-
  What one grid point leaves in its output block: the value of `stored` at every index.
-/
module

public import proofs.«01_k».proof.Proof.Value.TableRow

@[expose] public section

set_option maxRecDepth 16384

noncomputable section

namespace Cert.KernelIdeal.Own

open Idealize.ShloMosaic Idealize.ShloMosaic.TcCoe Idealize.SL.Sem
open Cert.KernelIdeal Cert.KernelIdeal.Gen

/-- The block of graph `g`, from the point's windows and the two padded matrices. -/
def pointOut (g : Fin 8) (x0 : Vec Ideal S6 .f32) (x1 : Vec Ideal S8 .f32) (x2 : Vec Ideal S1x2x1024 .f32) (x3 : Vec Ideal S1x8x128 .f32)
    (R X : FVec Ideal S8192x1024 .f32) : S1x8x128.Idx → EReal :=
  stored g (x0 (ix1 0)) (x0 (ix1 1)) (x1 (ix1 g)) R X
    (tableRow g (x0 (ix1 2)) (x0 (ix1 3)) (fun k => x2 (ix3 0 0 k)))
    (tableRow g (x0 (ix1 4)) (x0 (ix1 5)) (fun k => x2 (ix3 0 1 k))) x3

section Pieces
variable (c : Dev nD) (t : Fin cfg0.N) (arg1 : Memref sig .tc .smem S6 .f32) (harg1 : arg1.IsWhole)
    (arg2 : Memref sig .tc .smem S8 .f32) (harg2 : arg2.IsWhole) (arg3 : Memref sig .tc .vmem S1x2x1024 .f32) (harg3 : arg3.IsWhole)
    (arg4 : Memref sig .tc .vmem S1x8x128 .f32) (harg4 : arg4.IsWhole)
    (x0 : Vec Ideal S6 .f32) (x1 : Vec Ideal S8 .f32) (x2 : Vec Ideal S1x2x1024 .f32) (x3 : Vec Ideal S1x8x128 .f32)
    (fh0 : HbBuf0 (F := Ideal) c hbM0_0) (fh1 : HbBuf0 (F := Ideal) c hbM0_1)

/-- Point `t`'s own start row is graph `t`'s. -/
theorem start_of_point : ∀ t : Fin cfg0.N, (Ring.bk 8 t.val).val = t.val := (by decide +kernel : ∀ t : Fin grid0.N, (Ring.bk 8 t.val).val = t.val)

/-- Every stored piece holds its part of `pointOut`. -/
theorem piecesAt_apply (g : Fin 8) (hg : g.val = t.val) :
    ∀ pc ∈ piecesAt c t arg1 harg1 arg2 harg2 arg3 harg3 arg4 harg4 x0 x1 x2 x3 fh0 fh1, ∀ i,
      pc.2 i = pointOut g x0 x1 x2 x3 (hbM0_0.view.read (Elt Ideal) fh0) (hbM0_1.view.read (Elt Ideal) fh1) (pc.1.emb i) := by
  have hb : Ring.bk 8 t.val = g := Fin.ext ((start_of_point t).trans hg.symm)
  have hw : kernelRun0_C.sl.v80 t = BitVec.ofNat 32 (shift g) := by rw [shift_word, ← hg]; rfl
  unfold piecesAt
  rw [hw, coord0, ← hg, scalar0, scalar1, base_voltage c t arg2 harg2 x1 g hg]
  unfold pointOut
  refine pieces_apply g (x0 (ix1 0)) (x0 (ix1 1)) (x1 (ix1 g)) (hbM0_0.view.read (Elt Ideal) fh0) (hbM0_1.view.read (Elt Ideal) fh1) _ _ x3 _ _ _ _ _ ?_ ?_
    (table_first_at c t arg1 harg1 arg3 harg3 x0 x2 g hg) (table_second_at c t arg1 harg1 arg3 harg3 x0 x2 g hg) (loadsV_apply arg4 harg4 x3)
  · intro b k l
    have := rowsR c t fh0 b k l
    simp only [hb] at this
    exact this
  · intro b k l
    have := rowsX c t fh1 b k l
    simp only [hb] at this
    exact this
end Pieces

variable (m : (ℓ : Loc nD τ sig) → Buf (Elt Ideal) ℓ)

/-- The output block of point `t`. -/
theorem outsAt0_apply (c : Dev nD) (t : Fin cfg0.N) (g : Fin 8) (hg : g.val = t.val) (y : S1x8x128.Idx) :
    outsAt0 m c t.val t.isLt y
      = pointOut g (iblk m c 0 t) (iblk m c 1 t) (iblk m c 2 t) (iblk m c 3 t)
          (hbM0_0.view.read (Elt Ideal) (V m c main_call0_v3)) (hbM0_1.view.read (Elt Ideal) (V m c main_call0_v5)) y := by
  by_cases h0 : t.val % 8 = 0
  · have h1 : t.val < 7 := by have := g.isLt; omega
    rw [outsAt0_A m c t h0 h1]
    unfold out0_A_4
    refine View.read_writes_apply_of_pieces _ _ _ _ ?_ y (cover0_A_4 c t _ _ _ _ _ _ _ _ _ _ _ _ _ _ _ _ _ _ y)
    rw [pieces_A]
    exact piecesAt_apply c t _ _ _ _ _ _ _ _ _ _ _ _ _ _ g hg
  · by_cases h1 : t.val < 7
    · rw [outsAt0_B m c t h0 h1]
      unfold out0_B_4
      refine View.read_writes_apply_of_pieces _ _ _ _ ?_ y (cover0_B_4 c t _ _ _ _ _ _ _ _ _ _ _ _ _ _ _ _ _ _ y)
      rw [pieces_B]
      exact piecesAt_apply c t _ _ _ _ _ _ _ _ _ _ _ _ _ _ g hg
    · rw [outsAt0_C m c t h0 h1]
      unfold out0_C_4
      refine View.read_writes_apply_of_pieces _ _ _ _ ?_ y (cover0_C_4 c t _ _ _ _ _ _ _ _ _ _ _ _ _ _ _ _ _ _ y)
      rw [pieces_C]
      exact piecesAt_apply c t _ _ _ _ _ _ _ _ _ _ _ _ _ _ g hg

end Cert.KernelIdeal.Own

end
-- ==== Proof.Value.Entry.lean ====
/-
  The arrays the host prepares before the grid: the two padded matrices, the stacked inputs rolled by the graph number,
  the padded voltages and the six scale parameters, each as a term over the arguments.
-/
module

public import proofs.«01_k».proof.Proof.Value.PointOut
public import Idealize.ShloMosaic.Lib.StableHlo.RunRead

@[expose] public section

set_option maxRecDepth 16384

noncomputable section

namespace Cert.KernelIdeal.Own

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The padding value: zero converted from an integer. -/
def padValue : FVec Ideal S_ .f32 := sitofp .f32 (constantI S_ 32 0#32)

/-- A matrix with `8192` entries before it and `8184` after it, cut into rows of 1024. -/
def paddedRows (x : FVec Ideal S8372232 .f32) : FVec Ideal S8192x1024 .f32 :=
  shapeCast S8192x1024 (pad S8388608 ![8192] ![8184] ![0] x padValue pads_S8372232_S8388608_819281840 h_S_) shapeCasts_S8388608_S8192x1024

/-- Columns 2 and 3 of the inputs, stacked for each graph, without each graph's first row, padded to 1024 lanes. -/
def stackedInputs (x : FVec Ideal S8192x4 .f32) : FVec Ideal S8x2x1024 .f32 :=
  pad S8x2x1024 ![0, 0, 0] ![0, 0, 1] ![0, 0, 0]
    (concatenate S8x2x1023 1
      [⟨S8x1x1023, broadcastInDim S8x1x1023 ![0, 2] bcast_S8x1023_S8x1x1023_0_2
          (shapeCast S8x1023 (extractStridedSlice S8x1023x1 ![0, 1, 2] (shapeCast S8x1024x4 x shapeCasts_S8192x4_S8x1024x4) slices_S8x1024x4_S8x1023x1_0_1_2) shapeCasts_S8x1023x1_S8x1023)⟩,
       ⟨S8x1x1023, broadcastInDim S8x1x1023 ![0, 2] bcast_S8x1023_S8x1x1023_0_2
          (shapeCast S8x1023 (extractStridedSlice S8x1023x1 ![0, 1, 3] (shapeCast S8x1024x4 x shapeCasts_S8192x4_S8x1024x4) slices_S8x1024x4_S8x1023x1_0_1_3) shapeCasts_S8x1023x1_S8x1023)⟩]
      concatenates_S8x1x1023_S8x1x1023_S8x2x1023_d1) padValue pads_S8x2x1023_S8x2x1024_000_000_010 h_S_

/-- Graph `o`'s two rows rolled by `e` lanes. -/
def rolledRow (o s e : ℕ) (w : FVec Ideal S8x2x1024 .f32) (h0 : S8x2x1024.Slices ![o, 0, 0] S1x2x1024)
    (h1 : S2x1024.Slices ![0, s] ⟨2, ![2, e]⟩) (h2 : S2x1024.Slices ![0, 0] ⟨2, ![2, s]⟩)
    (h3 : Shape.Concatenates [(⟨2, ![2, e]⟩ : Shape), ⟨2, ![2, s]⟩] S2x1024 1) : FVec Ideal S1x2x1024 .f32 :=
  broadcastInDim S1x2x1024 ![1, 2] bcast_S2x1024_S1x2x1024_1_2
    (concatenate S2x1024 1
      [⟨_, extractStridedSlice ⟨2, ![2, e]⟩ ![0, s] (shapeCast S2x1024 (extractStridedSlice S1x2x1024 ![o, 0, 0] w h0) shapeCasts_S1x2x1024_S2x1024) h1⟩,
       ⟨_, extractStridedSlice ⟨2, ![2, s]⟩ ![0, 0] (shapeCast S2x1024 (extractStridedSlice S1x2x1024 ![o, 0, 0] w h0) shapeCasts_S1x2x1024_S2x1024) h2⟩] h3)

/-- The voltages' first column without each graph's first row, padded to 1024 lanes, in blocks of 128. -/
def paddedVoltages (v : FVec Ideal S8192x3 .f32) : FVec Ideal S8x8x128 .f32 :=
  shapeCast S8x8x128
    (pad S8x1024 ![0, 0] ![0, 1] ![0, 0]
      (shapeCast S8x1023 (extractStridedSlice S8x1023x1 ![0, 1, 0] (shapeCast S8x1024x3 v shapeCasts_S8192x3_S8x1024x3) slices_S8x1024x3_S8x1023x1_0_1_0) shapeCasts_S8x1023x1_S8x1023)
      padValue pads_S8x1023_S8x1024_000_010 h_S_) shapeCasts_S8x1024_S8x8x128

/-- One entry of a vector of three, as a vector of one. -/
def single3 (o : ℕ) (v : FVec Ideal S3 .f32) (h : S3.Slices ![o] S1) : FVec Ideal S1 .f32 :=
  broadcastInDim S1 ![] bcast_S_S1 (shapeCast S_ (extractStridedSlice S1 ![o] v h) shapeCasts_S1_S_)

/-- One entry of a vector of four, as a vector of one. -/
def single4 (o : ℕ) (v : FVec Ideal S4 .f32) (h : S4.Slices ![o] S1) : FVec Ideal S1 .f32 :=
  broadcastInDim S1 ![] bcast_S_S1 (shapeCast S_ (extractStridedSlice S1 ![o] v h) shapeCasts_S1_S_)

section Reads
variable (c : Dev nD)

/-- The grid finds the padded R matrices. -/
theorem entry_R : V m c main_call0_v3 = paddedRows (m ((c : Thread nD τ).loc main_arg2)) := by
  after_reads_simp
  rfl

/-- The grid finds the padded X matrices. -/
theorem entry_X : V m c main_call0_v5 = paddedRows (m ((c : Thread nD τ).loc main_arg3)) := by
  after_reads_simp
  rfl

/-- The grid finds the padded first column of the estimates. -/
theorem entry_voltages : V m c main_call0_v50 = paddedVoltages (m ((c : Thread nD τ).loc main_arg0)) := by
  after_reads_simp
  rfl

/-- The buffers before operation `n`. -/
abbrev before (n : ℕ) : Valuation τ sig (Elt Ideal) := upto (List.flatten [hostOps0]) (fun b => m (c, b)) n

/-- The stacked inputs, before they are rolled. -/
theorem before_stacked : before m c 20 (Proc.tc.devRef main_call0_v13) = stackedInputs (m ((c : Thread nD τ).loc main_arg1)) := by
  after_reads_simp
  rfl

section Rolled

set_option maxHeartbeats 2000000 in
/-- Graph 0's rows. -/
theorem rolled0 : before m c 68 (Proc.tc.devRef main_call0_v38)
    = rolledRow 0 0 1024 (stackedInputs (m ((c : Thread nD τ).loc main_arg1))) slices_S8x2x1024_S1x2x1024_0_0_0 slices_S2x1024_S2x1024_0_0 slices_S2x1024_S2x0_0_0 concatenates_S2x1024_S2x0_S2x1024_d1 := by
  after_reads_simp
  rfl
set_option maxHeartbeats 2000000 in
/-- Graph 1's rows. -/
theorem rolled1 : before m c 68 (Proc.tc.devRef main_call0_v39)
    = rolledRow 1 1023 1 (stackedInputs (m ((c : Thread nD τ).loc main_arg1))) slices_S8x2x1024_S1x2x1024_1_0_0 slices_S2x1024_S2x1_0_1023 slices_S2x1024_S2x1023_0_0 concatenates_S2x1_S2x1023_S2x1024_d1 := by
  after_reads_simp
  rfl
set_option maxHeartbeats 2000000 in
/-- Graph 2's rows. -/
theorem rolled2 : before m c 68 (Proc.tc.devRef main_call0_v40)
    = rolledRow 2 1022 2 (stackedInputs (m ((c : Thread nD τ).loc main_arg1))) slices_S8x2x1024_S1x2x1024_2_0_0 slices_S2x1024_S2x2_0_1022 slices_S2x1024_S2x1022_0_0 concatenates_S2x2_S2x1022_S2x1024_d1 := by
  after_reads_simp
  rfl
set_option maxHeartbeats 2000000 in
/-- Graph 3's rows. -/
theorem rolled3 : before m c 68 (Proc.tc.devRef main_call0_v41)
    = rolledRow 3 1021 3 (stackedInputs (m ((c : Thread nD τ).loc main_arg1))) slices_S8x2x1024_S1x2x1024_3_0_0 slices_S2x1024_S2x3_0_1021 slices_S2x1024_S2x1021_0_0 concatenates_S2x3_S2x1021_S2x1024_d1 := by
  after_reads_simp
  rfl
set_option maxHeartbeats 2000000 in
/-- Graph 4's rows. -/
theorem rolled4 : before m c 68 (Proc.tc.devRef main_call0_v42)
    = rolledRow 4 1020 4 (stackedInputs (m ((c : Thread nD τ).loc main_arg1))) slices_S8x2x1024_S1x2x1024_4_0_0 slices_S2x1024_S2x4_0_1020 slices_S2x1024_S2x1020_0_0 concatenates_S2x4_S2x1020_S2x1024_d1 := by
  after_reads_simp
  rfl
set_option maxHeartbeats 2000000 in
/-- Graph 5's rows. -/
theorem rolled5 : before m c 68 (Proc.tc.devRef main_call0_v43)
    = rolledRow 5 1019 5 (stackedInputs (m ((c : Thread nD τ).loc main_arg1))) slices_S8x2x1024_S1x2x1024_5_0_0 slices_S2x1024_S2x5_0_1019 slices_S2x1024_S2x1019_0_0 concatenates_S2x5_S2x1019_S2x1024_d1 := by
  after_reads_simp
  rfl
set_option maxHeartbeats 2000000 in
/-- Graph 6's rows. -/
theorem rolled6 : before m c 68 (Proc.tc.devRef main_call0_v44)
    = rolledRow 6 1018 6 (stackedInputs (m ((c : Thread nD τ).loc main_arg1))) slices_S8x2x1024_S1x2x1024_6_0_0 slices_S2x1024_S2x6_0_1018 slices_S2x1024_S2x1018_0_0 concatenates_S2x6_S2x1018_S2x1024_d1 := by
  after_reads_simp
  rfl
set_option maxHeartbeats 2000000 in
/-- Graph 7's rows. -/
theorem rolled7 : before m c 68 (Proc.tc.devRef main_call0_v45)
    = rolledRow 7 1017 7 (stackedInputs (m ((c : Thread nD τ).loc main_arg1))) slices_S8x2x1024_S1x2x1024_7_0_0 slices_S2x1024_S2x7_0_1017 slices_S2x1024_S2x1017_0_0 concatenates_S2x7_S2x1017_S2x1024_d1 := by
  after_reads_simp
  rfl
end Rolled

/-- The rolled inputs: eight graphs' rows. -/
theorem entry_rolled_of (p0 p1 p2 p3 p4 p5 p6 p7 : FVec Ideal S1x2x1024 .f32)
    (h0 : before m c 68 (Proc.tc.devRef main_call0_v38) = p0)
    (h1 : before m c 68 (Proc.tc.devRef main_call0_v39) = p1)
    (h2 : before m c 68 (Proc.tc.devRef main_call0_v40) = p2)
    (h3 : before m c 68 (Proc.tc.devRef main_call0_v41) = p3)
    (h4 : before m c 68 (Proc.tc.devRef main_call0_v42) = p4)
    (h5 : before m c 68 (Proc.tc.devRef main_call0_v43) = p5)
    (h6 : before m c 68 (Proc.tc.devRef main_call0_v44) = p6)
    (h7 : before m c 68 (Proc.tc.devRef main_call0_v45) = p7) :
    V m c main_call0_v46 = concatenate S8x2x1024 0 [⟨S1x2x1024, p0⟩, ⟨S1x2x1024, p1⟩, ⟨S1x2x1024, p2⟩, ⟨S1x2x1024, p3⟩, ⟨S1x2x1024, p4⟩, ⟨S1x2x1024, p5⟩, ⟨S1x2x1024, p6⟩, ⟨S1x2x1024, p7⟩] concatenates_S1x2x1024_S1x2x1024_S1x2x1024_S1x2x1024_S1x2x1024_S1x2x1024_S1x2x1024_S1x2x1024_S8x2x1024_d0 := by
  after_reads_simp
  unfold before at h0 h1 h2 h3 h4 h5 h6 h7
  generalize upto (List.flatten [hostOps0]) (fun b => m (c, b)) 68 = σ at h0 h1 h2 h3 h4 h5 h6 h7 ⊢
  subst h0 h1 h2 h3 h4 h5 h6 h7
  rfl

/-- The six scale parameters. -/
theorem entry_params_of (p0 p1 p2 p3 p4 p5 : FVec Ideal S1 .f32)
    (h0 : before m c 93 (Proc.tc.devRef main_call0_v63) = p0)
    (h1 : before m c 93 (Proc.tc.devRef main_call0_v64) = p1)
    (h2 : before m c 93 (Proc.tc.devRef main_call0_v65) = p2)
    (h3 : before m c 93 (Proc.tc.devRef main_call0_v66) = p3)
    (h4 : before m c 93 (Proc.tc.devRef main_call0_v67) = p4)
    (h5 : before m c 93 (Proc.tc.devRef main_call0_v68) = p5) :
    V m c main_call0_v69 = concatenate S6 0 [⟨S1, p0⟩, ⟨S1, p1⟩, ⟨S1, p2⟩, ⟨S1, p3⟩, ⟨S1, p4⟩, ⟨S1, p5⟩] concatenates_S1_S1_S1_S1_S1_S1_S6_d0 := by
  after_reads_simp
  unfold before at h0 h1 h2 h3 h4 h5
  generalize upto (List.flatten [hostOps0]) (fun b => m (c, b)) 93 = σ at h0 h1 h2 h3 h4 h5 ⊢
  subst h0 h1 h2 h3 h4 h5
  rfl

/-- Parameter 0: the scale of the first column of the estimates. -/
theorem param0 : before m c 93 (Proc.tc.devRef main_call0_v63) = single3 0 (m ((c : Thread nD τ).loc main_arg7)) slices_S3_S1_0 := by
  after_reads_simp
  rfl
/-- Parameter 1: its mean. -/
theorem param1 : before m c 93 (Proc.tc.devRef main_call0_v64) = single3 0 (m ((c : Thread nD τ).loc main_arg8)) slices_S3_S1_0 := by
  after_reads_simp
  rfl
/-- Parameter 2: the scale of the inputs' column 2. -/
theorem param2 : before m c 93 (Proc.tc.devRef main_call0_v65) = single4 2 (m ((c : Thread nD τ).loc main_arg9)) slices_S4_S1_2 := by
  after_reads_simp
  rfl
/-- Parameter 3: its mean. -/
theorem param3 : before m c 93 (Proc.tc.devRef main_call0_v66) = single4 2 (m ((c : Thread nD τ).loc main_arg10)) slices_S4_S1_2 := by
  after_reads_simp
  rfl
/-- Parameter 4: the scale of the inputs' column 3. -/
theorem param4 : before m c 93 (Proc.tc.devRef main_call0_v67) = single4 3 (m ((c : Thread nD τ).loc main_arg9)) slices_S4_S1_3 := by
  after_reads_simp
  rfl
/-- Parameter 5: its mean. -/
theorem param5 : before m c 93 (Proc.tc.devRef main_call0_v68) = single4 3 (m ((c : Thread nD τ).loc main_arg10)) slices_S4_S1_3 := by
  after_reads_simp
  rfl

end Reads

end Cert.KernelIdeal.Own

end
-- ==== Proof.Value.HostAt.lean ====
/-
  The host's arrays read at an index.
-/
module

public import proofs.«01_k».proof.Proof.Value.Entry

@[expose] public section

set_option maxRecDepth 16384

noncomputable section

namespace Cert.KernelIdeal.Own

open Idealize.ShloMosaic Idealize.ShloMosaic.TcCoe Idealize.SL.Sem
open Cert.KernelIdeal Cert.KernelIdeal.Gen

/-- A padded matrix at a place inside the matrix. -/
theorem paddedRows_apply (x : FVec Ideal S8372232 .f32) (i : Fin 8192) (l : Fin 1024) (f : Fin 8372232)
    (hf : 1024 * i.val + l.val = 8192 + f.val) : paddedRows x (ix2 i l) = x (ix1 f) := by
  unfold paddedRows
  rw [shapeCast_apply _ _ (ix2 i l) (ix1 (⟨8192 + f.val, by have := f.isLt; omega⟩ : Fin 8388608))
    (by rw [Shape.rowMajor_val_one, Shape.rowMajor_val_two]; show 8192 + f.val = i.val * 1024 + l.val; omega)]
  refine pad_apply_of_inside _ _ _ _ _ _ _ _ (ix1 f) ?_
  intro a
  match a with
  | ⟨0, _⟩ => show 8192 + f.val = 8192 + f.val * (0 + 1); omega

/-- A stacked input at an unpadded lane. -/
theorem stackedInputs_apply (x : FVec Ideal S8192x4 .f32) (g : Fin 8) (j : Fin 2) (k : Fin 1024) (hk : k.val < 1023)
    (n : Fin 8192) (hn : n.val = 1024 * g.val + 1 + k.val) (q : Fin 4) (hq : q.val = 2 + j.val) :
    stackedInputs x (ix3 g j k) = x (ix2 n q) := by
  unfold stackedInputs
  rw [pad_apply_of_inside _ _ _ _ _ _ _ (ix3 g j k) (ix3 g j (⟨k.val, hk⟩ : Fin 1023)) (by
    intro a
    match a with
    | ⟨0, _⟩ => show g.val = 0 + g.val * (0 + 1); omega
    | ⟨1, _⟩ => show j.val = 0 + j.val * (0 + 1); omega
    | ⟨2, _⟩ => show k.val = 0 + k.val * (0 + 1); omega)]
  have hrow : ∀ (o : Fin 2) (h : S8x1024x4.Slices ![0, 1, 2 + o.val] S8x1023x1), q.val = 2 + o.val →
      broadcastInDim S8x1x1023 ![0, 2] bcast_S8x1023_S8x1x1023_0_2
          (shapeCast S8x1023 (extractStridedSlice S8x1023x1 ![0, 1, 2 + o.val] (shapeCast S8x1024x4 x shapeCasts_S8192x4_S8x1024x4) h) shapeCasts_S8x1023x1_S8x1023)
        (ix3 g 0 (⟨k.val, hk⟩ : Fin 1023)) = x (ix2 n q) := by
    intro o h ho
    have hg := g.isLt
    rw [broadcastInDim_apply _ _ _ _ (ix2 g (⟨k.val, hk⟩ : Fin 1023)) (by
      intro a
      match a with
      | ⟨0, _⟩ => rfl
      | ⟨1, _⟩ => rfl)]
    rw [shapeCast_apply _ _ (ix2 g (⟨k.val, hk⟩ : Fin 1023)) (ix3 g (⟨k.val, hk⟩ : Fin 1023) 0)
      (by rw [Shape.rowMajor_val_two, Shape.rowMajor_val_three]; show (g.val * 1023 + k.val) * 1 + 0 = g.val * 1023 + k.val; omega)]
    rw [extractStridedSlice_apply _ _ h _ (ix3 g (⟨1 + k.val, by omega⟩ : Fin 1024) q) (by
      intro a
      match a with
      | ⟨0, _⟩ => exact (Nat.zero_add _).symm
      | ⟨1, _⟩ => rfl
      | ⟨2, _⟩ => exact ho)]
    exact shapeCast_apply _ _ _ _ (by
      rw [Shape.rowMajor_val_two, Shape.rowMajor_val_three]
      show n.val * 4 + q.val = (g.val * 1024 + (1 + k.val)) * 4 + q.val
      omega)
  match j with
  | ⟨0, _⟩ =>
    refine Eq.trans (concatenate_pair_apply_left (t := S8x2x1023) (s₁ := S8x1x1023) (s₂ := S8x1x1023) 1 _ _ _ _ rfl (ix3 g 0 (⟨k.val, hk⟩ : Fin 1023))
      (fun b => by match b with | ⟨0, _⟩ => rfl | ⟨1, _⟩ => rfl | ⟨2, _⟩ => rfl)) ?_
    exact hrow 0 _ hq
  | ⟨1, _⟩ =>
    refine Eq.trans (concatenate_pair_apply_right (t := S8x2x1023) (s₁ := S8x1x1023) (s₂ := S8x1x1023) 1 _ _ _ _ rfl rfl (ix3 g 0 (⟨k.val, hk⟩ : Fin 1023))
      (fun b hb => by match b with | ⟨0, _⟩ => rfl | ⟨1, _⟩ => exact absurd rfl hb | ⟨2, _⟩ => rfl) rfl) ?_
    exact hrow 1 _ hq

/-- A rolled row at a lane. -/
theorem rolledRow_apply (o : Fin 8) (s e : ℕ) (hes : e + s = 1024) (w : FVec Ideal S8x2x1024 .f32) (h0 : S8x2x1024.Slices ![o.val, 0, 0] S1x2x1024)
    (h1 : S2x1024.Slices ![0, s] ⟨2, ![2, e]⟩) (h2 : S2x1024.Slices ![0, 0] ⟨2, ![2, s]⟩)
    (h3 : Shape.Concatenates [(⟨2, ![2, e]⟩ : Shape), ⟨2, ![2, s]⟩] S2x1024 1) (j : Fin 2) (l : Fin 1024) :
    rolledRow o.val s e w h0 h1 h2 h3 (ix3 0 j l) = w (ix3 o j (lane (l.val + s))) := by
  unfold rolledRow
  rw [broadcastInDim_apply _ _ _ _ (ix2 j l) (by
    intro a
    match a with
    | ⟨0, _⟩ => rfl
    | ⟨1, _⟩ => rfl)]
  rw [rotated_by_slices hes _ h1 h2 h3 j l]
  rw [shapeCast_apply _ _ (ix2 j (lane (l.val + s))) (ix3 0 j (lane (l.val + s)))
    (by rw [Shape.rowMajor_val_two, Shape.rowMajor_val_three]; show (0 * 2 + j.val) * 1024 + (lane (l.val + s)).val = j.val * 1024 + (lane (l.val + s)).val; omega)]
  exact extractStridedSlice_apply _ _ h0 _ _ (by
    intro a
    match a with
    | ⟨0, _⟩ => rfl
    | ⟨1, _⟩ => exact (Nat.zero_add _).symm
    | ⟨2, _⟩ => exact (Nat.zero_add _).symm)

/-- A padded voltage at an unpadded node. -/
theorem paddedVoltages_apply (v : FVec Ideal S8192x3 .f32) (g b : Fin 8) (r : Fin 128) (h : 128 * b.val + r.val < 1023)
    (n : Fin 8192) (hn : n.val = 1024 * g.val + 1 + (128 * b.val + r.val)) : paddedVoltages v (ix3 g b r) = v (ix2 n 0) := by
  have hg := g.isLt
  unfold paddedVoltages
  rw [shapeCast_apply _ _ (ix3 g b r) (ix2 g (⟨128 * b.val + r.val, by omega⟩ : Fin 1024))
    (by rw [Shape.rowMajor_val_two, Shape.rowMajor_val_three]; show g.val * 1024 + (128 * b.val + r.val) = (g.val * 8 + b.val) * 128 + r.val; omega)]
  rw [pad_apply_of_inside _ _ _ _ _ _ _ _ (ix2 g (⟨128 * b.val + r.val, h⟩ : Fin 1023)) (by
    intro a
    match a with
    | ⟨0, _⟩ => show g.val = 0 + g.val * (0 + 1); omega
    | ⟨1, _⟩ => show 128 * b.val + r.val = 0 + (128 * b.val + r.val) * (0 + 1); omega)]
  rw [shapeCast_apply _ _ (ix2 g (⟨128 * b.val + r.val, h⟩ : Fin 1023)) (ix3 g (⟨128 * b.val + r.val, h⟩ : Fin 1023) 0)
    (by rw [Shape.rowMajor_val_two, Shape.rowMajor_val_three]; show (g.val * 1023 + (128 * b.val + r.val)) * 1 + 0 = g.val * 1023 + (128 * b.val + r.val); omega)]
  rw [extractStridedSlice_apply _ _ slices_S8x1024x3_S8x1023x1_0_1_0 _ (ix3 g (⟨1 + (128 * b.val + r.val), by omega⟩ : Fin 1024) 0) (by
    intro a
    match a with
    | ⟨0, _⟩ => exact (Nat.zero_add _).symm
    | ⟨1, _⟩ => rfl
    | ⟨2, _⟩ => rfl)]
  exact shapeCast_apply _ _ _ _ (by
    rw [Shape.rowMajor_val_two, Shape.rowMajor_val_three]
    show n.val * 3 + 0 = (g.val * 1024 + (1 + (128 * b.val + r.val))) * 3 + 0
    omega)

/-- One entry of three. -/
theorem single3_apply (o : Fin 3) (v : FVec Ideal S3 .f32) (h : S3.Slices ![o.val] S1) : single3 o.val v h (ix1 0) = v (ix1 o) := by
  unfold single3
  rw [broadcastInDim_apply _ _ _ _ (fun a => a.elim0) (fun a => a.elim0)]
  rw [shapeCast_apply _ _ _ (ix1 0) (by decide)]
  exact extractStridedSlice_apply _ _ h _ _ (by intro a; match a with | ⟨0, _⟩ => rfl)

/-- One entry of four. -/
theorem single4_apply (o : Fin 4) (v : FVec Ideal S4 .f32) (h : S4.Slices ![o.val] S1) : single4 o.val v h (ix1 0) = v (ix1 o) := by
  unfold single4
  rw [broadcastInDim_apply _ _ _ _ (fun a => a.elim0) (fun a => a.elim0)]
  rw [shapeCast_apply _ _ _ (ix1 0) (by decide)]
  exact extractStridedSlice_apply _ _ h _ _ (by intro a; match a with | ⟨0, _⟩ => rfl)

section Windows
variable (m : (ℓ : Loc nD τ sig) → Buf (Elt Ideal) ℓ) (c : Dev nD)

/-- The rolled inputs: graph `g`'s rows are its stacked inputs turned right by `g` lanes. -/
theorem rolled_at (g : Fin 8) (j : Fin 2) (l : Fin 1024) :
    V m c main_call0_v46 (ix3 g j l) = stackedInputs (m ((c : Thread nD τ).loc main_arg1)) (ix3 g j (lane (l.val + (1024 - g.val)))) := by
  rw [entry_rolled_of m c _ _ _ _ _ _ _ _ (rolled0 m c) (rolled1 m c) (rolled2 m c) (rolled3 m c) (rolled4 m c) (rolled5 m c) (rolled6 m c) (rolled7 m c)]
  generalize stackedInputs (m ((c : Thread nD τ).loc main_arg1)) = w
  have piece (g : Fin 8) (s e : ℕ) (hes : e + s = 1024) (he : e = g.val ∨ (g.val = 0 ∧ s = 0)) (xs : List ((s : Shape) × (s.Idx → EReal)))
      (h : Shape.Concatenates (xs.map (·.1)) S8x2x1024 0) (hk : g.val < xs.length) (h0 : S8x2x1024.Slices ![g.val, 0, 0] S1x2x1024)
      (h1 : S2x1024.Slices ![0, s] ⟨2, ![2, e]⟩) (h2 : S2x1024.Slices ![0, 0] ⟨2, ![2, s]⟩)
      (h3 : Shape.Concatenates [(⟨2, ![2, e]⟩ : Shape), ⟨2, ![2, s]⟩] S2x1024 1)
      (hx : xs[g.val] = ⟨S1x2x1024, rolledRow g.val s e w h0 h1 h2 h3⟩)
      (hpre : (((xs.take g.val).map (·.1)).map fun s => if h : s.rank = S8x2x1024.rank then s.size ((0 : Fin 3).cast h.symm) else 0).sum = g.val) :
      concatenate S8x2x1024 0 xs h (ix3 g j l) = w (ix3 g j (lane (l.val + (1024 - g.val)))) := by
    rw [concatenate_apply_piece 0 xs h (ix3 g j l) g.val hk S1x2x1024 _ hx rfl g.val hpre (ix3 0 j l)
      (fun b hb => by match b with | ⟨0, _⟩ => exact absurd rfl hb | ⟨1, _⟩ => rfl | ⟨2, _⟩ => rfl) rfl]
    rw [rolledRow_apply g s e hes]
    refine congrArg (fun k => w (ix3 g j k)) (Fin.ext ?_)
    have := g.isLt
    show (l.val + s) % 1024 = (l.val + (1024 - g.val)) % 1024
    omega
  match g with
  | ⟨0, _⟩ => exact piece 0 0 1024 rfl (Or.inr ⟨rfl, rfl⟩) _ _ (show (0 : ℕ) < 8 by decide) _ _ _ _ rfl rfl
  | ⟨1, _⟩ => exact piece 1 1023 1 rfl (Or.inl rfl) _ _ (show (1 : ℕ) < 8 by decide) _ _ _ _ rfl rfl
  | ⟨2, _⟩ => exact piece 2 1022 2 rfl (Or.inl rfl) _ _ (show (2 : ℕ) < 8 by decide) _ _ _ _ rfl rfl
  | ⟨3, _⟩ => exact piece 3 1021 3 rfl (Or.inl rfl) _ _ (show (3 : ℕ) < 8 by decide) _ _ _ _ rfl rfl
  | ⟨4, _⟩ => exact piece 4 1020 4 rfl (Or.inl rfl) _ _ (show (4 : ℕ) < 8 by decide) _ _ _ _ rfl rfl
  | ⟨5, _⟩ => exact piece 5 1019 5 rfl (Or.inl rfl) _ _ (show (5 : ℕ) < 8 by decide) _ _ _ _ rfl rfl
  | ⟨6, _⟩ => exact piece 6 1018 6 rfl (Or.inl rfl) _ _ (show (6 : ℕ) < 8 by decide) _ _ _ _ rfl rfl
  | ⟨7, _⟩ => exact piece 7 1017 7 rfl (Or.inl rfl) _ _ (show (7 : ℕ) < 8 by decide) _ _ _ _ rfl rfl

/-- The six scale parameters. -/
theorem params_at : V m c main_call0_v69 (ix1 0) = m ((c : Thread nD τ).loc main_arg7) (ix1 0)
    ∧ V m c main_call0_v69 (ix1 1) = m ((c : Thread nD τ).loc main_arg8) (ix1 0)
    ∧ V m c main_call0_v69 (ix1 2) = m ((c : Thread nD τ).loc main_arg9) (ix1 2)
    ∧ V m c main_call0_v69 (ix1 3) = m ((c : Thread nD τ).loc main_arg10) (ix1 2)
    ∧ V m c main_call0_v69 (ix1 4) = m ((c : Thread nD τ).loc main_arg9) (ix1 3)
    ∧ V m c main_call0_v69 (ix1 5) = m ((c : Thread nD τ).loc main_arg10) (ix1 3) := by
  rw [entry_params_of m c _ _ _ _ _ _ (param0 m c) (param1 m c) (param2 m c) (param3 m c) (param4 m c) (param5 m c)]
  have piece (k : Fin 6) (x : FVec Ideal S1 .f32) (xs : List ((s : Shape) × (s.Idx → EReal)))
      (h : Shape.Concatenates (xs.map (·.1)) S6 0) (hk : k.val < xs.length) (hx : xs[k.val] = ⟨S1, x⟩)
      (hpre : (((xs.take k.val).map (·.1)).map fun s => if h : s.rank = S6.rank then s.size ((0 : Fin 1).cast h.symm) else 0).sum = k.val) :
      concatenate S6 0 xs h (ix1 k) = x (ix1 0) :=
    concatenate_apply_piece 0 xs h (ix1 k) k.val hk S1 _ hx rfl k.val hpre (ix1 0)
      (fun b hb => by match b with | ⟨0, _⟩ => exact absurd rfl hb) rfl
  refine ⟨?_, ?_, ?_, ?_, ?_, ?_⟩
  · refine Eq.trans (piece 0 _ _ _ (show (0 : ℕ) < 6 by decide) rfl rfl) ?_
    exact single3_apply 0 _ _
  · refine Eq.trans (piece 1 _ _ _ (show (1 : ℕ) < 6 by decide) rfl rfl) ?_
    exact single3_apply 0 _ _
  · refine Eq.trans (piece 2 _ _ _ (show (2 : ℕ) < 6 by decide) rfl rfl) ?_
    exact single4_apply 2 _ _
  · refine Eq.trans (piece 3 _ _ _ (show (3 : ℕ) < 6 by decide) rfl rfl) ?_
    exact single4_apply 2 _ _
  · refine Eq.trans (piece 4 _ _ _ (show (4 : ℕ) < 6 by decide) rfl rfl) ?_
    exact single4_apply 3 _ _
  · refine Eq.trans (piece 5 _ _ _ (show (5 : ℕ) < 6 by decide) rfl rfl) ?_
    exact single4_apply 3 _ _
end Windows

end Cert.KernelIdeal.Own

end
-- ==== Proof.Value.OutArray.lean ====
/-
  The kernel's output array after the grid, read at a graph, a block and a row.
-/
module

public import proofs.«01_k».proof.Proof.Value.HostAt
public import Idealize.ShloMosaic.Lib.Pipeline.ValueKit

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The windows' block indices at every point. -/
theorem idx : ∀ t : Fin cfg0.N, win0_0.index t = ![0] ∧ win0_1.index t = ![0] ∧ win0_2.index t = ![t.val, 0, 0]
    ∧ win0_3.index t = ![t.val, 0, 0] ∧ win0_4.index t = ![t.val, 0, 0] :=
  (by decide +kernel : ∀ t : Fin grid0.N, win0_0.index t = ![0] ∧ win0_1.index t = ![0] ∧ win0_2.index t = ![t.val, 0, 0]
    ∧ win0_3.index t = ![t.val, 0, 0] ∧ win0_4.index t = ![t.val, 0, 0])

/-- The scale parameters' block is the whole vector. -/
theorem iblk0_apply (t : Fin cfg0.N) (k : Fin 6) : iblk m c 0 t (ix1 k) = V m c main_call0_v69 (ix1 k) := by
  blk_ext [iblk, idx t]

/-- The base voltages' block is the whole vector. -/
theorem iblk1_apply (t : Fin cfg0.N) (k : Fin 8) : iblk m c 1 t (ix1 k) = m ((c : Thread nD τ).loc main_arg6) (ix1 k) := by
  rw [← V_main_arg6 m c]
  blk_ext [iblk, idx t]

/-- The rolled inputs' block is one graph's. -/
theorem iblk2_apply (t : Fin cfg0.N) (g : Fin 8) (hg : g.val = t.val) (j : Fin 2) (k : Fin 1024) :
    iblk m c 2 t (ix3 0 j k) = V m c main_call0_v46 (ix3 g j k) := by
  blk_ext [iblk, idx t]

/-- The voltages' block is one graph's. -/
theorem iblk3_apply (t : Fin cfg0.N) (g : Fin 8) (hg : g.val = t.val) (b : Fin 8) (r : Fin 128) :
    iblk m c 3 t (ix3 0 b r) = V m c main_call0_v50 (ix3 g b r) := by
  blk_ext [iblk, idx t]

/-- Reading a whole matrix through its reference gives the matrix. -/
theorem read_R (f : HbBuf0 (F := Ideal) c hbM0_0) : hbM0_0.view.read (Elt Ideal) f = f := rfl
/-- Reading the whole X buffer gives its contents. -/
theorem read_X (f : HbBuf0 (F := Ideal) c hbM0_1) : hbM0_1.view.read (Elt Ideal) f = f := rfl

/-- The value the kernel leaves at graph `g`, block `b`, row `r`, from the arrays the grid finds. -/
def outOf (x0 : FVec Ideal S6 .f32) (x1 : FVec Ideal S8 .f32) (x2 : FVec Ideal S8x2x1024 .f32) (x3 : FVec Ideal S8x8x128 .f32)
    (R X : FVec Ideal S8192x1024 .f32) (i : S8x8x128.Idx) : EReal :=
  corrected (x0 (ix1 0)) (x0 (ix1 1)) (x1 (ix1 (i 0)) + Ideal.ofBits .f32 0x40000000#32
      * rowSum (i 0) R X (tableRow (i 0) (x0 (ix1 2)) (x0 (ix1 3)) (fun k => x2 (ix3 (i 0) 0 k)))
        (tableRow (i 0) (x0 (ix1 4)) (x0 (ix1 5)) (fun k => x2 (ix3 (i 0) 1 k))) (node (i 1) (i 2)))
    (x3 i)

/-- The whole output array, from the arrays the grid finds. -/
def outArray : FVec Ideal S8x8x128 .f32 :=
  outOf (V m c main_call0_v69) (m ((c : Thread nD τ).loc main_arg6)) (V m c main_call0_v46) (V m c main_call0_v50) (V m c main_call0_v3) (V m c main_call0_v5)

/-- What one grid point leaves in its block, from the arrays the grid finds. -/
theorem block_apply (t : Fin cfg0.N) (g : Fin 8) (hg : g.val = t.val) (b : Fin 8) (r : Fin 128) :
    outsAt0 m c t.val t.isLt (ix3 0 b r) = outArray m c (ix3 g b r) := by
  rw [outsAt0_apply m c t g hg]
  unfold pointOut stored outArray outOf
  rw [read_R, read_X, iblk0_apply, iblk0_apply, iblk0_apply, iblk0_apply, iblk0_apply, iblk0_apply, iblk1_apply,
    iblk3_apply m c t g hg, funext (iblk2_apply m c t g hg 0), funext (iblk2_apply m c t g hg 1)]
  rfl

/-- The output array after the grid. -/
theorem out_array : (dats m 0 c).arrAt 4 cfg0.N = outArray m c := by
  refine (dats m 0 c).arrAt_eq_of_covers 4 _ (by decide +kernel) fun t _ y => ?_
  have hN : t.val < 8 := lt_of_lt_of_eq t.isLt N_0
  blk_simp
  rw [after0_4]
  have hy : (y 0).val < 1 := (y 0).isLt
  have e : y = ix3 0 (y 1) (y 2) := by
    funext a; refine Fin.ext ?_
    match a with
    | 0 => show (y 0).val = 0; omega
    | 1 => rfl
    | 2 => rfl
  refine (congrArg (outsAt0 m c t.val t.isLt) e).trans ((block_apply m c t ⟨t.val, hN⟩ rfl (y 1) (y 2)).trans (congrArg (outArray m c) ?_))
  funext a; refine Fin.ext ?_
  match a with
  | 0 => blk_simp; simp [idx t]
  | 1 => blk_simp; simp [idx t]
  | 2 => blk_simp; simp [idx t]

end Cert.KernelIdeal.Own

end
-- ==== Proof.Value.Spec.lean ====
/-
  The result of the kernel in closed form: at a graph's slack node, and in every column but the first, the estimate given;
  at the other nodes the corrected linear estimate, one sum over the graph's 1023 nodes.
-/
module

public import proofs.«01_k».proof.Proof.Value.Block

@[expose] public section

set_option maxRecDepth 16384

noncomputable section

namespace Cert.KernelIdeal.Own

open Idealize.ShloMosaic Idealize.ShloMosaic.TcCoe Idealize.SL.Sem
open Cert.KernelIdeal Cert.KernelIdeal.Gen

/-- The row, in a table of all nodes, of node `j` of graph `g`, the slack node not counted. -/
def nodeRow (g : Fin 8) (j : Fin 1023) : Fin 8192 := ⟨1024 * g.val + 1 + j.val, by have := g.isLt; have := j.isLt; omega⟩

/-- The place, in a flat list of the graphs' matrices, of entry `(i, j)` of graph `g`'s. -/
def entryAt (g : Fin 8) (i j : Fin 1023) : Fin 8372232 :=
  ⟨1046529 * g.val + 1023 * i.val + j.val, by have := g.isLt; have := i.isLt; have := j.isLt; omega⟩

/-- Column `q` of the inputs at node `j` of graph `g`, rescaled and negated. -/
def injected (x : FVec Ideal S8192x4 .f32) (sx mx : FVec Ideal S4 .f32) (q : Fin 4) (g : Fin 8) (j : Fin 1023) : EReal :=
  0 - (x (ix2 (nodeRow g j) q) * (sx (ix1 q) + Ideal.ofBits .f32 0x358637BD#32) + mx (ix1 q))

/-- The sum over the nodes of both matrices' entries times the injections. -/
def injectedSum (x : FVec Ideal S8192x4 .f32) (R X : FVec Ideal S8372232 .f32) (sx mx : FVec Ideal S4 .f32) (g : Fin 8) (i : Fin 1023) : EReal :=
  ∑ j : Fin 1023, (R (ix1 (entryAt g i j)) * injected x sx mx 2 g j + X (ix1 (entryAt g i j)) * injected x sx mx 3 g j)

/-- The corrected value of node `i` of graph `g`. -/
def nodeValue (v : FVec Ideal S8192x3 .f32) (x : FVec Ideal S8192x4 .f32) (R X : FVec Ideal S8372232 .f32) (base : FVec Ideal S8 .f32)
    (sy my : FVec Ideal S3 .f32) (sx mx : FVec Ideal S4 .f32) (g : Fin 8) (i : Fin 1023) : EReal :=
  corrected (sy (ix1 0)) (my (ix1 0)) (base (ix1 g) + Ideal.ofBits .f32 0x40000000#32 * injectedSum x R X sx mx g i) (v (ix2 (nodeRow g i) 0))

/-- The value at graph `g`, node `n` and column `k` of the result. -/
def resultAt (v : FVec Ideal S8192x3 .f32) (x : FVec Ideal S8192x4 .f32) (R X : FVec Ideal S8372232 .f32) (base : FVec Ideal S8 .f32)
    (sy my : FVec Ideal S3 .f32) (sx mx : FVec Ideal S4 .f32) (g : Fin 8) (n : Fin 1024) (k : Fin 3) : EReal :=
  if h : 1 ≤ n.val ∧ k.val = 0 then nodeValue v x R X base sy my sx mx g ⟨n.val - 1, by have := n.isLt; omega⟩
  else v (ix2 ⟨1024 * g.val + n.val, by have := g.isLt; have := n.isLt; omega⟩ k)

end Cert.KernelIdeal.Own

end
-- ==== Proof.Value.Rotate.lean ====
/-
  The sum the kernel takes over the lanes, in an order that depends on the node, is the sum over the graph's nodes.
-/
module

public import proofs.«01_k».proof.Proof.Value.HostAt
public import proofs.«01_k».proof.Proof.Value.Spec

@[expose] public section

set_option maxRecDepth 16384

noncomputable section

namespace Cert.KernelIdeal.Own

open Idealize.ShloMosaic Idealize.ShloMosaic.TcCoe Idealize.SL.Sem
open Cert.KernelIdeal Cert.KernelIdeal.Gen

/-- A sum over the lanes does not change when the lanes are turned by `s`. -/
theorem sum_turned (f : Fin 1024 → EReal) (s : ℕ) : ∑ l : Fin 1024, f (lane (l.val + s)) = ∑ l : Fin 1024, f l := by
  refine Fintype.sum_equiv (Equiv.addRight (lane s)) _ _ fun l => congrArg f (Fin.ext ?_)
  show (l.val + s) % 1024 = (l.val + s % 1024) % 1024
  omega

/-- A sum over the lanes whose last term is zero is the sum over the first 1023. -/
theorem sum_last_zero (f : Fin 1024 → EReal) (h : f (Fin.last 1023) = 0) : ∑ l : Fin 1024, f l = ∑ j : Fin 1023, f j.castSucc := by
  rw [Fin.sum_univ_castSucc, h, add_zero]

/-- A rolled row of inputs, negated: zero at the lane of no node. -/
theorem tableRow_none (g : Fin 8) (s e : EReal) (x : Fin 1024 → EReal) (k : Fin 1024) (h : k.val = (g.val + 1023) % 1024) :
    tableRow g s e x k = 0 := if_pos h

/-- A rolled row of inputs, negated: the injection of the node whose lane it is. -/
theorem tableRow_node (g : Fin 8) (x : FVec Ideal S8192x4 .f32) (sx mx : FVec Ideal S4 .f32) (a : Fin 2) (q : Fin 4) (hq : q.val = 2 + a.val)
    (k : Fin 1024) (j : Fin 1023) (h : (k.val + (1024 - g.val)) % 1024 = j.val) :
    tableRow g (sx (ix1 q)) (mx (ix1 q)) (fun k => stackedInputs x (ix3 g a (lane (k.val + (1024 - g.val))))) k = injected x sx mx q g j := by
  have hg := g.isLt
  have hk := k.isLt
  have hj := j.isLt
  unfold tableRow injected
  rw [if_neg (by omega)]
  show 0 - (stackedInputs x (ix3 g a (lane (k.val + (1024 - g.val)))) * _ + _) = _
  rw [show lane (k.val + (1024 - g.val)) = ⟨j.val, by omega⟩ from Fin.ext h,
    stackedInputs_apply x g a ⟨j.val, by omega⟩ hj (nodeRow g j) rfl q hq]

/-- The matrix entry a node meets at a lane. -/
theorem paddedRows_entry (R : FVec Ideal S8372232 .f32) (g : Fin 8) (i j : Fin 1023) (l : Fin 1024)
    (h : (l.val + i.val + (1024 - g.val)) % 1024 = j.val) :
    paddedRows R (ix2 (srcRow g i.castSucc l) l) = R (ix1 (entryAt g i j)) := by
  have hg := g.isLt
  have hi := i.isLt
  have hl := l.isLt
  refine paddedRows_apply R _ l (entryAt g i j) ?_
  show 1024 * (if i.val + l.val < g.val then 1022 * g.val + 9 + i.val
    else if i.val + l.val < 1024 + g.val then 1022 * g.val + 8 + i.val else 1022 * g.val + 7 + i.val) + l.val
    = 8192 + (1046529 * g.val + 1023 * i.val + j.val)
  split <;> [skip; split] <;> omega

/-- The product a lane contributes: a node's, or zero at the lane of no node. -/
def laneTerm (x : FVec Ideal S8192x4 .f32) (R X : FVec Ideal S8372232 .f32) (sx mx : FVec Ideal S4 .f32) (g : Fin 8) (i : Fin 1023)
    (j : Fin 1024) : EReal :=
  if h : j.val < 1023 then
    R (ix1 (entryAt g i ⟨j.val, h⟩)) * injected x sx mx 2 g ⟨j.val, h⟩ + X (ix1 (entryAt g i ⟨j.val, h⟩)) * injected x sx mx 3 g ⟨j.val, h⟩
  else 0

/-- A rolled row of the inputs, as the kernel takes it. -/
abbrev rolledRowOf (x : FVec Ideal S8192x4 .f32) (g : Fin 8) (a : Fin 2) (k : Fin 1024) : EReal :=
  stackedInputs x (ix3 g a (lane (k.val + (1024 - g.val))))

/-- The kernel's product at lane `l` is the product of the node that lane holds. -/
theorem lane_term (x : FVec Ideal S8192x4 .f32) (R X : FVec Ideal S8372232 .f32) (sx mx : FVec Ideal S4 .f32) (g : Fin 8) (i : Fin 1023)
    (l : Fin 1024) (j : Fin 1024) (hj : (l.val + i.val + (1024 - g.val)) % 1024 = j.val) :
    paddedRows R (ix2 (srcRow g i.castSucc l) l) * tableRow g (sx (ix1 2)) (mx (ix1 2)) (rolledRowOf x g 0) (lane (l.val + i.val))
      + paddedRows X (ix2 (srcRow g i.castSucc l) l) * tableRow g (sx (ix1 3)) (mx (ix1 3)) (rolledRowOf x g 1) (lane (l.val + i.val))
      = laneTerm x R X sx mx g i j := by
  have hg := g.isLt
  have hl := l.isLt
  have hi := i.isLt
  unfold laneTerm
  by_cases h : j.val < 1023
  · have hk : ((lane (l.val + i.val)).val + (1024 - g.val)) % 1024 = (⟨j.val, h⟩ : Fin 1023).val := by
      show ((l.val + i.val) % 1024 + (1024 - g.val)) % 1024 = j.val
      omega
    rw [dif_pos h, paddedRows_entry R g i ⟨j.val, h⟩ l hj, paddedRows_entry X g i ⟨j.val, h⟩ l hj,
      tableRow_node g x sx mx 0 2 rfl _ ⟨j.val, h⟩ hk, tableRow_node g x sx mx 1 3 rfl _ ⟨j.val, h⟩ hk]
  · have hj' := j.isLt
    have hk : (lane (l.val + i.val)).val = (g.val + 1023) % 1024 := by
      show (l.val + i.val) % 1024 = _
      omega
    rw [dif_neg h, tableRow_none _ _ _ _ _ hk, tableRow_none _ _ _ _ _ hk, mul_zero, mul_zero, add_zero]

/-- The kernel's sum is the sum over the nodes. -/
theorem rowSum_eq (x : FVec Ideal S8192x4 .f32) (R X : FVec Ideal S8372232 .f32) (sx mx : FVec Ideal S4 .f32) (g : Fin 8) (i : Fin 1023) :
    rowSum g (paddedRows R) (paddedRows X) (tableRow g (sx (ix1 2)) (mx (ix1 2)) (rolledRowOf x g 0))
      (tableRow g (sx (ix1 3)) (mx (ix1 3)) (rolledRowOf x g 1)) i.castSucc
      = injectedSum x R X sx mx g i := by
  refine (Finset.sum_congr rfl fun l _ => lane_term x R X sx mx g i l (lane (l.val + (i.val + (1024 - g.val)))) ?_).trans ?_
  · show (l.val + i.val + (1024 - g.val)) % 1024 = (l.val + (i.val + (1024 - g.val))) % 1024
    rw [Nat.add_assoc]
  · rw [sum_turned, sum_last_zero _ (dif_neg (by decide))]
    exact Finset.sum_congr rfl fun j _ => dif_pos j.isLt

end Cert.KernelIdeal.Own

end
-- ==== Proof.Value.Tail.lean ====
/-
  The result the kernel's program returns, put together from the output array and the estimates given, read at an index.
-/
module

public import proofs.«01_k».proof.Proof.Value.OutArray
public import proofs.«01_k».proof.Proof.Value.Rotate

@[expose] public section

set_option maxRecDepth 16384

noncomputable section

namespace Cert.KernelIdeal.Own

open Idealize.ShloMosaic Idealize.ShloMosaic.TcCoe Idealize.SL.Sem Idealize.ShloMosaic.StableHlo
open Cert.KernelIdeal Cert.KernelIdeal.Gen

/-- The first column: each graph's first estimate, then the output array's first 1023 values of that graph. -/
def firstColumn (w : FVec Ideal S8x1024x3 .f32) (out : FVec Ideal S8x8x128 .f32) : FVec Ideal S8x1024 .f32 :=
  concatenate S8x1024 1 [⟨S8x1, shapeCast S8x1 (extractStridedSlice S8x1x1 ![0, 0, 0] w slices_S8x1024x3_S8x1x1_0_0_0) shapeCasts_S8x1x1_S8x1⟩,
    ⟨S8x1023, extractStridedSlice S8x1023 ![0, 0] (shapeCast S8x1024 out shapeCasts_S8x8x128_S8x1024) slices_S8x1024_S8x1023_0_0⟩]
    concatenates_S8x1_S8x1023_S8x1024_d1

/-- The result: the first column, then the other two of the estimates. -/
def assembled (v : FVec Ideal S8192x3 .f32) (w : FVec Ideal S8x1024x3 .f32) (out : FVec Ideal S8x8x128 .f32) : FVec Ideal S8192x3 .f32 :=
  concatenate S8192x3 1 [⟨S8192x1, shapeCast S8192x1 (firstColumn w out) shapeCasts_S8x1024_S8192x1⟩,
    ⟨S8192x2, extractStridedSlice S8192x2 ![0, 1] v slices_S8192x3_S8192x2_0_1⟩] concatenates_S8192x1_S8192x2_S8192x3_d1

/-- A column of the result after the first is the estimates'. -/
theorem assembled_other (v : FVec Ideal S8192x3 .f32) (w : FVec Ideal S8x1024x3 .f32) (out : FVec Ideal S8x8x128 .f32) (n : Fin 8192) (k : Fin 3)
    (hk : 1 ≤ k.val) : assembled v w out (ix2 n k) = v (ix2 n k) := by
  have h3 := k.isLt
  unfold assembled
  refine Eq.trans (concatenate_pair_apply_right (t := S8192x3) (s₁ := S8192x1) (s₂ := S8192x2) 1 _ _ _ _ rfl rfl (ix2 n (⟨k.val - 1, by omega⟩ : Fin 2))
    (fun b hb => by match b with | ⟨0, _⟩ => rfl | ⟨1, _⟩ => exact absurd rfl hb) (by show (k.val - 1) + 1 = k.val; omega)) ?_
  exact extractStridedSlice_apply _ _ slices_S8192x3_S8192x2_0_1 _ _ (by
    intro a
    match a with
    | ⟨0, _⟩ => exact (Nat.zero_add _).symm
    | ⟨1, _⟩ => show k.val = 1 + (k.val - 1); omega)

/-- The result's first column. -/
theorem assembled_first (v : FVec Ideal S8192x3 .f32) (w : FVec Ideal S8x1024x3 .f32) (out : FVec Ideal S8x8x128 .f32) (n : Fin 8192) (g : Fin 8)
    (i : Fin 1024) (hn : n.val = 1024 * g.val + i.val) : assembled v w out (ix2 n 0) = firstColumn w out (ix2 g i) := by
  unfold assembled
  refine Eq.trans (concatenate_pair_apply_left (t := S8192x3) (s₁ := S8192x1) (s₂ := S8192x2) 1 _ _ _ _ rfl (ix2 n (0 : Fin 1))
    (fun b => by match b with | ⟨0, _⟩ => rfl | ⟨1, _⟩ => rfl)) ?_
  exact shapeCast_apply _ _ _ _ (by
    rw [Shape.rowMajor_val_two, Shape.rowMajor_val_two]
    show g.val * 1024 + i.val = n.val * 1 + 0
    omega)

/-- The first column at a graph's first node. -/
theorem firstColumn_slack (w : FVec Ideal S8x1024x3 .f32) (out : FVec Ideal S8x8x128 .f32) (g : Fin 8) :
    firstColumn w out (ix2 g 0) = w (ix3 g 0 0) := by
  unfold firstColumn
  refine Eq.trans (concatenate_pair_apply_left (t := S8x1024) (s₁ := S8x1) (s₂ := S8x1023) 1 _ _ _ _ rfl (ix2 g (0 : Fin 1))
    (fun b => by match b with | ⟨0, _⟩ => rfl | ⟨1, _⟩ => rfl)) ?_
  rw [shapeCast_apply _ _ (ix2 g (0 : Fin 1)) (ix3 g (0 : Fin 1) (0 : Fin 1)) (by
    rw [Shape.rowMajor_val_two, Shape.rowMajor_val_three]
    show (g.val * 1 + 0) * 1 + 0 = g.val * 1 + 0
    omega)]
  exact extractStridedSlice_apply _ _ slices_S8x1024x3_S8x1x1_0_0_0 _ _ (by
    intro a
    match a with
    | ⟨0, _⟩ => exact (Nat.zero_add _).symm
    | ⟨1, _⟩ => rfl
    | ⟨2, _⟩ => rfl)

/-- The first column at another node. -/
theorem firstColumn_node (w : FVec Ideal S8x1024x3 .f32) (out : FVec Ideal S8x8x128 .f32) (g b : Fin 8) (r : Fin 128) (i : Fin 1024)
    (hi : i.val = 1 + (128 * b.val + r.val)) : firstColumn w out (ix2 g i) = out (ix3 g b r) := by
  have hlt := i.isLt
  unfold firstColumn
  refine Eq.trans (concatenate_pair_apply_right (t := S8x1024) (s₁ := S8x1) (s₂ := S8x1023) 1 _ _ _ _ rfl rfl
    (ix2 g (⟨128 * b.val + r.val, by omega⟩ : Fin 1023))
    (fun b hb => by match b with | ⟨0, _⟩ => rfl | ⟨1, _⟩ => exact absurd rfl hb) (by show (128 * b.val + r.val) + 1 = i.val; omega)) ?_
  rw [extractStridedSlice_apply _ _ slices_S8x1024_S8x1023_0_0 _ (ix2 g (⟨128 * b.val + r.val, by omega⟩ : Fin 1024)) (by
    intro a
    match a with
    | ⟨0, _⟩ => exact (Nat.zero_add _).symm
    | ⟨1, _⟩ => exact (Nat.zero_add _).symm)]
  exact shapeCast_apply _ _ _ _ (by
    rw [Shape.rowMajor_val_two, Shape.rowMajor_val_three]
    show (g.val * 8 + b.val) * 128 + r.val = g.val * 1024 + (128 * b.val + r.val)
    omega)

/-- What the lines after the grid leave in the result, from any contents. -/
theorem after_tail (W : Valuation τ sig (Elt Ideal)) :
    StableHlo.after (List.flatten [hostOps1]) W (Proc.tc.devRef main_v0)
      = assembled (W (Proc.tc.devRef main_arg0)) (W (Proc.tc.devRef main_call0_v1)) (W (Proc.tc.devRef main_call0_v70)) := by
  after_reads_simp
  rfl

variable (m : (ℓ : Loc nD τ sig) → Buf (Elt Ideal) ℓ) (c : Dev nD)

/-- The estimates by graph, as the grid finds them. -/
theorem entry_byGraph : V m c main_call0_v1 = shapeCast S8x1024x3 (m ((c : Thread nD τ).loc main_arg0)) shapeCasts_S8192x3_S8x1024x3 := by
  after_reads_simp
  rfl

/-- The result after the whole program. -/
theorem tail_result : tail m (dats m) c main_v0
    = assembled (m ((c : Thread nD τ).loc main_arg0)) (shapeCast S8x1024x3 (m ((c : Thread nD τ).loc main_arg0)) shapeCasts_S8192x3_S8x1024x3) (outArray m c) := by
  unfold tail Pipeline.afterTail₀
  rw [after_tail]
  rw [Pipeline.withArrays_of_ne _ c (V0 m c) _ main_arg0 (by decide), Pipeline.withArrays_of_ne _ c (V0 m c) _ main_call0_v1 (by decide)]
  erw [Pipeline.withArrays_arr spec0 launch0.win.arr_inj c (V0 m c) _ 4]
  rw [← out_array, ← entry_byGraph, ← V_main_arg0 m c]

end Cert.KernelIdeal.Own

end
-- ==== Proof.Value.KernelResult.lean ====
/-
  The kernel's result at every index, in closed form.
-/
module

public import proofs.«01_k».proof.Proof.Value.Tail
public import proofs.«01_k».proof.Proof.Value.HostAt

@[expose] public section

set_option maxRecDepth 16384

noncomputable section

namespace Cert.KernelIdeal.Own

open Idealize.ShloMosaic Idealize.ShloMosaic.TcCoe Idealize.SL.Sem
open Cert.KernelIdeal Cert.KernelIdeal.Gen

/-- An entry of the output array, from what its inputs hold: the corrected value of the entry's node. -/
theorem outOf_node (v : FVec Ideal S8192x3 .f32) (x : FVec Ideal S8192x4 .f32) (R X : FVec Ideal S8372232 .f32) (base : FVec Ideal S8 .f32)
    (sy my : FVec Ideal S3 .f32) (sx mx : FVec Ideal S4 .f32) (x0 : FVec Ideal S6 .f32) (x2 : FVec Ideal S8x2x1024 .f32)
    (h0 : x0 (ix1 0) = sy (ix1 0) ∧ x0 (ix1 1) = my (ix1 0) ∧ x0 (ix1 2) = sx (ix1 2) ∧ x0 (ix1 3) = mx (ix1 2) ∧ x0 (ix1 4) = sx (ix1 3) ∧ x0 (ix1 5) = mx (ix1 3))
    (h2 : ∀ g a l, x2 (ix3 g a l) = rolledRowOf x g a l)
    (g b : Fin 8) (r : Fin 128) (i : Fin 1023) (hi : i.val = 128 * b.val + r.val) :
    outOf x0 base x2 (paddedVoltages v) (paddedRows R) (paddedRows X) (ix3 g b r) = nodeValue v x R X base sy my sx mx g i := by
  have hil := i.isLt
  obtain ⟨e0, e1, e2, e3, e4, e5⟩ := h0
  have en : node b r = i.castSucc := Fin.ext hi.symm
  unfold nodeValue
  rw [← rowSum_eq, ← paddedVoltages_apply v g b r (by omega) (nodeRow g i) (by show 1024 * g.val + 1 + i.val = _; rw [hi]),
    ← e0, ← e1, ← e2, ← e3, ← e4, ← e5, ← en, ← funext (h2 g 0), ← funext (h2 g 1)]
  rfl

/-- The whole program's result, from the output array's entries. -/
theorem assembled_at (v : FVec Ideal S8192x3 .f32) (x : FVec Ideal S8192x4 .f32) (R X : FVec Ideal S8372232 .f32) (base : FVec Ideal S8 .f32)
    (sy my : FVec Ideal S3 .f32) (sx mx : FVec Ideal S4 .f32) (out : FVec Ideal S8x8x128 .f32)
    (hout : ∀ (g b : Fin 8) (r : Fin 128) (i : Fin 1023), i.val = 128 * b.val + r.val → out (ix3 g b r) = nodeValue v x R X base sy my sx mx g i)
    (g : Fin 8) (n : Fin 1024) (k : Fin 3) (x' : Fin 8192) (hx : x'.val = 1024 * g.val + n.val) :
    assembled v (shapeCast S8x1024x3 v shapeCasts_S8192x3_S8x1024x3) out (ix2 x' k) = resultAt v x R X base sy my sx mx g n k := by
  have hn := n.isLt
  have hg := g.isLt
  have ex : (⟨1024 * g.val + n.val, by omega⟩ : Fin 8192) = x' := Fin.ext hx.symm
  unfold resultAt
  by_cases hk : 1 ≤ k.val
  · rw [dif_neg (by omega), ex]
    exact assembled_other _ _ _ _ _ hk
  · obtain rfl : k = 0 := Fin.ext (by show k.val = 0; omega)
    rw [assembled_first _ _ _ x' g n hx]
    by_cases h1 : 1 ≤ n.val
    · rw [dif_pos ⟨h1, rfl⟩, firstColumn_node _ _ g ⟨(n.val - 1) / 128, by omega⟩ ⟨(n.val - 1) % 128, by omega⟩ n (by
        show n.val = 1 + (128 * ((n.val - 1) / 128) + (n.val - 1) % 128)
        omega)]
      exact hout _ _ _ _ (by
        show n.val - 1 = 128 * ((n.val - 1) / 128) + (n.val - 1) % 128
        omega)
    · obtain rfl : n = 0 := Fin.ext (by show n.val = 0; omega)
      rw [dif_neg (fun h => h1 h.1), firstColumn_slack, ex]
      exact shapeCast_apply _ _ _ _ (by
        rw [Shape.rowMajor_val_two, Shape.rowMajor_val_three]
        show x'.val * 3 + 0 = (g.val * 1024 + 0) * 3 + 0
        rw [hx]
        show (1024 * g.val + 0) * 3 + 0 = (g.val * 1024 + 0) * 3 + 0
        omega)

variable (m : (ℓ : Loc nD τ sig) → Buf (Elt Ideal) ℓ) (c : Dev nD)

/-- The kernel's result at graph `g`, node `n` and column `k`. -/
theorem kernel_result (g : Fin 8) (n : Fin 1024) (k : Fin 3) (x' : Fin 8192) (hx : x'.val = 1024 * g.val + n.val) :
    tail m (dats m) c main_v0 (ix2 x' k)
      = resultAt (m ((c : Thread nD τ).loc main_arg0)) (m ((c : Thread nD τ).loc main_arg1)) (m ((c : Thread nD τ).loc main_arg2))
        (m ((c : Thread nD τ).loc main_arg3)) (m ((c : Thread nD τ).loc main_arg6)) (m ((c : Thread nD τ).loc main_arg7))
        (m ((c : Thread nD τ).loc main_arg8)) (m ((c : Thread nD τ).loc main_arg9)) (m ((c : Thread nD τ).loc main_arg10)) g n k := by
  rw [tail_result]
  refine assembled_at _ _ _ _ _ _ _ _ _ _ (fun g b r i hi => ?_) g n k x' hx
  unfold outArray
  rw [entry_R, entry_X, entry_voltages]
  exact outOf_node _ _ _ _ _ _ _ _ _ _ _ (params_at m c) (rolled_at m c) g b r i hi

end Cert.KernelIdeal.Own

end
-- ==== Proof.Value.RefIndex.lean ====
/-
  The reference's index arithmetic, when every graph's slack node is its first: the non-slack nodes are `1, 2, …, 1023`,
  every index the gathers meet is in bounds, and a gathered row is the row without its first entry.
-/
module

public import proofs.«01_k».proof.Proof.Gen.ReferenceIdeal.Run
public import Idealize.ShloMosaic.Lib.Pointwise
public import Idealize.ShloMosaic.Lib.ReduceAll
public import Idealize.ShloMosaic.Lib.Routing.OpsSet

@[expose] public section

set_option maxRecDepth 16384

noncomputable section

namespace Cert.ReferenceIdeal.Own

open Idealize.ShloMosaic Idealize.ShloMosaic.TcCoe Idealize.SL.Sem
open Cert.ReferenceIdeal Cert.ReferenceIdeal.Gen Cert.ReferenceIdeal.Value

variable (V0 : Valuation τ sig (Elt Ideal))

/-- Every graph's slack node is its first. -/
def SlackFirst : Prop := ∀ g : Fin 8, (V0 (Proc.devRef .tc main_arg5) : IVec S8 32) (ix1 g) = 0#32

/-- A small natural number read signed off its word. -/
theorem toInt_small (n : ℕ) (hn : n < 2 ^ 31) : (BitVec.ofNat 32 n).toInt = (n : ℤ) := by
  have e : (BitVec.ofNat 32 n).toNat = n := by rw [BitVec.toNat_ofNat]; omega
  rw [BitVec.toInt_eq_toNat_of_lt (by rw [e]; omega), e]

/-- A small natural number, as a word, is not negative. -/
theorem slt_zero (n : ℕ) (hn : n < 2 ^ 31) : (BitVec.ofNat 32 n).slt 0#32 = false := by
  rw [BitVec.slt_eq_decide, decide_eq_false_iff_not, toInt_small n hn]
  show ¬ ((n : ℤ) < 0)
  omega

/-- A comparison that says a small word is negative is zero. -/
theorem cmpi_negative (n : ℕ) (hn : n < 2 ^ 31) : IntOp.cmpi .slt (BitVec.ofNat 32 n) 0#32 = 0#1 := by
  simp only [IntOp.cmpi, slt_zero n hn]
  rfl

/-- The sum of two words. -/
theorem addi_word (a b : ℕ) : IntOp.addi (BitVec.ofNat 32 a) (BitVec.ofNat 32 b) = BitVec.ofNat 32 (a + b) := (BitVec.ofNat_add a b).symm

/-- The non-slack node `j` of a graph is node `j + 1`. -/
theorem nonSlack_at (h : SlackFirst V0) (g : Fin 8) (j : Fin 1023) :
    (res_main_v51 V0 : IVec S8x1023 32) (ix2 g j) = BitVec.ofNat 32 (j.val + 1) := by
  have hg := h g
  have hj := j.isLt
  pointwise [res_main_v51, res_main_v41]
  rw [hg, cmpi_negative _ (by omega), addi_word]
  rfl

/-- The indices a gather takes: the nodes', a negative one counted from the end. -/
def gatherIndex (ns : IVec S8x1023 32) : IVec S8x1023x1 32 :=
  shapeCast S8x1023x1 (select (cmpi .slt ns (broadcastInDim S8x1023 ![] bcast_S_S8x1023 (constantI S_ 32 0#32)))
    (addi ns (broadcastInDim S8x1023 ![] bcast_S_S8x1023 (constantI S_ 32 1024#32))) ns) shapeCasts_S8x1023_S8x1023x1

/-- The three gathers take the same indices: the first gather's. -/
theorem first_index : res_main_call1_v5 V0 = gatherIndex (res_main_v51 V0) := rfl
/-- The second gather's. -/
theorem second_index : res_main_call2_v5 V0 = gatherIndex (res_main_v51 V0) := rfl
/-- The third gather's. -/
theorem third_index : res_main_call4_v5 V0 = gatherIndex (res_main_v51 V0) := rfl

/-- The index a gather takes for node `j`. -/
theorem gatherIndex_at (ns : IVec S8x1023 32) (g : Fin 8) (j : Fin 1023) (e : ns (ix2 g j) = BitVec.ofNat 32 (j.val + 1)) :
    gatherIndex ns (ix3 g j 0) = BitVec.ofNat 32 (j.val + 1) := by
  have hj := j.isLt
  pointwise [gatherIndex]
  rw [e, cmpi_negative _ (by omega)]
  rfl

/-- The in-bounds tests of a gather's indices. -/
def inBounds (idx : IVec S8x1023x1 32) : IVec S8x1023x1 1 :=
  andi (cmpi .sge idx (broadcastInDim S8x1023x1 ![] bcast_S_S8x1023x1 (constantI S_ 32 0#32)))
    (cmpi .sle idx (broadcastInDim S8x1023x1 ![0, 1, 2] bcast_S1x1x1_S8x1023x1_0_1_2 (broadcastInDim S1x1x1 ![2] bcast_S1_S1x1x1_2 (constantI S1 32 1023#32))))

/-- A gathered row: the entries at the indices, where they are in bounds. -/
def taken (x : FVec Ideal S8x1024 .f32) (idx : IVec S8x1023x1 32) : FVec Ideal S8x1023 .f32 :=
  select (Host.reduce IntOp.andi (inBounds idx) (constantI S_ 1 1#1) reducesTo_S8x1023x1_S8x1023_d2 h_S_)
    (Host.gather gather_S8x1024_S8x1023x1_S8x1023_n_1_0_0_1_2_11 x idx)
    (broadcastInDim S8x1023 ![] bcast_S_S8x1023 (constant S_ .f32 0x7FC00000#32))

/-- The index of node `j` is in bounds. -/
theorem inBounds_at (idx : IVec S8x1023x1 32) (g : Fin 8) (j : Fin 1023) (e : idx (ix3 g j 0) = BitVec.ofNat 32 (j.val + 1)) :
    inBounds idx (ix3 g j 0) = 1#1 := by
  have hj := j.isLt
  pointwise [inBounds]
  rw [e]
  simp only [IntOp.cmpi]
  rw [show ((0#32).sle (BitVec.ofNat 32 (j.val + 1))) = true by
      rw [BitVec.sle_eq_decide, decide_eq_true_iff, toInt_small (j.val + 1) (by omega), toInt_small 0 (by decide)]; show ((0 : ℕ) : ℤ) ≤ ((j.val + 1 : ℕ) : ℤ); omega,
    show ((BitVec.ofNat 32 (j.val + 1)).sle 1023#32) = true by
      rw [BitVec.sle_eq_decide, decide_eq_true_iff, toInt_small _ (by omega)]; show ((j.val + 1 : ℕ) : ℤ) ≤ 1023; omega]
  rfl

/-- The gather reads the entry its index names. -/
theorem gather_at (x : FVec Ideal S8x1024 .f32) (idx : IVec S8x1023x1 32) (g : Fin 8) (j : Fin 1023) :
    Host.gather gather_S8x1024_S8x1023x1_S8x1023_n_1_0_0_1_2_11 x idx (ix2 g j)
      = x (ix2 g ⟨min (idx (ix3 g j 0)).toInt.toNat 1023, by omega⟩) := by
  unfold Host.gather
  congr 1
  funext a
  refine Fin.ext ?_
  show (gather_S8x1024_S8x1023x1_S8x1023_n_1_0_0_1_2_11).start (ix2 g j) idx a + (gather_S8x1024_S8x1023x1_S8x1023_n_1_0_0_1_2_11).batchCoord (ix2 g j) a
    + (gather_S8x1024_S8x1023x1_S8x1023_n_1_0_0_1_2_11).offCoord (ix2 g j) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S8x1024_S8x1023x1_S8x1023_n_1_0_0_1_2_11).operandBatchingDims from List.mem_singleton.mpr rfl)]
    rfl
  · rw [GatherDims.batchCoord_eq_zero _ _ _ (fun h => absurd (List.mem_singleton.mp h) (show (1 : Fin 2) ≠ 0 by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S8x1024_S8x1023x1_S8x1023_n_1_0_0_1_2_11).startIndexMap from List.mem_singleton.mpr rfl)]
    have hsi : ∀ k, (gather_S8x1024_S8x1023x1_S8x1023_n_1_0_0_1_2_11).siIdx (ix2 g j) k = ix3 g j 0 := fun k => by
      funext b
      refine Fin.ext ?_
      match b with
      | ⟨0, _⟩ => rfl
      | ⟨1, _⟩ => rfl
      | ⟨2, _⟩ => exact Nat.lt_one_iff.mp k.isLt
    rw [hsi]
    rfl

/-- A gathered row is the row without its first entry. -/
theorem taken_at (idx : IVec S8x1023x1 32) (hidx : ∀ g j, idx (ix3 g j 0) = BitVec.ofNat 32 (j.val + 1)) (x : FVec Ideal S8x1024 .f32)
    (g : Fin 8) (j : Fin 1023) : taken x idx (ix2 g j) = x (ix2 g j.succ) := by
  have hj := j.isLt
  have e : Host.reduce IntOp.andi (inBounds idx) (constantI S_ 1 1#1) reducesTo_S8x1023x1_S8x1023_d2 h_S_ (ix2 g j) = 1#1 :=
    Host.reduce_andi_one _ _ _ _ _ rfl fun i => by
      have hi : (i 2).val < 1 := (i 2).isLt
      have ei : i = ix3 (i 0) (i 1) 0 := by
        funext a; refine Fin.ext ?_
        match a with
        | ⟨0, _⟩ => rfl
        | ⟨1, _⟩ => rfl
        | ⟨2, _⟩ => show (i 2).val = 0; omega
      rw [ei]
      exact inBounds_at idx (i 0) (i 1) (hidx _ _)
  have en : (⟨min (idx (ix3 g j 0)).toInt.toNat 1023, by omega⟩ : Fin 1024) = j.succ := Fin.ext (by
    show min (idx (ix3 g j 0)).toInt.toNat 1023 = j.val + 1
    rw [hidx g j, toInt_small _ (by omega), Int.toNat_natCast]
    omega)
  unfold taken
  show Scalar.select (Host.reduce IntOp.andi (inBounds idx) (constantI S_ 1 1#1) reducesTo_S8x1023x1_S8x1023_d2 h_S_ (ix2 g j))
    (Host.gather gather_S8x1024_S8x1023x1_S8x1023_n_1_0_0_1_2_11 x idx (ix2 g j)) _ = _
  rw [e, gather_at, en]
  rfl

/-- The places of the non-slack nodes among all the nodes, in a list. -/
def flatIndex (ns : IVec S8x1023 32) : IVec S8184 32 :=
  shapeCast S8184 (addi ns (broadcastInDim S8x1023 ![0, 1] bcast_S8x1_S8x1023_0_1
    (muli (broadcastInDim S8x1 ![] bcast_S_S8x1 (constantI S_ 32 1024#32)) (broadcastInDim S8x1 ![0] bcast_S8_S8x1_0 (iotaInDim S8 32 0))))) shapeCasts_S8x1023_S8184

/-- The reference's list of places. -/
theorem flat_index : res_main_v80 V0 = flatIndex (res_main_v51 V0) := rfl

/-- The place of node `j` of graph `g` among all the nodes. -/
theorem flatIndex_at (ns : IVec S8x1023 32) (g : Fin 8) (j : Fin 1023) (e : ns (ix2 g j) = BitVec.ofNat 32 (j.val + 1))
    (n : Fin 8184) (hn : n.val = 1023 * g.val + j.val) : flatIndex ns (ix1 n) = BitVec.ofNat 32 (1024 * g.val + 1 + j.val) := by
  have hg := g.isLt
  have hj := j.isLt
  unfold flatIndex
  rw [shapeCast_apply _ _ (ix1 n) (ix2 g j) (by
    rw [Shape.rowMajor_val_two, Shape.rowMajor_val_one]
    show g.val * 1023 + j.val = n.val
    omega)]
  pointwise
  rw [e]
  show (BitVec.ofNat 32 (j.val + 1)) + (BitVec.ofNat 32 1024 * BitVec.ofNat 32 g.val) = _
  rw [← BitVec.ofNat_mul, ← BitVec.ofNat_add]
  congr 1
  omega

/-- The indices the scatter takes: the places, a negative one counted from the end. -/
def scatterIndex (f : IVec S8184 32) : IVec S8184x1 32 :=
  broadcastInDim S8184x1 ![0] bcast_S8184_S8184x1_0 (select (cmpi .slt f (broadcastInDim S8184 ![] bcast_S_S8184 (constantI S_ 32 0#32)))
    (addi f (broadcastInDim S8184 ![] bcast_S_S8184 (constantI S_ 32 8192#32))) f)

/-- The index the scatter takes, where the place is a small number. -/
theorem scatterIndex_at (f : IVec S8184 32) (n : Fin 8184) (k : ℕ) (hk : k < 2 ^ 31) (e : f (ix1 n) = BitVec.ofNat 32 k) :
    scatterIndex f (ix2 n 0) = BitVec.ofNat 32 k := by
  pointwise [scatterIndex]
  rw [e, cmpi_negative _ hk]
  rfl

end Cert.ReferenceIdeal.Own

end
-- ==== Proof.Value.Consts.lean ====
/-
  Extended reals: the two constants whose values matter, and what the arithmetic of the two programs comes down to.
-/
module

public import Idealize.ShloMosaic.Lib.IdealHost

@[expose] public section

noncomputable section

namespace Cert.KernelIdeal.Own

open Idealize.ShloMosaic

/-- The constant two. -/
theorem two_value : Ideal.ofBits .f32 0x40000000#32 = ((2 : ℝ) : EReal) := by
  simp [Ideal.ofBits, Ideal.ieee, -EReal.coe_mul]
  norm_num

/-- The small constant added to the scales is a real number. -/
theorem eps_real : ∃ e : ℝ, Ideal.ofBits .f32 0x358637BD#32 = ((e : ℝ) : EReal) := by
  simp [Ideal.ofBits, Ideal.ieee, -EReal.coe_mul]

/-- The largest extended real's pattern. -/
theorem top_value : Ideal.ofBits .f32 0x7F800000#32 = ⊤ := by
  simp [Ideal.ofBits, Ideal.ieee]
/-- The smallest extended real's pattern. -/
theorem bot_value : Ideal.ofBits .f32 0xFF800000#32 = ⊥ := by
  simp [Ideal.ofBits, Ideal.ieee]

/-- Twice a sum. -/
theorem two_mul_add (a b : EReal) : Ideal.ofBits .f32 0x40000000#32 * (a + b)
    = Ideal.ofBits .f32 0x40000000#32 * a + Ideal.ofBits .f32 0x40000000#32 * b := by
  rw [two_value]
  exact EReal.left_distrib_of_nonneg_of_ne_top (EReal.coe_nonneg.mpr (by norm_num)) (EReal.coe_ne_top _) a b

/-- Two weighted sums added one after the other are one sum's double added once. -/
theorem estimate_eq {n : ℕ} (v : EReal) (f h : Fin n → EReal) :
    (v + Ideal.ofBits .f32 0x40000000#32 * ∑ j, f j) + Ideal.ofBits .f32 0x40000000#32 * ∑ j, h j
      = v + Ideal.ofBits .f32 0x40000000#32 * ∑ j, (f j + h j) := by
  rw [Finset.sum_add_distrib, two_mul_add, add_assoc]

/-- Scaling, shifting and undoing both gives the value back. -/
theorem unscale (v s e : EReal) (hs : ∃ r : ℝ, r ≠ 0 ∧ s = (r : EReal)) (he : ∃ r : ℝ, e = (r : EReal)) :
    Ideal.div ((v * s + e) - e) s = v := by
  obtain ⟨r, hr, rfl⟩ := hs
  obtain ⟨q, rfl⟩ := he
  unfold Ideal.div
  rw [if_neg (by exact_mod_cast hr), EReal.add_sub_cancel_right, mul_assoc, ← EReal.coe_inv, ← EReal.coe_mul, mul_inv_cancel₀ hr, EReal.coe_one, mul_one]

/-- A real number plus the small constant is a real number. -/
theorem scale_real (s : EReal) (h1 : s ≠ ⊥) (h2 : s ≠ ⊤) (h0 : s + Ideal.ofBits .f32 0x358637BD#32 ≠ 0) :
    ∃ r : ℝ, r ≠ 0 ∧ s + Ideal.ofBits .f32 0x358637BD#32 = (r : EReal) := by
  obtain ⟨e, he⟩ := eps_real
  lift s to ℝ using ⟨h2, h1⟩
  rw [he] at h0 ⊢
  exact ⟨s + e, by exact_mod_cast h0, by push_cast; rfl⟩

end Cert.KernelIdeal.Own

end
-- ==== Proof.Value.RefRows.lean ====
/-
  The reference's rows at an index: the rescaled estimates, the injections, the two products, and the updates.
-/
module

public import proofs.«01_k».proof.Proof.Value.RefIndex
public import proofs.«01_k».proof.Proof.Value.Consts
public import proofs.«01_k».proof.Proof.Value.Spec

@[expose] public section

set_option maxRecDepth 16384

noncomputable section

namespace Cert.ReferenceIdeal.Own

open Idealize.ShloMosaic Idealize.ShloMosaic.TcCoe Idealize.SL.Sem
open Cert.ReferenceIdeal Cert.ReferenceIdeal.Gen Cert.ReferenceIdeal.Value
open Cert.KernelIdeal.Own (nodeRow entryAt injected injectedSum nodeValue resultAt corrected two_mul_add estimate_eq unscale)

/-- Node `n` of graph `g` among all the nodes. -/
def rowOf (g : Fin 8) (n : Fin 1024) : Fin 8192 := ⟨1024 * g.val + n.val, by have := g.isLt; have := n.isLt; omega⟩

/-- Node `j + 1` of a graph is its node `j`, the slack node not counted. -/
theorem rowOf_succ (g : Fin 8) (j : Fin 1023) : rowOf g j.succ = nodeRow g j := Fin.ext (by
  show 1024 * g.val + (j.val + 1) = 1024 * g.val + 1 + j.val
  omega)

/-- The estimates by graph, rescaled. -/
def rescaled (v : FVec Ideal S8192x3 .f32) (sy my : FVec Ideal S3 .f32) : FVec Ideal S8x1024x3 .f32 :=
  addf (mulf (shapeCast S8x1024x3 v shapeCasts_S8192x3_S8x1024x3) (broadcastInDim S8x1024x3 ![0, 1, 2] bcast_S1x1x3_S8x1024x3_0_1_2
    (broadcastInDim S1x1x3 ![2] bcast_S3_S1x1x3_2 (addf sy (broadcastInDim S3 ![] bcast_S_S3 (constant S_ .f32 0x358637BD#32))))))
    (broadcastInDim S8x1024x3 ![0, 1, 2] bcast_S1x1x3_S8x1024x3_0_1_2 (broadcastInDim S1x1x3 ![2] bcast_S3_S1x1x3_2 my))

/-- A rescaled estimate. -/
theorem rescaled_at (v : FVec Ideal S8192x3 .f32) (sy my : FVec Ideal S3 .f32) (g : Fin 8) (n : Fin 1024) (k : Fin 3) :
    rescaled v sy my (ix3 g n k) = v (ix2 (rowOf g n) k) * (sy (ix1 k) + Ideal.ofBits .f32 0x358637BD#32) + my (ix1 k) := by
  have e : shapeCast S8x1024x3 v shapeCasts_S8192x3_S8x1024x3 (ix3 g n k) = v (ix2 (rowOf g n) k) := shapeCast_apply _ _ _ _ (by
    rw [Shape.rowMajor_val_two, Shape.rowMajor_val_three]
    show (1024 * g.val + n.val) * 3 + k.val = (g.val * 1024 + n.val) * 3 + k.val
    omega)
  rw [← e]
  unfold rescaled
  generalize shapeCast S8x1024x3 v shapeCasts_S8192x3_S8x1024x3 = w
  pointwise

/-- One column of the estimates by graph. -/
def column (k : ℕ) (h : S8x1024x3.Slices ![0, 0, k] S8x1024x1) (w : FVec Ideal S8x1024x3 .f32) : FVec Ideal S8x1024 .f32 :=
  shapeCast S8x1024 (extractStridedSlice S8x1024x1 ![0, 0, k] w h) shapeCasts_S8x1024x1_S8x1024

/-- An entry of a column. -/
theorem column_at (k : Fin 3) (h : S8x1024x3.Slices ![0, 0, k.val] S8x1024x1) (w : FVec Ideal S8x1024x3 .f32) (g : Fin 8) (n : Fin 1024) :
    column k.val h w (ix2 g n) = w (ix3 g n k) := by
  unfold column
  rw [shapeCast_apply _ _ (ix2 g n) (ix3 g n 0) (by
    rw [Shape.rowMajor_val_two, Shape.rowMajor_val_three]
    show (g.val * 1024 + n.val) * 1 + 0 = g.val * 1024 + n.val
    omega)]
  exact extractStridedSlice_apply _ _ h _ _ (by
    intro a
    match a with
    | ⟨0, _⟩ => show g.val = 0 + g.val; omega
    | ⟨1, _⟩ => show n.val = 0 + n.val; omega
    | ⟨2, _⟩ => rfl)

/-- The first column. -/
def magnitudes (w : FVec Ideal S8x1024x3 .f32) : FVec Ideal S8x1024 .f32 := column 0 slices_S8x1024x3_S8x1024x1_0_0_0 w

/-- An entry of the first column. -/
theorem magnitudes_at (w : FVec Ideal S8x1024x3 .f32) (g : Fin 8) (n : Fin 1024) : magnitudes w (ix2 g n) = w (ix3 g n 0) :=
  column_at 0 slices_S8x1024x3_S8x1024x1_0_0_0 w g n

/-- One column of the inputs by graph, rescaled and negated. -/
def negated (q : ℕ) (h1 : S8x1024x4.Slices ![0, 0, q] S8x1024x1) (h2 : S4.Slices ![q] S1) (x : FVec Ideal S8192x4 .f32)
    (sx mx : FVec Ideal S4 .f32) : FVec Ideal S8x1024 .f32 :=
  Host.negf (addf (mulf (shapeCast S8x1024 (extractStridedSlice S8x1024x1 ![0, 0, q] (shapeCast S8x1024x4 x shapeCasts_S8192x4_S8x1024x4) h1) shapeCasts_S8x1024x1_S8x1024)
    (broadcastInDim S8x1024 ![] bcast_S_S8x1024 (addf (shapeCast S_ (extractStridedSlice S1 ![q] sx h2) shapeCasts_S1_S_) (constant S_ .f32 0x358637BD#32))))
    (broadcastInDim S8x1024 ![] bcast_S_S8x1024 (shapeCast S_ (extractStridedSlice S1 ![q] mx h2) shapeCasts_S1_S_)))

/-- The entry of a vector that a slice of length one takes. -/
theorem pick_at (q : Fin 4) (h2 : S4.Slices ![q.val] S1) (s : FVec Ideal S4 .f32) (i : S_.Idx) :
    shapeCast S_ (extractStridedSlice S1 ![q.val] s h2) shapeCasts_S1_S_ i = s (ix1 q) := by
  obtain rfl : i = fun a => a.elim0 := funext fun a => a.elim0
  rw [shapeCast_apply _ _ _ (ix1 0) (by decide)]
  exact extractStridedSlice_apply _ _ h2 _ _ (by
    intro a
    match a with
    | ⟨0, _⟩ => rfl)

/-- An entry of a column of the inputs, rescaled and negated. -/
theorem negated_at (q : Fin 4) (h1 : S8x1024x4.Slices ![0, 0, q.val] S8x1024x1) (h2 : S4.Slices ![q.val] S1) (x : FVec Ideal S8192x4 .f32)
    (sx mx : FVec Ideal S4 .f32) (g : Fin 8) (j : Fin 1023) : negated q.val h1 h2 x sx mx (ix2 g j.succ) = injected x sx mx q g j := by
  have e : shapeCast S8x1024 (extractStridedSlice S8x1024x1 ![0, 0, q.val] (shapeCast S8x1024x4 x shapeCasts_S8192x4_S8x1024x4) h1) shapeCasts_S8x1024x1_S8x1024 (ix2 g j.succ)
      = x (ix2 (nodeRow g j) q) := by
    rw [shapeCast_apply _ _ (ix2 g j.succ) (ix3 g j.succ 0) (by
      rw [Shape.rowMajor_val_two, Shape.rowMajor_val_three]
      show (g.val * 1024 + (j.val + 1)) * 1 + 0 = g.val * 1024 + (j.val + 1)
      omega)]
    refine Eq.trans (extractStridedSlice_apply _ _ h1 (ix3 g j.succ 0) (ix3 g j.succ q) (by
      intro a
      match a with
      | ⟨0, _⟩ => show g.val = 0 + g.val; omega
      | ⟨1, _⟩ => show j.val + 1 = 0 + (j.val + 1); omega
      | ⟨2, _⟩ => rfl)) ?_
    exact shapeCast_apply _ _ _ _ (by
      rw [Shape.rowMajor_val_two, Shape.rowMajor_val_three]
      show (1024 * g.val + 1 + j.val) * 4 + q.val = (g.val * 1024 + (j.val + 1)) * 4 + q.val
      omega)
  unfold injected
  rw [zero_sub, ← e, ← pick_at q h2 sx (fun a => a.elim0), ← pick_at q h2 mx (fun a => a.elim0)]
  unfold negated
  generalize shapeCast S8x1024 (extractStridedSlice S8x1024x1 ![0, 0, q.val] (shapeCast S8x1024x4 x shapeCasts_S8192x4_S8x1024x4) h1) shapeCasts_S8x1024x1_S8x1024 = w
  generalize shapeCast S_ (extractStridedSlice S1 ![q.val] sx h2) shapeCasts_S1_S_ = s
  generalize shapeCast S_ (extractStridedSlice S1 ![q.val] mx h2) shapeCasts_S1_S_ = e
  pointwise
  rfl

/-- The products of the graphs' matrices with the graphs' rows. -/
def product (M : FVec Ideal S8372232 .f32) (p : FVec Ideal S8x1023 .f32) : FVec Ideal S8x1023 .f32 :=
  Host.dotGeneral dot_S8x1023x1023_S8x1023_S8x1023_2_1_1_n_0_0 none (shapeCast S8x1023x1023 M shapeCasts_S8372232_S8x1023x1023) p

/-- An entry of a product: a sum over the graph's nodes. -/
theorem product_at (M : FVec Ideal S8372232 .f32) (p : FVec Ideal S8x1023 .f32) (g : Fin 8) (i : Fin 1023) :
    product M p (ix2 g i) = ∑ j : Fin 1023, M (ix1 (entryAt g i j)) * p (ix2 g j) := by
  have e : ∀ j : Fin 1023, shapeCast S8x1023x1023 M shapeCasts_S8372232_S8x1023x1023 (ix3 g i j) = M (ix1 (entryAt g i j)) := fun j =>
    shapeCast_apply _ _ _ _ (by
      rw [Shape.rowMajor_val_one, Shape.rowMajor_val_three]
      show 1046529 * g.val + 1023 * i.val + j.val = (g.val * 1023 + i.val) * 1023 + j.val
      omega)
  simp only [← e]
  unfold product
  generalize shapeCast S8x1023x1023 M shapeCasts_S8372232_S8x1023x1023 = w
  pointwise

/-- The updated magnitudes: from the squares `s` and the linear estimates, base plus twice each product. -/
def updates (s : FVec Ideal S8x1023 .f32) (base : FVec Ideal S8 .f32) (a b : FVec Ideal S8x1023 .f32) : FVec Ideal S8x1023 .f32 :=
  Host.sqrt (maximumf (addf s (mulf (broadcastInDim S8x1023 ![] bcast_S_S8x1023 (constant S_ .f32 0x3F000000#32))
    (subf (minimumf (broadcastInDim S8x1023 ![] bcast_S_S8x1023 (id (constant S_ .f32 0x3F9AE148#32)))
      (maximumf (broadcastInDim S8x1023 ![] bcast_S_S8x1023 (id (constant S_ .f32 0x3F23D70A#32)))
        (addf (addf (broadcastInDim S8x1023 ![0, 1] bcast_S8x1_S8x1023_0_1 (broadcastInDim S8x1 ![0] bcast_S8_S8x1_0 base))
          (mulf (broadcastInDim S8x1023 ![] bcast_S_S8x1023 (constant S_ .f32 0x40000000#32)) a))
          (mulf (broadcastInDim S8x1023 ![] bcast_S_S8x1023 (constant S_ .f32 0x40000000#32)) b)))) s)))
    (broadcastInDim S8x1023 ![] bcast_S_S8x1023 (constant S_ .f32 0x38D1B717#32)))

/-- An updated magnitude. -/
theorem updates_at (s : FVec Ideal S8x1023 .f32) (base : FVec Ideal S8 .f32) (a b : FVec Ideal S8x1023 .f32) (g : Fin 8) (i : Fin 1023) :
    updates s base a b (ix2 g i) = Ideal.sqrt (max (s (ix2 g i) + Ideal.ofBits .f32 0x3F000000#32 * (min (Ideal.ofBits .f32 0x3F9AE148#32)
      (max (Ideal.ofBits .f32 0x3F23D70A#32) ((base (ix1 g) + Ideal.ofBits .f32 0x40000000#32 * a (ix2 g i)) + Ideal.ofBits .f32 0x40000000#32 * b (ix2 g i)))
      - s (ix2 g i))) (Ideal.ofBits .f32 0x38D1B717#32)) := by
  pointwise [updates]
  rfl

/-- The updated magnitudes of the non-slack nodes, of the arguments. -/
def updatesOf (idx : IVec S8x1023x1 32) (v : FVec Ideal S8192x3 .f32) (x : FVec Ideal S8192x4 .f32) (R X : FVec Ideal S8372232 .f32)
    (base : FVec Ideal S8 .f32) (sy my : FVec Ideal S3 .f32) (sx mx : FVec Ideal S4 .f32) : FVec Ideal S8x1023 .f32 :=
  updates (taken (mulf (magnitudes (rescaled v sy my)) (magnitudes (rescaled v sy my))) idx) base
    (product R (taken (negated 2 slices_S8x1024x4_S8x1024x1_0_0_2 slices_S4_S1_2 x sx mx) idx))
    (product X (taken (negated 3 slices_S8x1024x4_S8x1024x1_0_0_3 slices_S4_S1_3 x sx mx) idx))

/-- The updated magnitude of node `i` of graph `g`, shifted and scaled back, is the corrected value. -/
theorem updatesOf_at (idx : IVec S8x1023x1 32) (hidx : ∀ g j, idx (ix3 g j 0) = BitVec.ofNat 32 (j.val + 1))
    (v : FVec Ideal S8192x3 .f32) (x : FVec Ideal S8192x4 .f32) (R X : FVec Ideal S8372232 .f32)
    (base : FVec Ideal S8 .f32) (sy my : FVec Ideal S3 .f32) (sx mx : FVec Ideal S4 .f32) (g : Fin 8) (i : Fin 1023) :
    Ideal.div (updatesOf idx v x R X base sy my sx mx (ix2 g i) - my (ix1 0)) (sy (ix1 0) + Ideal.ofBits .f32 0x358637BD#32)
      = nodeValue v x R X base sy my sx mx g i := by
  have e2 : ∀ j, taken (negated 2 slices_S8x1024x4_S8x1024x1_0_0_2 slices_S4_S1_2 x sx mx) idx (ix2 g j) = injected x sx mx 2 g j := fun j =>
    (taken_at idx hidx _ g j).trans (negated_at 2 slices_S8x1024x4_S8x1024x1_0_0_2 slices_S4_S1_2 x sx mx g j)
  have e3 : ∀ j, taken (negated 3 slices_S8x1024x4_S8x1024x1_0_0_3 slices_S4_S1_3 x sx mx) idx (ix2 g j) = injected x sx mx 3 g j := fun j =>
    (taken_at idx hidx _ g j).trans (negated_at 3 slices_S8x1024x4_S8x1024x1_0_0_3 slices_S4_S1_3 x sx mx g j)
  have es : taken (mulf (magnitudes (rescaled v sy my)) (magnitudes (rescaled v sy my))) idx (ix2 g i)
      = magnitudes (rescaled v sy my) (ix2 g i.succ) * magnitudes (rescaled v sy my) (ix2 g i.succ) := taken_at idx hidx _ g i
  unfold updatesOf nodeValue injectedSum
  rw [updates_at, es, magnitudes_at, rescaled_at, rowOf_succ, product_at, product_at]
  simp only [e2, e3]
  rw [estimate_eq]
  rfl

/-- The first column after the update: the updates set at the places of the non-slack nodes. -/
def updatedColumn (f : IVec S8184 32) (w : FVec Ideal S8x1024 .f32) (u : FVec Ideal S8x1023 .f32) : FVec Ideal S8x1024 .f32 :=
  shapeCast S8x1024 (Host.scatter scatter_S8192_S8184x1_S8184_n_0_0_1 (fun _ b => b) (shapeCast S8192 w shapeCasts_S8x1024_S8192)
    (scatterIndex f) (shapeCast S8184 u shapeCasts_S8x1023_S8184)) shapeCasts_S8192_S8x1024

/-- The rows after the update: three columns side by side. -/
def threeColumns (u0 u1 u2 : FVec Ideal S8x1024 .f32) : FVec Ideal S8x1024x3 .f32 :=
  concatenate S8x1024x3 2 [⟨S8x1024x1, broadcastInDim S8x1024x1 ![0, 1] bcast_S8x1024_S8x1024x1_0_1 u0⟩,
    ⟨S8x1024x1, broadcastInDim S8x1024x1 ![0, 1] bcast_S8x1024_S8x1024x1_0_1 u1⟩,
    ⟨S8x1024x1, broadcastInDim S8x1024x1 ![0, 1] bcast_S8x1024_S8x1024x1_0_1 u2⟩] concatenates_S8x1024x1_S8x1024x1_S8x1024x1_S8x1024x3_d2

/-- The rows after the update, of the rescaled estimates and the updated first column. -/
def updatedRows (w : FVec Ideal S8x1024x3 .f32) (u : FVec Ideal S8x1024 .f32) : FVec Ideal S8x1024x3 .f32 :=
  threeColumns u (column 1 slices_S8x1024x3_S8x1024x1_0_0_1 w) (column 2 slices_S8x1024x3_S8x1024x1_0_0_2 w)

/-- A column taken as a block of one column. -/
theorem block_at (u : FVec Ideal S8x1024 .f32) (g : Fin 8) (n : Fin 1024) :
    broadcastInDim S8x1024x1 ![0, 1] bcast_S8x1024_S8x1024x1_0_1 u (ix3 g n 0) = u (ix2 g n) := by
  pointwise

/-- Three columns side by side, at an index. -/
theorem threeColumns_at (u0 u1 u2 : FVec Ideal S8x1024 .f32) (g : Fin 8) (n : Fin 1024) (k : Fin 3) :
    threeColumns u0 u1 u2 (ix3 g n k) = (![u0, u1, u2] k) (ix2 g n) := by
  have piece (k : Fin 3) (u : FVec Ideal S8x1024 .f32) (xs : List ((s : Shape) × (s.Idx → EReal)))
      (h : Shape.Concatenates (xs.map (·.1)) S8x1024x3 2) (hk : k.val < xs.length)
      (hxk : xs[k.val] = ⟨S8x1024x1, broadcastInDim S8x1024x1 ![0, 1] bcast_S8x1024_S8x1024x1_0_1 u⟩)
      (hpre : (((xs.take k.val).map (·.1)).map fun s => if h : s.rank = S8x1024x3.rank then s.size ((2 : Fin S8x1024x3.rank).cast h.symm) else 0).sum = k.val) :
      concatenate S8x1024x3 2 xs h (ix3 g n k) = u (ix2 g n) :=
    (concatenate_apply_piece (t := S8x1024x3) 2 xs h (ix3 g n k) k.val hk S8x1024x1 _ hxk rfl k.val hpre (ix3 g n (0 : Fin 1))
      (fun b hb => by
        match b with
        | ⟨0, _⟩ => rfl
        | ⟨1, _⟩ => rfl
        | ⟨2, _⟩ => exact absurd rfl hb) rfl).trans (block_at u g n)
  unfold threeColumns
  match k with
  | ⟨0, _⟩ => exact piece 0 u0 _ _ (show (0 : ℕ) < 3 by decide) rfl rfl
  | ⟨1, _⟩ => exact piece 1 u1 _ _ (show (1 : ℕ) < 3 by decide) rfl rfl
  | ⟨2, _⟩ => exact piece 2 u2 _ _ (show (2 : ℕ) < 3 by decide) rfl rfl

/-- The reference's rows after the update, of the arguments. -/
theorem rows_eq (V0 : Valuation τ sig (Elt Ideal)) : res_main_v95 V0
    = updatedRows (rescaled (V0 (Proc.devRef .tc main_arg0)) (V0 (Proc.devRef .tc main_arg7)) (V0 (Proc.devRef .tc main_arg8)))
      (updatedColumn (flatIndex (res_main_v51 V0))
        (magnitudes (rescaled (V0 (Proc.devRef .tc main_arg0)) (V0 (Proc.devRef .tc main_arg7)) (V0 (Proc.devRef .tc main_arg8))))
        (updatesOf (gatherIndex (res_main_v51 V0)) (V0 (Proc.devRef .tc main_arg0)) (V0 (Proc.devRef .tc main_arg1)) (V0 (Proc.devRef .tc main_arg2))
          (V0 (Proc.devRef .tc main_arg3)) (V0 (Proc.devRef .tc main_arg6)) (V0 (Proc.devRef .tc main_arg7)) (V0 (Proc.devRef .tc main_arg8))
          (V0 (Proc.devRef .tc main_arg9)) (V0 (Proc.devRef .tc main_arg10)))) := rfl

end Cert.ReferenceIdeal.Own

end
-- ==== Proof.Value.RefScatter.lean ====
/-
  The reference's scatter: the first column keeps each graph's slack node's entry, and takes the update at every other node.
-/
module

public import proofs.«01_k».proof.Proof.Value.RefRows

@[expose] public section

set_option maxRecDepth 16384

noncomputable section

namespace Cert.ReferenceIdeal.Own

open Idealize.ShloMosaic Idealize.ShloMosaic.TcCoe Idealize.SL.Sem
open Cert.ReferenceIdeal Cert.ReferenceIdeal.Gen Cert.ReferenceIdeal.Value
open Cert.KernelIdeal.Own (nodeRow)

/-- The place at which an update lands. -/
theorem start_at (idx : IVec S8184x1 32) (n : Fin 8184) (a : Fin 1) :
    (scatter_S8192_S8184x1_S8184_n_0_0_1).start (ix1 n) idx a = (idx (ix2 n 0)).toInt := by
  obtain rfl : a = 0 := Subsingleton.elim _ _
  unfold ScatterDims.start
  rw [dif_pos (show (0 : Fin 1) ∈ (scatter_S8192_S8184x1_S8184_n_0_0_1).scatterDimsToOperandDims from List.mem_singleton.mpr rfl)]
  have hsi : ∀ k, (scatter_S8192_S8184x1_S8184_n_0_0_1).siIdx (ix1 n) k = ix2 n 0 := fun k => by
    funext b
    refine Fin.ext ?_
    match b with
    | ⟨0, _⟩ => rfl
    | ⟨1, _⟩ => exact Nat.lt_one_iff.mp k.isLt
  rw [hsi]

/-- An update is one entry: its window has no extent. -/
theorem window_at (n : Fin 8184) (a : Fin 1) : (scatter_S8192_S8184x1_S8184_n_0_0_1).window (ix1 n) a = 0 := by
  obtain rfl : a = 0 := Subsingleton.elim _ _
  unfold ScatterDims.window
  exact dif_neg (by decide)

/-- An update lands at an entry exactly when its index is the entry's. -/
theorem lands_iff (idx : IVec S8184x1 32) (n : Fin 8184) (x : Fin 8192) (q : ℕ) (hq : q < 2 ^ 31) (e : idx (ix2 n 0) = BitVec.ofNat 32 q) :
    (scatter_S8192_S8184x1_S8184_n_0_0_1).resultIdx? (ix1 n) idx = some (ix1 x) ↔ q = x.val := by
  rw [Routing.resultIdx?_eq_some]
  have e' := toInt_small q hq
  constructor
  · intro h
    have h0 := h 0
    rw [start_at, window_at, e, e'] at h0
    have : (q : ℤ) + 0 = (x.val : ℤ) := h0
    omega
  · intro h a
    rw [start_at, window_at, e, e', h]
    show (x.val : ℤ) + 0 = (((ix1 x : S8192.Idx) a).val : ℤ)
    obtain rfl : a = 0 := Subsingleton.elim _ _
    exact Int.add_zero _

section Places

variable (f : IVec S8184 32)
  (hf : ∀ (g : Fin 8) (j : Fin 1023) (n : Fin 8184), n.val = 1023 * g.val + j.val → f (ix1 n) = BitVec.ofNat 32 (1024 * g.val + 1 + j.val))
include hf

/-- The index of update `n` is that of its graph and node. -/
theorem scatterIndex_word (n : Fin 8184) : scatterIndex f (ix2 n 0) = BitVec.ofNat 32 (1024 * (n.val / 1023) + 1 + n.val % 1023) := by
  have hn := n.isLt
  exact scatterIndex_at f n _ (by omega) (hf ⟨n.val / 1023, by omega⟩ ⟨n.val % 1023, by omega⟩ n (by
    show n.val = 1023 * (n.val / 1023) + n.val % 1023
    omega))

/-- Where update `n` lands. -/
theorem lands (n : Fin 8184) (x : Fin 8192) :
    (scatter_S8192_S8184x1_S8184_n_0_0_1).resultIdx? (ix1 n) (scatterIndex f) = some (ix1 x) ↔ 1024 * (n.val / 1023) + 1 + n.val % 1023 = x.val :=
  lands_iff _ n x _ (by have := n.isLt; omega) (scatterIndex_word f hf n)

/-- At node `j` past the slack node, the updated column has the update. -/
theorem updatedColumn_node (w : FVec Ideal S8x1024 .f32) (u : FVec Ideal S8x1023 .f32) (g : Fin 8) (j : Fin 1023) :
    updatedColumn f w u (ix2 g j.succ) = u (ix2 g j) := by
  have hg := g.isLt
  have hj := j.isLt
  unfold updatedColumn
  rw [shapeCast_apply _ _ (ix2 g j.succ) (ix1 (nodeRow g j)) (by
    rw [Shape.rowMajor_val_two, Shape.rowMajor_val_one]
    show 1024 * g.val + 1 + j.val = g.val * 1024 + (j.val + 1)
    omega)]
  have hu : ∀ n : Fin 8184, n.val = 1023 * g.val + j.val → shapeCast S8184 u shapeCasts_S8x1023_S8184 (ix1 n) = u (ix2 g j) := fun n hn =>
    shapeCast_apply _ _ _ _ (by
      rw [Shape.rowMajor_val_two, Shape.rowMajor_val_one]
      show g.val * 1023 + j.val = n.val
      omega)
  refine Routing.scatter_set_hit _ _ _ _ _ _ (fun k hk => ?_) (ix1 ⟨1023 * g.val + j.val, by omega⟩) ?_
  · have ek : k = ix1 (k 0) := by
      funext a
      obtain rfl : a = 0 := Subsingleton.elim _ _
      rfl
    have hk0 : (k 0).val < 8184 := (k 0).isLt
    rw [ek] at hk ⊢
    have hl := (lands f hf (k 0) (nodeRow g j)).mp hk
    refine hu (k 0) ?_
    have hl' : 1024 * ((k 0).val / 1023) + 1 + (k 0).val % 1023 = 1024 * g.val + 1 + j.val := hl
    omega
  · refine (lands f hf _ _).mpr ?_
    show 1024 * ((1023 * g.val + j.val) / 1023) + 1 + (1023 * g.val + j.val) % 1023 = 1024 * g.val + 1 + j.val
    omega

/-- At the slack node, the updated column has the entry it had. -/
theorem updatedColumn_slack (w : FVec Ideal S8x1024 .f32) (u : FVec Ideal S8x1023 .f32) (g : Fin 8) :
    updatedColumn f w u (ix2 g 0) = w (ix2 g 0) := by
  have hg := g.isLt
  unfold updatedColumn
  rw [shapeCast_apply _ _ (ix2 g 0) (ix1 (⟨1024 * g.val, by omega⟩ : Fin 8192)) (by
    rw [Shape.rowMajor_val_two, Shape.rowMajor_val_one]
    show 1024 * g.val = g.val * 1024 + 0
    omega)]
  refine (Routing.scatter_set_miss _ _ _ _ _ fun k hk => ?_).trans ?_
  · have ek : k = ix1 (k 0) := by
      funext a
      obtain rfl : a = 0 := Subsingleton.elim _ _
      rfl
    have hk0 : (k 0).val < 8184 := (k 0).isLt
    rw [ek] at hk
    have hl : 1024 * ((k 0).val / 1023) + 1 + (k 0).val % 1023 = 1024 * g.val := (lands f hf (k 0) _).mp hk
    omega
  · exact shapeCast_apply _ _ _ _ (by
      rw [Shape.rowMajor_val_two, Shape.rowMajor_val_one]
      show g.val * 1024 + 0 = 1024 * g.val
      omega)

end Places

end Cert.ReferenceIdeal.Own

end
-- ==== Proof.Value.RefResult.lean ====
/-
  The reference's result at every index, in closed form: that of the kernel.
-/
module

public import proofs.«01_k».proof.Proof.Value.RefScatter

@[expose] public section

set_option maxRecDepth 16384

noncomputable section

namespace Cert.ReferenceIdeal.Own

open Idealize.ShloMosaic Idealize.ShloMosaic.TcCoe Idealize.SL.Sem
open Cert.ReferenceIdeal Cert.ReferenceIdeal.Gen Cert.ReferenceIdeal.Value
open Cert.KernelIdeal.Own (nodeRow nodeValue resultAt unscale)

/-- The rows shifted and scaled back. -/
def restored (w : FVec Ideal S8x1024x3 .f32) (sy my : FVec Ideal S3 .f32) : FVec Ideal S8192x3 .f32 :=
  shapeCast S8192x3 (Host.divf (subf w (broadcastInDim S8x1024x3 ![0, 1, 2] bcast_S1x1x3_S8x1024x3_0_1_2 (broadcastInDim S1x1x3 ![2] bcast_S3_S1x1x3_2 my)))
    (broadcastInDim S8x1024x3 ![0, 1, 2] bcast_S1x1x3_S8x1024x3_0_1_2 (broadcastInDim S1x1x3 ![2] bcast_S3_S1x1x3_2
      (addf sy (broadcastInDim S3 ![] bcast_S_S3 (constant S_ .f32 0x358637BD#32)))))) shapeCasts_S8x1024x3_S8192x3

/-- An entry of the rows shifted and scaled back. -/
theorem restored_at (w : FVec Ideal S8x1024x3 .f32) (sy my : FVec Ideal S3 .f32) (g : Fin 8) (n : Fin 1024) (k : Fin 3) :
    restored w sy my (ix2 (rowOf g n) k) = Ideal.div (w (ix3 g n k) - my (ix1 k)) (sy (ix1 k) + Ideal.ofBits .f32 0x358637BD#32) := by
  unfold restored
  rw [shapeCast_apply _ _ (ix2 (rowOf g n) k) (ix3 g n k) (by
    rw [Shape.rowMajor_val_two, Shape.rowMajor_val_three]
    show (g.val * 1024 + n.val) * 3 + k.val = (1024 * g.val + n.val) * 3 + k.val
    omega)]
  pointwise

/-- Every scale, the small constant added, is a real number other than zero. -/
def ScalesReal (sy : FVec Ideal S3 .f32) : Prop := ∀ k : Fin 3, ∃ r : ℝ, r ≠ 0 ∧ sy (ix1 k) + Ideal.ofBits .f32 0x358637BD#32 = (r : EReal)

/-- Every mean is a real number. -/
def MeansReal (my : FVec Ideal S3 .f32) : Prop := ∀ k : Fin 3, ∃ r : ℝ, my (ix1 k) = (r : EReal)

/-- The result in closed form, from the updated column's entries. -/
theorem restored_rows (v : FVec Ideal S8192x3 .f32) (x : FVec Ideal S8192x4 .f32) (R X : FVec Ideal S8372232 .f32)
    (base : FVec Ideal S8 .f32) (sy my : FVec Ideal S3 .f32) (sx mx : FVec Ideal S4 .f32)
    (hs : ScalesReal sy) (hm : MeansReal my)
    (u : FVec Ideal S8x1024 .f32) (h0 : ∀ g, u (ix2 g 0) = magnitudes (rescaled v sy my) (ix2 g 0))
    (hu : ∀ (g : Fin 8) (i : Fin 1023), Ideal.div (u (ix2 g i.succ) - my (ix1 0)) (sy (ix1 0) + Ideal.ofBits .f32 0x358637BD#32)
      = nodeValue v x R X base sy my sx mx g i)
    (g : Fin 8) (n : Fin 1024) (k : Fin 3) :
    restored (updatedRows (rescaled v sy my) u) sy my (ix2 (rowOf g n) k) = resultAt v x R X base sy my sx mx g n k := by
  have hn := n.isLt
  have back : ∀ k : Fin 3, Ideal.div (rescaled v sy my (ix3 g n k) - my (ix1 k)) (sy (ix1 k) + Ideal.ofBits .f32 0x358637BD#32) = v (ix2 (rowOf g n) k) := fun k => by
    rw [rescaled_at]
    exact unscale _ _ _ (hs k) (hm k)
  rw [restored_at]
  unfold resultAt updatedRows
  rw [threeColumns_at]
  match k with
  | ⟨0, _⟩ =>
    by_cases h1 : 1 ≤ n.val
    · rw [dif_pos ⟨h1, rfl⟩]
      obtain ⟨i, rfl⟩ : ∃ i : Fin 1023, n = i.succ := ⟨⟨n.val - 1, by omega⟩, Fin.ext (by show n.val = n.val - 1 + 1; omega)⟩
      exact hu g i
    · obtain rfl : n = 0 := Fin.ext (by show n.val = 0; omega)
      rw [dif_neg fun h => h1 h.1]
      refine Eq.trans ?_ (back 0)
      rw [← magnitudes_at (rescaled v sy my), ← h0]
      rfl
  | ⟨1, _⟩ =>
    rw [dif_neg fun h => absurd h.2 (show ¬ (1 : ℕ) = 0 by decide)]
    refine Eq.trans ?_ (back 1)
    rw [← column_at 1 slices_S8x1024x3_S8x1024x1_0_0_1 (rescaled v sy my)]
    rfl
  | ⟨2, _⟩ =>
    rw [dif_neg fun h => absurd h.2 (show ¬ (2 : ℕ) = 0 by decide)]
    refine Eq.trans ?_ (back 2)
    rw [← column_at 2 slices_S8x1024x3_S8x1024x1_0_0_2 (rescaled v sy my)]
    rfl

/-- The reference's result at graph `g`, node `n` and column `k`. -/
theorem reference_result (V0 : Valuation τ sig (Elt Ideal)) (h : SlackFirst V0)
    (hs : ScalesReal (V0 (Proc.devRef .tc main_arg7))) (hm : MeansReal (V0 (Proc.devRef .tc main_arg8)))
    (g : Fin 8) (n : Fin 1024) (k : Fin 3) :
    restored (res_main_v95 V0) (V0 (Proc.devRef .tc main_arg7)) (V0 (Proc.devRef .tc main_arg8)) (ix2 (rowOf g n) k)
      = resultAt (V0 (Proc.devRef .tc main_arg0)) (V0 (Proc.devRef .tc main_arg1)) (V0 (Proc.devRef .tc main_arg2))
        (V0 (Proc.devRef .tc main_arg3)) (V0 (Proc.devRef .tc main_arg6)) (V0 (Proc.devRef .tc main_arg7))
        (V0 (Proc.devRef .tc main_arg8)) (V0 (Proc.devRef .tc main_arg9)) (V0 (Proc.devRef .tc main_arg10)) g n k := by
  have hf : ∀ (g : Fin 8) (j : Fin 1023) (n : Fin 8184), n.val = 1023 * g.val + j.val →
      flatIndex (res_main_v51 V0) (ix1 n) = BitVec.ofNat 32 (1024 * g.val + 1 + j.val) := fun g j n hn => flatIndex_at _ g j (nonSlack_at V0 h g j) n hn
  have hidx : ∀ (g : Fin 8) (j : Fin 1023), gatherIndex (res_main_v51 V0) (ix3 g j 0) = BitVec.ofNat 32 (j.val + 1) := fun g j =>
    gatherIndex_at _ g j (nonSlack_at V0 h g j)
  rw [rows_eq]
  refine restored_rows _ _ _ _ _ _ _ _ _ hs hm _ (fun g => updatedColumn_slack _ hf _ _ g) (fun g i => ?_) g n k
  rw [updatedColumn_node _ hf]
  exact updatesOf_at _ hidx _ _ _ _ _ _ _ _ _ g i

end Cert.ReferenceIdeal.Own

end
-- ==== Proof.Value.Pre.lean ====
/-
  What the precondition says: every graph's slack node is its first; the scales and the means of the estimates are finite;
  a scale plus the small constant is not zero.
-/
module

public import proofs.«01_k».proof.Pre_slack_first
public import proofs.«01_k».proof.Proof.Value.Consts
public import Idealize.ShloMosaic.Lib.Pointwise

@[expose] public section

set_option maxRecDepth 16384

noncomputable section

namespace Cert.Pre_slack_first.Own

open Idealize.ShloMosaic
open Cert.Pre_slack_first Cert.Pre_slack_first.Facts
open Cert.KernelIdeal.Own (top_value bot_value scale_real)

/-- The side conditions of the precondition's operations. -/
theorem facts : Cert.Pre_slack_first.Facts where
  bcast_S_S3 := by decide
  bcast_S_S8 := by decide
  bcast_S8_S8x1_0 := by decide
  bcast_S3_S1x3_1 := by decide
  bcast_S8x1_S8x3_0_1 := by decide
  bcast_S1x3_S8x3_0_1 := by decide

variable [Facts]

/-- A conjunction of two bits is one where both are. -/
theorem andi_one : ∀ a b : BitVec 1, IntOp.andi a b = 1#1 → a = 1#1 ∧ b = 1#1 := by decide

/-- The precondition at a graph and a column, as one bit. -/
theorem fn_at (x0 : FVec Ideal S8192x3 .f32) (x1 : FVec Ideal S8192x4 .f32) (x2 x3 : FVec Ideal S8372232 .f32) (x4 : IVec S9 32) (x5 : IVec S8 32)
    (x6 : FVec Ideal S8 .f32) (x7 x8 : FVec Ideal S3 .f32) (x9 x10 : FVec Ideal S4 .f32) (g : Fin 8) (k : Fin 3) :
    fn (F := Ideal) x0 x1 x2 x3 x4 x5 x6 x7 x8 x9 x10 (ix2 g k)
      = IntOp.andi (IntOp.cmpi .eq (x5 (ix1 g)) 0#32)
        (IntOp.andi (IntOp.andi (IntOp.andi (IntOp.andi
            (Ideal.cmp .une (x7 (ix1 k) + Ideal.ofBits .f32 0x358637BD#32) (Ideal.ofBits .f32 0x00000000#32))
            (Ideal.cmp .ogt (x7 (ix1 k)) (Ideal.ofBits .f32 0xFF800000#32)))
            (Ideal.cmp .olt (x7 (ix1 k)) (Ideal.ofBits .f32 0x7F800000#32)))
            (Ideal.cmp .ogt (x8 (ix1 k)) (Ideal.ofBits .f32 0xFF800000#32)))
            (Ideal.cmp .olt (x8 (ix1 k)) (Ideal.ofBits .f32 0x7F800000#32))) := by
  have e1 : ∀ (a : IVec S8 1), broadcastInDim S8x3 ![0, 1] bcast_S8x1_S8x3_0_1 (broadcastInDim S8x1 ![0] bcast_S8_S8x1_0 a) (ix2 g k) = a (ix1 g) := fun a => by
    pointwise
  have e2 : ∀ (b : IVec S3 1), broadcastInDim S8x3 ![0, 1] bcast_S1x3_S8x3_0_1 (broadcastInDim S1x3 ![1] bcast_S3_S1x3_1 b) (ix2 g k) = b (ix1 k) := fun b => by
    pointwise
  unfold fn fn_part1
  show IntOp.andi (broadcastInDim S8x3 ![0, 1] bcast_S8x1_S8x3_0_1 (broadcastInDim S8x1 ![0] bcast_S8_S8x1_0 (_ : IVec S8 1)) (ix2 g k))
    (broadcastInDim S8x3 ![0, 1] bcast_S1x3_S8x3_0_1 (broadcastInDim S1x3 ![1] bcast_S3_S1x3_1 (_ : IVec S3 1)) (ix2 g k)) = _
  rw [e1, e2]
  rfl

/-- What the precondition says of a graph and a column. -/
theorem fn_says (x0 : FVec Ideal S8192x3 .f32) (x1 : FVec Ideal S8192x4 .f32) (x2 x3 : FVec Ideal S8372232 .f32) (x4 : IVec S9 32) (x5 : IVec S8 32)
    (x6 : FVec Ideal S8 .f32) (x7 x8 : FVec Ideal S3 .f32) (x9 x10 : FVec Ideal S4 .f32)
    (h : fn (F := Ideal) x0 x1 x2 x3 x4 x5 x6 x7 x8 x9 x10 = fun _ => 1#1) (g : Fin 8) (k : Fin 3) :
    x5 (ix1 g) = 0#32 ∧ (∃ r : ℝ, r ≠ 0 ∧ x7 (ix1 k) + Ideal.ofBits .f32 0x358637BD#32 = (r : EReal)) ∧ ∃ r : ℝ, x8 (ix1 k) = (r : EReal) := by
  have hb := (fn_at x0 x1 x2 x3 x4 x5 x6 x7 x8 x9 x10 g k).symm.trans (congrFun h (ix2 g k))
  obtain ⟨h5, hb⟩ := andi_one _ _ hb
  obtain ⟨hb, m2⟩ := andi_one _ _ hb
  obtain ⟨hb, m1⟩ := andi_one _ _ hb
  obtain ⟨hb, s2⟩ := andi_one _ _ hb
  obtain ⟨s0, s1⟩ := andi_one _ _ hb
  have bit : ∀ b : Bool, BitVec.ofBool b = 1#1 → b = true := by decide
  rw [bot_value, Ideal.cmp_ogt] at s1 m1
  rw [top_value, Ideal.cmp_olt] at s2 m2
  rw [Ideal.ofBits_zero_f32, Ideal.cmp_une] at s0
  have s1 := of_decide_eq_true (bit _ s1)
  have s2 := of_decide_eq_true (bit _ s2)
  have m1 := of_decide_eq_true (bit _ m1)
  have m2 := of_decide_eq_true (bit _ m2)
  have s0 := of_decide_eq_true (bit _ s0)
  have h5 : (x5 (ix1 g) == 0#32) = true := bit _ h5
  refine ⟨eq_of_beq h5, scale_real _ (ne_of_gt s1) (ne_of_lt s2) s0, ?_⟩
  exact ⟨(x8 (ix1 k)).toReal, (EReal.coe_toReal (ne_of_lt m2) (ne_of_gt m1)).symm⟩

end Cert.Pre_slack_first.Own

end
-- ==== Proof.Value.Equation.lean ====
/-
  The equation: from memories that agree on the arguments, and that the precondition admits, the kernel's result is the reference's.
-/
module

public import proofs.«01_k».proof.Proof.Value.KernelResult
public import proofs.«01_k».proof.Proof.Value.RefResult
public import proofs.«01_k».proof.Proof.Value.Pre

@[expose] public section

set_option maxRecDepth 16384

noncomputable section

namespace Cert.Equation

open Idealize.ShloMosaic Idealize.ShloMosaic.TcCoe Idealize.SL.Sem
open Cert.ReferenceIdeal.Own (SlackFirst ScalesReal MeansReal rowOf restored reference_result)
open Cert.KernelIdeal.Own (kernel_result)

/-- Two arrays of all nodes that agree at every graph, node and column are equal. -/
theorem by_rows {α : Type} (a b : Cert.KernelIdeal.S8192x3.Idx → α)
    (h : ∀ (g : Fin 8) (n : Fin 1024) (k : Fin 3), a (ix2 (rowOf g n) k) = b (ix2 (rowOf g n) k)) : a = b := by
  funext i
  have h0 : (i 0).val < 8192 := (i 0).isLt
  have ei : i = ix2 (rowOf ⟨(i 0).val / 1024, by omega⟩ ⟨(i 0).val % 1024, by omega⟩) (i 1) := by
    funext a
    refine Fin.ext ?_
    match a with
    | ⟨0, _⟩ => show (i 0).val = 1024 * ((i 0).val / 1024) + (i 0).val % 1024; omega
    | ⟨1, _⟩ => rfl
  rw [ei]
  exact h _ _ _

/-- The kernel's result is the reference's. -/
theorem results_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (hslack : SlackFirst V0) (hs : ScalesReal (V0 (Proc.devRef .tc Cert.ReferenceIdeal.main_arg7))) (hm : MeansReal (V0 (Proc.devRef .tc Cert.ReferenceIdeal.main_arg8)))
    (e0 : V0 (Proc.devRef .tc Cert.ReferenceIdeal.main_arg0) = m ((c : Thread Cert.KernelIdeal.nD Cert.KernelIdeal.τ).loc Cert.KernelIdeal.main_arg0))
    (e1 : V0 (Proc.devRef .tc Cert.ReferenceIdeal.main_arg1) = m ((c : Thread Cert.KernelIdeal.nD Cert.KernelIdeal.τ).loc Cert.KernelIdeal.main_arg1))
    (e2 : V0 (Proc.devRef .tc Cert.ReferenceIdeal.main_arg2) = m ((c : Thread Cert.KernelIdeal.nD Cert.KernelIdeal.τ).loc Cert.KernelIdeal.main_arg2))
    (e3 : V0 (Proc.devRef .tc Cert.ReferenceIdeal.main_arg3) = m ((c : Thread Cert.KernelIdeal.nD Cert.KernelIdeal.τ).loc Cert.KernelIdeal.main_arg3))
    (e6 : V0 (Proc.devRef .tc Cert.ReferenceIdeal.main_arg6) = m ((c : Thread Cert.KernelIdeal.nD Cert.KernelIdeal.τ).loc Cert.KernelIdeal.main_arg6))
    (e7 : V0 (Proc.devRef .tc Cert.ReferenceIdeal.main_arg7) = m ((c : Thread Cert.KernelIdeal.nD Cert.KernelIdeal.τ).loc Cert.KernelIdeal.main_arg7))
    (e8 : V0 (Proc.devRef .tc Cert.ReferenceIdeal.main_arg8) = m ((c : Thread Cert.KernelIdeal.nD Cert.KernelIdeal.τ).loc Cert.KernelIdeal.main_arg8))
    (e9 : V0 (Proc.devRef .tc Cert.ReferenceIdeal.main_arg9) = m ((c : Thread Cert.KernelIdeal.nD Cert.KernelIdeal.τ).loc Cert.KernelIdeal.main_arg9))
    (e10 : V0 (Proc.devRef .tc Cert.ReferenceIdeal.main_arg10) = m ((c : Thread Cert.KernelIdeal.nD Cert.KernelIdeal.τ).loc Cert.KernelIdeal.main_arg10)) :
    restored (Cert.ReferenceIdeal.Value.res_main_v95 V0) (V0 (Proc.devRef .tc Cert.ReferenceIdeal.main_arg7)) (V0 (Proc.devRef .tc Cert.ReferenceIdeal.main_arg8))
      = Cert.KernelIdeal.Own.tail m (Cert.KernelIdeal.Own.dats m) c Cert.KernelIdeal.main_v0 :=
  by_rows _ _ fun g n k => by
    refine (reference_result V0 hslack hs hm g n k).trans (Eq.trans ?_ (kernel_result m c g n k (rowOf g n) rfl).symm)
    rw [e0, e1, e2, e3, e6, e7, e8, e9, e10]

end Cert.Equation

end
-- ==== Proof.lean ====
/-
  The certificate of the power-flow correction kernel: it assembles what the other modules state.
  `KernelFrame/` and `IdealFrame/` run the kernel as printed and idealized (termination, arguments unchanged,
  counters at zero); the reference launches no kernel and has no semaphores, so its run leaves none above zero.
  `Value/` computes both results and shows them equal where the precondition holds.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame.Frame
public import proofs.«01_k».proof.Proof.IdealFrame.Frame
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_slack_first.Own.facts

/-- The reference runs, its arguments unchanged and every counter at zero. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

/-- From memories that agree on the arguments, and that the precondition admits, the kernel and the reference run and leave equal results. -/
theorem algebraic : Cert.algebraic_KernelIdeal_ReferenceIdeal_pre_slack_first := by
  intro m g m' g' hpre hargs
  refine ⟨fun c => Cert.KernelIdeal.Own.tail m (Cert.KernelIdeal.Own.dats m) c Cert.KernelIdeal.main_v0,
    (θ_run _ _ _).mono (fun r h c => ⟨(h c).2 Cert.KernelIdeal.main_v0 (Pipeline.mem_restRefs_of _ (by decide) (by decide)),
      Cert.KernelIdeal.Own.args_kept m (Cert.KernelIdeal.Own.dats m) (Cert.KernelIdeal.Own.A_eq m) r h c⟩) (Cert.KernelIdeal.Own.run_main m g),
    (θ_run _ _ _).mono (fun r h c => ⟨(h c).1.trans ?_, (h c).2⟩) (Cert.ReferenceIdeal.Value.run m' g')⟩
  have e := hargs c
  have hp := fun g k => Cert.Pre_slack_first.Own.fn_says _ _ _ _ _ _ _ _ _ _ _ (hpre c) g k
  exact Cert.Equation.results_eq m c (StableHlo.launchContents m' c)
    (fun g => (congrFun e.2.2.2.2.2.1 (ix1 g)).trans (hp g 0).1)
    (fun k => by
      obtain ⟨r, hr, h⟩ := (hp 0 k).2.1
      exact ⟨r, hr, Eq.trans (congrArg (fun s : EReal => s + Ideal.ofBits .f32 0x358637BD#32) (congrFun e.2.2.2.2.2.2.2.1 (ix1 k))) h⟩)
    (fun k => by
      obtain ⟨r, h⟩ := (hp 0 k).2.2
      exact ⟨r, (congrFun e.2.2.2.2.2.2.2.2.1 (ix1 k)).trans h⟩)
    e.1 e.2.1 e.2.2.1 e.2.2.2.1 e.2.2.2.2.2.2.1 e.2.2.2.2.2.2.2.1 e.2.2.2.2.2.2.2.2.1 e.2.2.2.2.2.2.2.2.2.1 e.2.2.2.2.2.2.2.2.2.2

/-- Every claim of the certificate. -/
theorem claim : Cert.Claim :=
  ⟨Cert.Kernel.Gen.facts, Cert.KernelIdeal.Gen.facts, Cert.ReferenceIdeal.Gen.facts, Cert.Pre_slack_first.Own.facts,
    fun m g _ => Cert.Kernel.Own.frame m g,
    fun m g _ => Cert.KernelIdeal.Own.frame m g,
    fun m g _ => Cert.KernelIdeal.Own.frame m g,
    reference_frame,
    fun m g _ => reference_frame m g trivial,
    trivial,
    algebraic⟩

end Cert.Proof

end
